-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .bf16 0x3E39#16 (((8 * (Real.log 2))⁻¹ : ℝ) : EReal)

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 2, 64]⟩ ⟨4, ![2, 16384, 2, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 2, 64]⟩ ⟨4, ![2, 16384, 2, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x768 : Shape := ⟨3, ![2, 256, 768]⟩
abbrev S768x512 : Shape := ⟨2, ![768, 512]⟩
abbrev S2x512x2x64 : Shape := ⟨4, ![2, 512, 2, 64]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x2x64 : S_.BroadcastsInDim S2x512x2x64 (![] : Fin 0 → Fin S2x512x2x64.rank)
  reducesTo_S2x512x2x64_S_d0_1_2_3 : S2x512x2x64.ReducesTo [0, 1, 2, 3] S_

variable [Facts]

def fn {F : FTy → Type} [FloatOps F] (main_arg0 : FVec F S2x256x768 .bf16) (main_arg1 : FVec F S768x512 .bf16) (main_arg2 : FVec F S2x512x2x64 .bf16) (main_arg3 : FVec F S2x512x2x64 .bf16) (main_arg4 : FVec F S512x768 .bf16) : IVec S_ 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x2x64 .bf16 := Host.absf main_arg2
  let main_cst_2 : FVec F S_ .bf16 := constant S_ .bf16 0x7F80#16
  let main_v10 : FVec F S2x512x2x64 .bf16 := broadcastInDim S2x512x2x64 ![] bcast_S_S2x512x2x64 main_cst_2
  let main_v11 : IVec S2x512x2x64 1 := cmpf .olt main_v9 main_v10
  let main_c_3 : IVec S_ 1 := constantI S_ 1 1#1
  let main_v12 : IVec S_ 1 := (fun x v => Host.reduce IntOp.andi x v reducesTo_S2x512x2x64_S_d0_1_2_3 h_S_) main_v11 main_c_3
  let main_v13 : IVec S_ 1 := andi main_v8 main_v12
  main_v13
-- ==== Pre_scores_finite_ReferenceIdeal.lean ====
abbrev S2x256x768 : Shape := ⟨3, ![2, 256, 768]⟩
abbrev S768x512 : Shape := ⟨2, ![768, 512]⟩
abbrev S2x16384x2x64 : Shape := ⟨4, ![2, 16384, 2, 64]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x16384x2x64 : S_.BroadcastsInDim S2x16384x2x64 (![] : Fin 0 → Fin S2x16384x2x64.rank)
  reducesTo_S2x16384x2x64_S_d0_1_2_3 : S2x16384x2x64.ReducesTo [0, 1, 2, 3] S_

variable [Facts]

def fn {F : FTy → Type} [FloatOps F] (main_arg0 : FVec F S2x256x768 .bf16) (main_arg1 : FVec F S768x512 .bf16) (main_arg2 : FVec F S2x16384x2x64 .bf16) (main_arg3 : FVec F S2x16384x2x64 .bf16) (main_arg4 : FVec F S512x768 .bf16) : IVec S_ 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x16384x2x64 .bf16 := Host.absf main_arg2
  let main_cst_2 : FVec F S_ .bf16 := constant S_ .bf16 0x7F80#16
  let main_v10 : FVec F S2x16384x2x64 .bf16 := broadcastInDim S2x16384x2x64 ![] bcast_S_S2x16384x2x64 main_cst_2
  let main_v11 : IVec S2x16384x2x64 1 := cmpf .olt main_v9 main_v10
  let main_c_3 : IVec S_ 1 := constantI S_ 1 1#1
  let main_v12 : IVec S_ 1 := (fun x v => Host.reduce IntOp.andi x v reducesTo_S2x16384x2x64_S_d0_1_2_3 h_S_) main_v11 main_c_3
  let main_v13 : IVec S_ 1 := andi main_v8 main_v12
  main_v13
-- ==== Kernel.lean ====
abbrev S2x256x768 : Shape := ⟨3, ![2, 256, 768]⟩
abbrev S768x512 : Shape := ⟨2, ![768, 512]⟩
abbrev S2x512x2x64 : Shape := ⟨4, ![2, 512, 2, 64]⟩
abbrev S512x768 : Shape := ⟨2, ![512, 768]⟩
abbrev S2x256x512 : Shape := ⟨3, ![2, 256, 512]⟩
abbrev S2x256x576 : Shape := ⟨3, ![2, 256, 576]⟩
abbrev S2x8x32x576 : Shape := ⟨4, ![2, 8, 32, 576]⟩
abbrev S2x4x8x576 : Shape := ⟨4, ![2, 4, 8, 576]⟩
abbrev S2x8 : Shape := ⟨2, ![2, 8]⟩
abbrev S2x4 : Shape := ⟨2, ![2, 4]⟩
abbrev S_ : Shape := ⟨0, ![]⟩
abbrev S512x512 : Shape := ⟨2, ![512, 512]⟩
abbrev S512x8 : Shape := ⟨2, ![512, 8]⟩
abbrev S1x512x1x64 : Shape := ⟨4, ![1, 512, 1, 64]⟩
abbrev S512x64 : Shape := ⟨2, ![512, 64]⟩
abbrev S512x72 : Shape := ⟨2, ![512, 72]⟩
abbrev S1x256x64 : Shape := ⟨3, ![1, 256, 64]⟩
abbrev S256x64 : Shape := ⟨2, ![256, 64]⟩
abbrev S256x512 : Shape := ⟨2, ![256, 512]⟩
abbrev S256x72 : Shape := ⟨2, ![256, 72]⟩
abbrev S1x256x72 : Shape := ⟨3, ![1, 256, 72]⟩
abbrev S1x256x576 : Shape := ⟨3, ![1, 256, 576]⟩
abbrev S256x576 : Shape := ⟨2, ![256, 576]⟩
abbrev S1x1 : Shape := ⟨2, ![1, 1]⟩
abbrev S1x1x32x576 : Shape := ⟨4, ![1, 1, 32, 576]⟩
abbrev S32x576 : Shape := ⟨2, ![32, 576]⟩
abbrev S1x32x576 : Shape := ⟨3, ![1, 32, 576]⟩
abbrev S1x1x8x576 : Shape := ⟨4, ![1, 1, 8, 576]⟩
abbrev S8x576 : Shape := ⟨2, ![8, 576]⟩
abbrev S1x8x576 : Shape := ⟨3, ![1, 8, 576]⟩
abbrev S1x8x64 : Shape := ⟨3, ![1, 8, 64]⟩
abbrev S8x64 : Shape := ⟨2, ![8, 64]⟩
abbrev S1x8x1 : Shape := ⟨3, ![1, 8, 1]⟩
abbrev S8x1 : Shape := ⟨2, ![8, 1]⟩
abbrev S1x8x512 : Shape := ⟨3, ![1, 8, 512]⟩
abbrev S8x512 : Shape := ⟨2, ![8, 512]⟩
abbrev S1x32x512 : Shape := ⟨3, ![1, 32, 512]⟩
abbrev S32x512 : Shape := ⟨2, ![32, 512]⟩
abbrev S1x256x512 : Shape := ⟨3, ![1, 256, 512]⟩
abbrev S256x768 : Shape := ⟨2, ![256, 768]⟩
abbrev S1x256x768 : Shape := ⟨3, ![1, 256, 768]⟩

abbrev nBuf : Space → Nat
  | .hbm => 6
  | .vmem => 12
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x512x2x64, .bf16⟩
  | .hbm, ⟨3, _⟩ => ⟨S2x512x2x64, .bf16⟩
  | .hbm, ⟨4, _⟩ => ⟨S512x768, .bf16⟩
  | .hbm, ⟨5, _⟩ => ⟨S2x256x768, .f32⟩
  | .local _ .vmem, ⟨0, _⟩ => ⟨S2x256x768, .bf16⟩
  | .local _ .vmem, ⟨1, _⟩ => ⟨S768x512, .bf16⟩
  | .local _ .vmem, ⟨2, _⟩ => ⟨S512x768, .bf16⟩
  | .local _ .vmem, ⟨3, _⟩ => ⟨S2x512x2x64, .bf16⟩
  | .local _ .vmem, ⟨4, _⟩ => ⟨S2x512x2x64, .bf16⟩
  | .local _ .vmem, ⟨5, _⟩ => ⟨S2x256x768, .f32⟩
  | .local _ .vmem, ⟨6, _⟩ => ⟨S2x256x512, .bf16⟩
  | .local _ .vmem, ⟨7, _⟩ => ⟨S2x256x576, .f32⟩
  | .local _ .vmem, ⟨8, _⟩ => ⟨S2x256x576, .bf16⟩
  | .local _ .vmem, ⟨9, _⟩ => ⟨S2x8x32x576, .bf16⟩
  | .local _ .vmem, ⟨10, _⟩ => ⟨S2x4x8x576, .bf16⟩
  | .local _ .vmem, ⟨11, _⟩ => ⟨S2x256x512, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_2 : BitVec 32 := 1#32
  let v14 : BitVec 32 := Scalar.muli v3 c1_i32_2
  let v15 : BitVec 32 := Scalar.addi c0_i32 v14
  v15.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v4 : BitVec 32 := Scalar.xori v2 c2_i32
  let c1_i32_4 : BitVec 32 := 1#32
  let v16 : BitVec 32 := Scalar.muli v4 c1_i32_4
  let v17 : BitVec 32 := Scalar.addi c0_i32_5 v16
  v17.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v5 : BitVec 32 := Scalar.xori v2 c3_i32
  let c1_i32_7 : BitVec 32 := 1#32
  let v18 : BitVec 32 := Scalar.muli v5 c1_i32_7
  let v19 : BitVec 32 := Scalar.addi c0_i32_8 v18
  v19.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v6 : BitVec 32 := Scalar.xori v2 c4_i32
  let c1_i32_10 : BitVec 32 := 1#32
  let v20 : BitVec 32 := Scalar.muli v6 c1_i32_10
  let v21 : BitVec 32 := Scalar.addi c0_i32_11 v20
  v21.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v7 : BitVec 32 := Scalar.xori v2 c5_i32
  let c1_i32_13 : BitVec 32 := 1#32
  let v22 : BitVec 32 := Scalar.muli v7 c1_i32_13
  let v23 : BitVec 32 := Scalar.addi c0_i32_14 v22
  v23.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v8 : BitVec 32 := Scalar.xori v2 c6_i32
  let c1_i32_16 : BitVec 32 := 1#32
  let v24 : BitVec 32 := Scalar.muli v8 c1_i32_16
  let v25 : BitVec 32 := Scalar.addi c0_i32_17 v24
  v25.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v9 : BitVec 32 := Scalar.xori v2 c7_i32
  let c1_i32_19 : BitVec 32 := 1#32
  let v26 : BitVec 32 := Scalar.muli v9 c1_i32_19
  let v27 : BitVec 32 := Scalar.addi c0_i32_20 v26
  v27.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v10 : BitVec 32 := Scalar.xori v2 c8_i32
  let c1_i32_22 : BitVec 32 := 1#32
  let v28 : BitVec 32 := Scalar.muli v10 c1_i32_22
  let v29 : BitVec 32 := Scalar.addi c0_i32_23 v28
  v29.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v11 : BitVec 32 := Scalar.xori v2 c16_i32
  let c1_i32_25 : BitVec 32 := 1#32
  let v30 : BitVec 32 := Scalar.muli v11 c1_i32_25
  let v31 : BitVec 32 := Scalar.addi c0_i32_26 v30
  v31.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v12 : BitVec 32 := Scalar.xori v2 c24_i32
  let c1_i32_28 : BitVec 32 := 1#32
  let v32 : BitVec 32 := Scalar.muli v12 c1_i32_28
  let v33 : BitVec 32 := Scalar.addi c0_i32_29 v32
  v33.toNat
def k0_off1 (d0 : Dev nD) (c1_i32_117 : BitVec 32) : Fin 3 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v149 : BitVec 32 := Scalar.xori v2 c1_i32_117
  let c7_i32_118 : BitVec 32 := 7#32
  let v150 : BitVec 32 := Scalar.andi v149 c7_i32_118
  let c32_i32_119 : BitVec 32 := 32#32
  let v151 : BitVec 32 := Scalar.muli v150 c32_i32_119
  let c0_i32_131 : BitVec 32 := 0#32
  ![0, v151.toNat, 0]
def k0_dev11 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_117 : BitVec 32 := 1#32
  let v149 : BitVec 32 := Scalar.xori v2 c1_i32_117
  let c1_i32_127 : BitVec 32 := 1#32
  let v152 : BitVec 32 := Scalar.muli v149 c1_i32_127
  let v153 : BitVec 32 := Scalar.addi c0_i32_128 v152
  v153.toNat
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_132 : BitVec 32 := 2#32
  let v162 : BitVec 32 := Scalar.xori v2 c2_i32_132
  let c1_i32_142 : BitVec 32 := 1#32
  let v165 : BitVec 32 := Scalar.muli v162 c1_i32_142
  let v166 : BitVec 32 := Scalar.addi c0_i32_143 v165
  v166.toNat
def k0_dev13 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_147 : BitVec 32 := 3#32
  let v175 : BitVec 32 := Scalar.xori v2 c3_i32_147
  let c1_i32_157 : BitVec 32 := 1#32
  let v178 : BitVec 32 := Scalar.muli v175 c1_i32_157
  let v179 : BitVec 32 := Scalar.addi c0_i32_158 v178
  v179.toNat
def k0_dev14 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_162 : BitVec 32 := 4#32
  let v188 : BitVec 32 := Scalar.xori v2 c4_i32_162
  let c1_i32_172 : BitVec 32 := 1#32
  let v191 : BitVec 32 := Scalar.muli v188 c1_i32_172
  let v192 : BitVec 32 := Scalar.addi c0_i32_173 v191
  v192.toNat
def k0_dev15 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_177 : BitVec 32 := 5#32
  let v201 : BitVec 32 := Scalar.xori v2 c5_i32_177
  let c1_i32_187 : BitVec 32 := 1#32
  let v204 : BitVec 32 := Scalar.muli v201 c1_i32_187
  let v205 : BitVec 32 := Scalar.addi c0_i32_188 v204
  v205.toNat
def k0_dev16 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_192 : BitVec 32 := 6#32
  let v214 : BitVec 32 := Scalar.xori v2 c6_i32_192
  let c1_i32_202 : BitVec 32 := 1#32
  let v217 : BitVec 32 := Scalar.muli v214 c1_i32_202
  let v218 : BitVec 32 := Scalar.addi c0_i32_203 v217
  v218.toNat
def k0_dev17 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_207 : BitVec 32 := 7#32
  let v227 : BitVec 32 := Scalar.xori v2 c7_i32_207
  let c1_i32_217 : BitVec 32 := 1#32
  let v230 : BitVec 32 := Scalar.muli v227 c1_i32_217
  let v231 : BitVec 32 := Scalar.addi c0_i32_218 v230
  v231.toNat
def k0_off2 (d0 : Dev nD) (c1_i32_308 : BitVec 32) : Fin 3 → Nat :=
  let c1_i32_311 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v328 : BitVec 32 := Scalar.xori v2 c1_i32_308
  let c7_i32_309 : BitVec 32 := 7#32
  let v329 : BitVec 32 := Scalar.andi v328 c7_i32_309
  let c32_i32_310 : BitVec 32 := 32#32
  let v330 : BitVec 32 := Scalar.muli v329 c32_i32_310
  let c0_i32_322 : BitVec 32 := 0#32
  ![1, v330.toNat, 0]
def k0_dev18 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_308 : BitVec 32 := 1#32
  let v328 : BitVec 32 := Scalar.xori v2 c1_i32_308
  let c1_i32_318 : BitVec 32 := 1#32
  let v331 : BitVec 32 := Scalar.muli v328 c1_i32_318
  let v332 : BitVec 32 := Scalar.addi c0_i32_319 v331
  v332.toNat
def k0_dev19 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_323 : BitVec 32 := 2#32
  let v341 : BitVec 32 := Scalar.xori v2 c2_i32_323
  let c1_i32_333 : BitVec 32 := 1#32
  let v344 : BitVec 32 := Scalar.muli v341 c1_i32_333
  let v345 : BitVec 32 := Scalar.addi c0_i32_334 v344
  v345.toNat
def k0_dev20 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_338 : BitVec 32 := 3#32
  let v354 : BitVec 32 := Scalar.xori v2 c3_i32_338
  let c1_i32_348 : BitVec 32 := 1#32
  let v357 : BitVec 32 := Scalar.muli v354 c1_i32_348
  let v358 : BitVec 32 := Scalar.addi c0_i32_349 v357
  v358.toNat
def k0_dev21 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_353 : BitVec 32 := 4#32
  let v367 : BitVec 32 := Scalar.xori v2 c4_i32_353
  let c1_i32_363 : BitVec 32 := 1#32
  let v370 : BitVec 32 := Scalar.muli v367 c1_i32_363
  let v371 : BitVec 32 := Scalar.addi c0_i32_364 v370
  v371.toNat
def k0_dev22 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_368 : BitVec 32 := 5#32
  let v380 : BitVec 32 := Scalar.xori v2 c5_i32_368
  let c1_i32_378 : BitVec 32 := 1#32
  let v383 : BitVec 32 := Scalar.muli v380 c1_i32_378
  let v384 : BitVec 32 := Scalar.addi c0_i32_379 v383
  v384.toNat
def k0_dev23 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_383 : BitVec 32 := 6#32
  let v393 : BitVec 32 := Scalar.xori v2 c6_i32_383
  let c1_i32_393 : BitVec 32 := 1#32
  let v396 : BitVec 32 := Scalar.muli v393 c1_i32_393
  let v397 : BitVec 32 := Scalar.addi c0_i32_394 v396
  v397.toNat
def k0_dev24 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_398 : BitVec 32 := 7#32
  let v406 : BitVec 32 := Scalar.xori v2 c7_i32_398
  let c1_i32_408 : BitVec 32 := 1#32
  let v409 : BitVec 32 := Scalar.muli v406 c1_i32_408
  let v410 : BitVec 32 := Scalar.addi c0_i32_409 v409
  v410.toNat
def k0_off3 (d0 : Dev nD) : Fin 3 → Nat :=
  let c0_574 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let v517 : Index := Scalar.indexCast v54
  let c0_575 : Index := 0#32
  ![0, v517.toNat, 0]
def k0_off4 (d0 : Dev nD) (c1_i32_607 : BitVec 32) : Fin 3 → Nat :=
  let c0_i32_610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_606 : BitVec 32 := 3#32
  let v560 : BitVec 32 := Scalar.shrsi v2 c3_i32_606
  let v561 : BitVec 32 := Scalar.xori v560 c1_i32_607
  let c3_i32_608 : BitVec 32 := 3#32
  let v562 : BitVec 32 := Scalar.andi v561 c3_i32_608
  let c8_i32_609 : BitVec 32 := 8#32
  let v563 : BitVec 32 := Scalar.muli v562 c8_i32_609
  let c0_i32_621 : BitVec 32 := 0#32
  ![0, v563.toNat, 0]
def k0_dev25 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_605 : BitVec 32 := 8#32
  let v559 : BitVec 32 := Scalar.xori v2 c8_i32_605
  let c1_i32_617 : BitVec 32 := 1#32
  let v564 : BitVec 32 := Scalar.muli v559 c1_i32_617
  let v565 : BitVec 32 := Scalar.addi c0_i32_618 v564
  v565.toNat
def k0_dev26 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_622 : BitVec 32 := 16#32
  let v574 : BitVec 32 := Scalar.xori v2 c16_i32_622
  let c1_i32_634 : BitVec 32 := 1#32
  let v579 : BitVec 32 := Scalar.muli v574 c1_i32_634
  let v580 : BitVec 32 := Scalar.addi c0_i32_635 v579
  v580.toNat
def k0_dev27 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_639 : BitVec 32 := 24#32
  let v589 : BitVec 32 := Scalar.xori v2 c24_i32_639
  let c1_i32_651 : BitVec 32 := 1#32
  let v594 : BitVec 32 := Scalar.muli v589 c1_i32_651
  let v595 : BitVec 32 := Scalar.addi c0_i32_652 v594
  v595.toNat
def k0_off5 (d0 : Dev nD) : Fin 3 → Nat :=
  let c1_817 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let v702 : Index := Scalar.indexCast v54
  let c0_818 : Index := 0#32
  ![1, v702.toNat, 0]
def k0_off6 (d0 : Dev nD) (c1_i32_856 : BitVec 32) : Fin 3 → Nat :=
  let c1_i32_859 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_855 : BitVec 32 := 3#32
  let v745 : BitVec 32 := Scalar.shrsi v2 c3_i32_855
  let v746 : BitVec 32 := Scalar.xori v745 c1_i32_856
  let c3_i32_857 : BitVec 32 := 3#32
  let v747 : BitVec 32 := Scalar.andi v746 c3_i32_857
  let c8_i32_858 : BitVec 32 := 8#32
  let v748 : BitVec 32 := Scalar.muli v747 c8_i32_858
  let c0_i32_870 : BitVec 32 := 0#32
  ![1, v748.toNat, 0]
def k0_dev28 (d0 : Dev nD) : Nat :=
  let c0_i32_867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_854 : BitVec 32 := 8#32
  let v744 : BitVec 32 := Scalar.xori v2 c8_i32_854
  let c1_i32_866 : BitVec 32 := 1#32
  let v749 : BitVec 32 := Scalar.muli v744 c1_i32_866
  let v750 : BitVec 32 := Scalar.addi c0_i32_867 v749
  v750.toNat
def k0_dev29 (d0 : Dev nD) : Nat :=
  let c0_i32_884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_871 : BitVec 32 := 16#32
  let v759 : BitVec 32 := Scalar.xori v2 c16_i32_871
  let c1_i32_883 : BitVec 32 := 1#32
  let v764 : BitVec 32 := Scalar.muli v759 c1_i32_883
  let v765 : BitVec 32 := Scalar.addi c0_i32_884 v764
  v765.toNat
def k0_dev30 (d0 : Dev nD) : Nat :=
  let c0_i32_901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_888 : BitVec 32 := 24#32
  let v774 : BitVec 32 := Scalar.xori v2 c24_i32_888
  let c1_i32_900 : BitVec 32 := 1#32
  let v779 : BitVec 32 := Scalar.muli v774 c1_i32_900
  let v780 : BitVec 32 := Scalar.addi c0_i32_901 v779
  v780.toNat
def k0_off7 (d0 : Dev nD) : Fin 3 → Nat :=
  let c0_974 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v831 : Index := Scalar.indexCast v58
  let c0_975 : Index := 0#32
  ![0, v831.toNat, 0]
def k0_off8 (d0 : Dev nD) : Fin 3 → Nat :=
  let c0_990 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v850 : Index := Scalar.indexCast v58
  let c0_991 : Index := 0#32
  ![0, v850.toNat, 0]
def k0_off9 (d0 : Dev nD) : Fin 3 → Nat :=
  let c0_992 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v853 : Index := Scalar.indexCast v58
  let c64_993 : Index := 64#32
  ![0, v853.toNat, 64]
def k0_off10 (d0 : Dev nD) : Fin 3 → Nat :=
  let c0_994 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v859 : Index := Scalar.indexCast v58
  let c0_995 : Index := 0#32
  ![0, v859.toNat, 0]
def k0_off11 (d0 : Dev nD) : Fin 3 → Nat :=
  let c0_996 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v863 : Index := Scalar.indexCast v58
  let c72_997 : Index := 72#32
  ![0, v863.toNat, 72]
def k0_off12 (d0 : Dev nD) : Fin 3 → Nat :=
  let c0_998 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v866 : Index := Scalar.indexCast v58
  let c136 : Index := 136#32
  ![0, v866.toNat, 136]
def k0_off13 (d0 : Dev nD) : Fin 3 → Nat :=
  let c0_999 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v872 : Index := Scalar.indexCast v58
  let c64_1000 : Index := 64#32
  ![0, v872.toNat, 64]
def k0_off14 (d0 : Dev nD) : Fin 3 → Nat :=
  let c0_1001 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v876 : Index := Scalar.indexCast v58
  let c144_1002 : Index := 144#32
  ![0, v876.toNat, 144]
def k0_off15 (d0 : Dev nD) : Fin 3 → Nat :=
  let c0_1003 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v879 : Index := Scalar.indexCast v58
  let c208 : Index := 208#32
  ![0, v879.toNat, 208]
def k0_off16 (d0 : Dev nD) : Fin 3 → Nat :=
  let c0_1004 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v885 : Index := Scalar.indexCast v58
  let c128_1005 : Index := 128#32
  ![0, v885.toNat, 128]
def k0_off17 (d0 : Dev nD) : Fin 3 → Nat :=
  let c0_1006 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v889 : Index := Scalar.indexCast v58
  let c216_1007 : Index := 216#32
  ![0, v889.toNat, 216]
def k0_off18 (d0 : Dev nD) : Fin 3 → Nat :=
  let c0_1008 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v892 : Index := Scalar.indexCast v58
  let c280 : Index := 280#32
  ![0, v892.toNat, 280]
def k0_off19 (d0 : Dev nD) : Fin 3 → Nat :=
  let c0_1009 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v898 : Index := Scalar.indexCast v58
  let c192_1010 : Index := 192#32
  ![0, v898.toNat, 192]
def k0_off20 (d0 : Dev nD) : Fin 3 → Nat :=
  let c0_1011 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v902 : Index := Scalar.indexCast v58
  let c288_1012 : Index := 288#32
  ![0, v902.toNat, 288]
def k0_off21 (d0 : Dev nD) : Fin 3 → Nat :=
  let c0_1013 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v905 : Index := Scalar.indexCast v58
  let c352 : Index := 352#32
  ![0, v905.toNat, 352]
def k0_off22 (d0 : Dev nD) : Fin 3 → Nat :=
  let c0_1014 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v911 : Index := Scalar.indexCast v58
  let c256_1015 : Index := 256#32
  ![0, v911.toNat, 256]
def k0_off23 (d0 : Dev nD) : Fin 3 → Nat :=
  let c0_1016 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v915 : Index := Scalar.indexCast v58
  let c360_1017 : Index := 360#32
  ![0, v915.toNat, 360]
def k0_off24 (d0 : Dev nD) : Fin 3 → Nat :=
  let c0_1018 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v918 : Index := Scalar.indexCast v58
  let c424 : Index := 424#32
  ![0, v918.toNat, 424]
def k0_off25 (d0 : Dev nD) : Fin 3 → Nat :=
  let c0_1019 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v924 : Index := Scalar.indexCast v58
  let c320_1020 : Index := 320#32
  ![0, v924.toNat, 320]
def k0_off26 (d0 : Dev nD) : Fin 3 → Nat :=
  let c0_1021 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v928 : Index := Scalar.indexCast v58
  let c432_1022 : Index := 432#32
  ![0, v928.toNat, 432]
def k0_off27 (d0 : Dev nD) : Fin 3 → Nat :=
  let c0_1023 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v931 : Index := Scalar.indexCast v58
  let c496 : Index := 496#32
  ![0, v931.toNat, 496]
def k0_off28 (d0 : Dev nD) : Fin 3 → Nat :=
  let c0_1024 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v937 : Index := Scalar.indexCast v58
  let c384_1025 : Index := 384#32
  ![0, v937.toNat, 384]
def k0_off29 (d0 : Dev nD) : Fin 3 → Nat :=
  let c0_1026 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v941 : Index := Scalar.indexCast v58
  let c504_1027 : Index := 504#32
  ![0, v941.toNat, 504]
def k0_off30 (d0 : Dev nD) : Fin 3 → Nat :=
  let c0_1028 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v944 : Index := Scalar.indexCast v58
  let c568 : Index := 568#32
  ![0, v944.toNat, 568]
def k0_off31 (d0 : Dev nD) : Fin 3 → Nat :=
  let c0_1029 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v950 : Index := Scalar.indexCast v58
  let c448_1030 : Index := 448#32
  ![0, v950.toNat, 448]
def k0_off32 (d0 : Dev nD) : Fin 3 → Nat :=
  let c0_i32_1033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let c0_i32_1040 : BitVec 32 := 0#32
  ![0, v58.toNat, 0]
def k0_dev31 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1031 : BitVec 32 := 8#32
  let v954 : BitVec 32 := Scalar.xori v2 c8_i32_1031
  let c1_i32_1038 : BitVec 32 := 1#32
  let v955 : BitVec 32 := Scalar.muli v954 c1_i32_1038
  let v956 : BitVec 32 := Scalar.addi c0_i32_1039 v955
  v956.toNat
def k0_dev32 (d0 : Dev nD) : Nat :=
  let c0_i32_1050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1042 : BitVec 32 := 16#32
  let v965 : BitVec 32 := Scalar.xori v2 c16_i32_1042
  let c1_i32_1049 : BitVec 32 := 1#32
  let v966 : BitVec 32 := Scalar.muli v965 c1_i32_1049
  let v967 : BitVec 32 := Scalar.addi c0_i32_1050 v966
  v967.toNat
def k0_dev33 (d0 : Dev nD) : Nat :=
  let c0_i32_1061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1053 : BitVec 32 := 24#32
  let v976 : BitVec 32 := Scalar.xori v2 c24_i32_1053
  let c1_i32_1060 : BitVec 32 := 1#32
  let v977 : BitVec 32 := Scalar.muli v976 c1_i32_1060
  let v978 : BitVec 32 := Scalar.addi c0_i32_1061 v977
  v978.toNat
def k0_off33 (d0 : Dev nD) : Fin 3 → Nat :=
  let c1_1133 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1029 : Index := Scalar.indexCast v58
  let c0_1134 : Index := 0#32
  ![1, v1029.toNat, 0]
def k0_off34 (d0 : Dev nD) : Fin 3 → Nat :=
  let c1_1149 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1048 : Index := Scalar.indexCast v58
  let c0_1150 : Index := 0#32
  ![1, v1048.toNat, 0]
def k0_off35 (d0 : Dev nD) : Fin 3 → Nat :=
  let c1_1151 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1051 : Index := Scalar.indexCast v58
  let c64_1152 : Index := 64#32
  ![1, v1051.toNat, 64]
def k0_off36 (d0 : Dev nD) : Fin 3 → Nat :=
  let c1_1153 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1057 : Index := Scalar.indexCast v58
  let c0_1154 : Index := 0#32
  ![1, v1057.toNat, 0]
def k0_off37 (d0 : Dev nD) : Fin 3 → Nat :=
  let c1_1155 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1061 : Index := Scalar.indexCast v58
  let c72_1156 : Index := 72#32
  ![1, v1061.toNat, 72]
def k0_off38 (d0 : Dev nD) : Fin 3 → Nat :=
  let c1_1157 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1064 : Index := Scalar.indexCast v58
  let c136_1158 : Index := 136#32
  ![1, v1064.toNat, 136]
def k0_off39 (d0 : Dev nD) : Fin 3 → Nat :=
  let c1_1159 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1070 : Index := Scalar.indexCast v58
  let c64_1160 : Index := 64#32
  ![1, v1070.toNat, 64]
def k0_off40 (d0 : Dev nD) : Fin 3 → Nat :=
  let c1_1161 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1074 : Index := Scalar.indexCast v58
  let c144_1162 : Index := 144#32
  ![1, v1074.toNat, 144]
def k0_off41 (d0 : Dev nD) : Fin 3 → Nat :=
  let c1_1163 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1077 : Index := Scalar.indexCast v58
  let c208_1164 : Index := 208#32
  ![1, v1077.toNat, 208]
def k0_off42 (d0 : Dev nD) : Fin 3 → Nat :=
  let c1_1165 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1083 : Index := Scalar.indexCast v58
  let c128_1166 : Index := 128#32
  ![1, v1083.toNat, 128]
def k0_off43 (d0 : Dev nD) : Fin 3 → Nat :=
  let c1_1167 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1087 : Index := Scalar.indexCast v58
  let c216_1168 : Index := 216#32
  ![1, v1087.toNat, 216]
def k0_off44 (d0 : Dev nD) : Fin 3 → Nat :=
  let c1_1169 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1090 : Index := Scalar.indexCast v58
  let c280_1170 : Index := 280#32
  ![1, v1090.toNat, 280]
def k0_off45 (d0 : Dev nD) : Fin 3 → Nat :=
  let c1_1171 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1096 : Index := Scalar.indexCast v58
  let c192_1172 : Index := 192#32
  ![1, v1096.toNat, 192]
def k0_off46 (d0 : Dev nD) : Fin 3 → Nat :=
  let c1_1173 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1100 : Index := Scalar.indexCast v58
  let c288_1174 : Index := 288#32
  ![1, v1100.toNat, 288]
def k0_off47 (d0 : Dev nD) : Fin 3 → Nat :=
  let c1_1175 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1103 : Index := Scalar.indexCast v58
  let c352_1176 : Index := 352#32
  ![1, v1103.toNat, 352]
def k0_off48 (d0 : Dev nD) : Fin 3 → Nat :=
  let c1_1177 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1109 : Index := Scalar.indexCast v58
  let c256_1178 : Index := 256#32
  ![1, v1109.toNat, 256]
def k0_off49 (d0 : Dev nD) : Fin 3 → Nat :=
  let c1_1179 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1113 : Index := Scalar.indexCast v58
  let c360_1180 : Index := 360#32
  ![1, v1113.toNat, 360]
def k0_off50 (d0 : Dev nD) : Fin 3 → Nat :=
  let c1_1181 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1116 : Index := Scalar.indexCast v58
  let c424_1182 : Index := 424#32
  ![1, v1116.toNat, 424]
def k0_off51 (d0 : Dev nD) : Fin 3 → Nat :=
  let c1_1183 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1122 : Index := Scalar.indexCast v58
  let c320_1184 : Index := 320#32
  ![1, v1122.toNat, 320]
def k0_off52 (d0 : Dev nD) : Fin 3 → Nat :=
  let c1_1185 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1126 : Index := Scalar.indexCast v58
  let c432_1186 : Index := 432#32
  ![1, v1126.toNat, 432]
def k0_off53 (d0 : Dev nD) : Fin 3 → Nat :=
  let c1_1187 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1129 : Index := Scalar.indexCast v58
  let c496_1188 : Index := 496#32
  ![1, v1129.toNat, 496]
def k0_off54 (d0 : Dev nD) : Fin 3 → Nat :=
  let c1_1189 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1135 : Index := Scalar.indexCast v58
  let c384_1190 : Index := 384#32
  ![1, v1135.toNat, 384]
def k0_off55 (d0 : Dev nD) : Fin 3 → Nat :=
  let c1_1191 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1139 : Index := Scalar.indexCast v58
  let c504_1192 : Index := 504#32
  ![1, v1139.toNat, 504]
def k0_off56 (d0 : Dev nD) : Fin 3 → Nat :=
  let c1_1193 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1142 : Index := Scalar.indexCast v58
  let c568_1194 : Index := 568#32
  ![1, v1142.toNat, 568]
def k0_off57 (d0 : Dev nD) : Fin 3 → Nat :=
  let c1_1195 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let v1148 : Index := Scalar.indexCast v58
  let c448_1196 : Index := 448#32
  ![1, v1148.toNat, 448]
def k0_off58 (d0 : Dev nD) : Fin 3 → Nat :=
  let c1_i32_1199 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c3_i32_41 : BitVec 32 := 3#32
  let v55 : BitVec 32 := Scalar.shrsi v2 c3_i32_41
  let c3_i32_42 : BitVec 32 := 3#32
  let v56 : BitVec 32 := Scalar.andi v55 c3_i32_42
  let c8_i32_43 : BitVec 32 := 8#32
  let v57 : BitVec 32 := Scalar.muli v56 c8_i32_43
  let v58 : BitVec 32 := Scalar.addi v54 v57
  let c0_i32_1206 : BitVec 32 := 0#32
  ![1, v58.toNat, 0]
def k0_dev34 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1197 : BitVec 32 := 8#32
  let v1152 : BitVec 32 := Scalar.xori v2 c8_i32_1197
  let c1_i32_1204 : BitVec 32 := 1#32
  let v1153 : BitVec 32 := Scalar.muli v1152 c1_i32_1204
  let v1154 : BitVec 32 := Scalar.addi c0_i32_1205 v1153
  v1154.toNat
def k0_dev35 (d0 : Dev nD) : Nat :=
  let c0_i32_1216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1208 : BitVec 32 := 16#32
  let v1163 : BitVec 32 := Scalar.xori v2 c16_i32_1208
  let c1_i32_1215 : BitVec 32 := 1#32
  let v1164 : BitVec 32 := Scalar.muli v1163 c1_i32_1215
  let v1165 : BitVec 32 := Scalar.addi c0_i32_1216 v1164
  v1165.toNat
def k0_dev36 (d0 : Dev nD) : Nat :=
  let c0_i32_1227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1219 : BitVec 32 := 24#32
  let v1174 : BitVec 32 := Scalar.xori v2 c24_i32_1219
  let c1_i32_1226 : BitVec 32 := 1#32
  let v1175 : BitVec 32 := Scalar.muli v1174 c1_i32_1226
  let v1176 : BitVec 32 := Scalar.addi c0_i32_1227 v1175
  v1176.toNat
def k0_off59 (d0 : Dev nD) : Fin 3 → Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c0_i32_1296 : BitVec 32 := 0#32
  ![0, v54.toNat, 0]
def k0_dev37 (d0 : Dev nD) : Nat :=
  let c0_i32_1295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1287 : BitVec 32 := 1#32
  let v1227 : BitVec 32 := Scalar.xori v2 c1_i32_1287
  let c1_i32_1294 : BitVec 32 := 1#32
  let v1228 : BitVec 32 := Scalar.muli v1227 c1_i32_1294
  let v1229 : BitVec 32 := Scalar.addi c0_i32_1295 v1228
  v1229.toNat
def k0_dev38 (d0 : Dev nD) : Nat :=
  let c0_i32_1306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1298 : BitVec 32 := 2#32
  let v1238 : BitVec 32 := Scalar.xori v2 c2_i32_1298
  let c1_i32_1305 : BitVec 32 := 1#32
  let v1239 : BitVec 32 := Scalar.muli v1238 c1_i32_1305
  let v1240 : BitVec 32 := Scalar.addi c0_i32_1306 v1239
  v1240.toNat
def k0_dev39 (d0 : Dev nD) : Nat :=
  let c0_i32_1317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1309 : BitVec 32 := 3#32
  let v1249 : BitVec 32 := Scalar.xori v2 c3_i32_1309
  let c1_i32_1316 : BitVec 32 := 1#32
  let v1250 : BitVec 32 := Scalar.muli v1249 c1_i32_1316
  let v1251 : BitVec 32 := Scalar.addi c0_i32_1317 v1250
  v1251.toNat
def k0_dev40 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1320 : BitVec 32 := 4#32
  let v1260 : BitVec 32 := Scalar.xori v2 c4_i32_1320
  let c1_i32_1327 : BitVec 32 := 1#32
  let v1261 : BitVec 32 := Scalar.muli v1260 c1_i32_1327
  let v1262 : BitVec 32 := Scalar.addi c0_i32_1328 v1261
  v1262.toNat
def k0_dev41 (d0 : Dev nD) : Nat :=
  let c0_i32_1339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1331 : BitVec 32 := 5#32
  let v1271 : BitVec 32 := Scalar.xori v2 c5_i32_1331
  let c1_i32_1338 : BitVec 32 := 1#32
  let v1272 : BitVec 32 := Scalar.muli v1271 c1_i32_1338
  let v1273 : BitVec 32 := Scalar.addi c0_i32_1339 v1272
  v1273.toNat
def k0_dev42 (d0 : Dev nD) : Nat :=
  let c0_i32_1350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1342 : BitVec 32 := 6#32
  let v1282 : BitVec 32 := Scalar.xori v2 c6_i32_1342
  let c1_i32_1349 : BitVec 32 := 1#32
  let v1283 : BitVec 32 := Scalar.muli v1282 c1_i32_1349
  let v1284 : BitVec 32 := Scalar.addi c0_i32_1350 v1283
  v1284.toNat
def k0_dev43 (d0 : Dev nD) : Nat :=
  let c0_i32_1361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1353 : BitVec 32 := 7#32
  let v1293 : BitVec 32 := Scalar.xori v2 c7_i32_1353
  let c1_i32_1360 : BitVec 32 := 1#32
  let v1294 : BitVec 32 := Scalar.muli v1293 c1_i32_1360
  let v1295 : BitVec 32 := Scalar.addi c0_i32_1361 v1294
  v1295.toNat
def k0_off60 (d0 : Dev nD) : Fin 3 → Nat :=
  let c1_i32_1423 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_39 : BitVec 32 := 7#32
  let v53 : BitVec 32 := Scalar.andi v2 c7_i32_39
  let c32_i32_40 : BitVec 32 := 32#32
  let v54 : BitVec 32 := Scalar.muli v53 c32_i32_40
  let c0_i32_1430 : BitVec 32 := 0#32
  ![1, v54.toNat, 0]
def k0_dev44 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1421 : BitVec 32 := 1#32
  let v1346 : BitVec 32 := Scalar.xori v2 c1_i32_1421
  let c1_i32_1428 : BitVec 32 := 1#32
  let v1347 : BitVec 32 := Scalar.muli v1346 c1_i32_1428
  let v1348 : BitVec 32 := Scalar.addi c0_i32_1429 v1347
  v1348.toNat
def k0_dev45 (d0 : Dev nD) : Nat :=
  let c0_i32_1440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1432 : BitVec 32 := 2#32
  let v1357 : BitVec 32 := Scalar.xori v2 c2_i32_1432
  let c1_i32_1439 : BitVec 32 := 1#32
  let v1358 : BitVec 32 := Scalar.muli v1357 c1_i32_1439
  let v1359 : BitVec 32 := Scalar.addi c0_i32_1440 v1358
  v1359.toNat
def k0_dev46 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1443 : BitVec 32 := 3#32
  let v1368 : BitVec 32 := Scalar.xori v2 c3_i32_1443
  let c1_i32_1450 : BitVec 32 := 1#32
  let v1369 : BitVec 32 := Scalar.muli v1368 c1_i32_1450
  let v1370 : BitVec 32 := Scalar.addi c0_i32_1451 v1369
  v1370.toNat
def k0_dev47 (d0 : Dev nD) : Nat :=
  let c0_i32_1462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1454 : BitVec 32 := 4#32
  let v1379 : BitVec 32 := Scalar.xori v2 c4_i32_1454
  let c1_i32_1461 : BitVec 32 := 1#32
  let v1380 : BitVec 32 := Scalar.muli v1379 c1_i32_1461
  let v1381 : BitVec 32 := Scalar.addi c0_i32_1462 v1380
  v1381.toNat
def k0_dev48 (d0 : Dev nD) : Nat :=
  let c0_i32_1473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1465 : BitVec 32 := 5#32
  let v1390 : BitVec 32 := Scalar.xori v2 c5_i32_1465
  let c1_i32_1472 : BitVec 32 := 1#32
  let v1391 : BitVec 32 := Scalar.muli v1390 c1_i32_1472
  let v1392 : BitVec 32 := Scalar.addi c0_i32_1473 v1391
  v1392.toNat
def k0_dev49 (d0 : Dev nD) : Nat :=
  let c0_i32_1484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1476 : BitVec 32 := 6#32
  let v1401 : BitVec 32 := Scalar.xori v2 c6_i32_1476
  let c1_i32_1483 : BitVec 32 := 1#32
  let v1402 : BitVec 32 := Scalar.muli v1401 c1_i32_1483
  let v1403 : BitVec 32 := Scalar.addi c0_i32_1484 v1402
  v1403.toNat
def k0_dev50 (d0 : Dev nD) : Nat :=
  let c0_i32_1495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1487 : BitVec 32 := 7#32
  let v1412 : BitVec 32 := Scalar.xori v2 c7_i32_1487
  let c1_i32_1494 : BitVec 32 := 1#32
  let v1413 : BitVec 32 := Scalar.muli v1412 c1_i32_1494
  let v1414 : BitVec 32 := Scalar.addi c0_i32_1495 v1413
  v1414.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x2x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x2x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((8 * (Real.log 2))⁻¹ : ℝ) : EReal)
  | _ => none
-- ==== ReferenceIdeal.lean ====
abbrev S2x256x768 : Shape := ⟨3, ![2, 256, 768]⟩
abbrev S768x512 : Shape := ⟨2, ![768, 512]⟩
abbrev S2x16384x2x64 : Shape := ⟨4, ![2, 16384, 2, 64]⟩
abbrev S512x768 : Shape := ⟨2, ![512, 768]⟩
abbrev S2x256x512 : Shape := ⟨3, ![2, 256, 512]⟩
abbrev S2x256x8x64 : Shape := ⟨4, ![2, 256, 8, 64]⟩
abbrev S2x16384x2x4x64 : Shape := ⟨5, ![2, 16384, 2, 4, 64]⟩
abbrev S2x16384x8x64 : Shape := ⟨4, ![2, 16384, 8, 64]⟩
abbrev S2x8x256x16384 : Shape := ⟨4, ![2, 8, 256, 16384]⟩
abbrev S_ : Shape := ⟨0, ![]⟩
abbrev S2x8x256 : Shape := ⟨3, ![2, 8, 256]⟩
abbrev S2x8x256x1 : Shape := ⟨4, ![2, 8, 256, 1]⟩
abbrev S2x8x64x256 : Shape := ⟨4, ![2, 8, 64, 256]⟩
abbrev S2x256x8x1 : Shape := ⟨4, ![2, 256, 8, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x16384x2x64, .bf16⟩
  | .hbm, ⟨3, _⟩ => ⟨S2x16384x2x64, .bf16⟩
  | .hbm, ⟨4, _⟩ => ⟨S512x768, .bf16⟩
  | .hbm, ⟨5, _⟩ => ⟨S2x256x512, .f32⟩
  | .hbm, ⟨6, _⟩ => ⟨S2x256x512, .bf16⟩
  | .hbm, ⟨7, _⟩ => ⟨S2x256x8x64, .bf16⟩
  | .hbm, ⟨8, _⟩ => ⟨S2x16384x2x4x64, .bf16⟩
  | .hbm, ⟨9, _⟩ => ⟨S2x16384x8x64, .bf16⟩
  | .hbm, ⟨10, _⟩ => ⟨S2x16384x2x4x64, .bf16⟩
  | .hbm, ⟨11, _⟩ => ⟨S2x16384x8x64, .bf16⟩
  | .hbm, ⟨12, _⟩ => ⟨S2x8x256x16384, .f32⟩
  | .hbm, ⟨13, _⟩ => ⟨S2x8x256x16384, .bf16⟩
  | .hbm, ⟨14, _⟩ => ⟨S2x8x256x16384, .f32⟩
  | .hbm, ⟨15, _⟩ => ⟨S_, .f32⟩
  | .hbm, ⟨16, _⟩ => ⟨S2x8x256x16384, .f32⟩
  | .hbm, ⟨17, _⟩ => ⟨S2x8x256x16384, .f32⟩
  | .hbm, ⟨18, _⟩ => ⟨S_, .f32⟩
  | .hbm, ⟨19, _⟩ => ⟨S2x8x256, .f32⟩
  | .hbm, ⟨20, _⟩ => ⟨S2x8x256x1, .f32⟩
  | .hbm, ⟨21, _⟩ => ⟨S2x8x256x16384, .f32⟩
  | .hbm, ⟨22, _⟩ => ⟨S2x8x256x16384, .f32⟩
  | .hbm, ⟨23, _⟩ => ⟨S2x8x256x16384, .f32⟩
  | .hbm, ⟨24, _⟩ => ⟨S_, .f32⟩
  | .hbm, ⟨25, _⟩ => ⟨S2x8x256, .f32⟩
  | .hbm, ⟨26, _⟩ => ⟨S2x8x256x1, .f32⟩
  | .hbm, ⟨27, _⟩ => ⟨S2x16384x8x64, .f32⟩
  | .hbm, ⟨28, _⟩ => ⟨S2x8x64x256, .f32⟩
  | .hbm, ⟨29, _⟩ => ⟨S2x256x8x64, .f32⟩
  | .hbm, ⟨30, _⟩ => ⟨S2x256x8x1, .f32⟩
  | .hbm, ⟨31, _⟩ => ⟨S2x256x8x64, .f32⟩
  | .hbm, ⟨32, _⟩ => ⟨S2x256x8x64, .f32⟩
  | .hbm, ⟨33, _⟩ => ⟨S2x256x512, .f32⟩
  | .hbm, ⟨34, _⟩ => ⟨S512x768, .f32⟩
  | .hbm, ⟨35, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Phases.lean ====
/- The body of the kernel, told as the phases it is made of.

   The printed body is one long list of operations. Here it is written once more as what its author meant:
   the barrier, the attention of one batch, the first reduce-scatter among the eight devices of a low group, the
   second among the four of a high group, the two gathers back, the projection. `body_eq_phases` says that the two
   are the same program. -/
module

public import proofs.«01_k».proof.Proof.Gen.KernelIdeal.Skeleton

@[expose] public section

noncomputable section

namespace Cert.KernelIdeal.Ring

open Idealize.ShloMosaic Idealize.SL.Sem Cert.KernelIdeal.Gen

/-! ## Devices and rows, as the kernel computes them -/

/-- A device's own number, as a word. -/
abbrev meW (d : Dev nD) : BitVec 32 := Scalar.remsi (Scalar.divsi (Dev.word d) 1#32) 32#32
/-- The number of the device that differs from `d` in the bits of `w`. -/
abbrev peerN (d : Dev nD) (w : BitVec 32) : Nat := (Scalar.addi 0#32 (Scalar.muli (Scalar.xori (meW d) w) 1#32)).toNat
/-- The bits the `j`-th partner in the low group differs in. -/
abbrev loW (j : Fin 7) : BitVec 32 := BitVec.ofNat 32 (1 + j.val)
/-- The bits the `j`-th partner in the high group differs in. -/
abbrev hiW (j : Fin 3) : BitVec 32 := BitVec.ofNat 32 (8 * (1 + j.val))
/-- The same bits counted within the high group. -/
abbrev hiV (j : Fin 3) : BitVec 32 := BitVec.ofNat 32 (1 + j.val)

theorem peerLo_lt : ∀ (d : Dev nD) (j : Fin 7), peerN d (loW j) < nD := by decide +kernel
theorem peerHi_lt : ∀ (d : Dev nD) (j : Fin 3), peerN d (hiW j) < nD := by decide +kernel

/-- The `j`-th partner in the low group. -/
def peerLo (d : Dev nD) (j : Fin 7) : Dev nD := ⟨peerN d (loW j), peerLo_lt d j⟩
/-- The `j`-th partner in the high group. -/
def peerHi (d : Dev nD) (j : Fin 3) : Dev nD := ⟨peerN d (hiW j), peerHi_lt d j⟩

/-- The first row of the 32 a device keeps after the first reduce-scatter. -/
def blkN (d : Dev nD) : Nat := (Scalar.muli (Scalar.andi (meW d) 7#32) 32#32).toNat
/-- The first row of the 32 the `j`-th low partner keeps. -/
def loSrcN (d : Dev nD) (j : Fin 7) : Nat := (Scalar.muli (Scalar.andi (Scalar.xori (meW d) (loW j)) 7#32) 32#32).toNat
/-- The first row of the 8 a device keeps in the end. -/
def segN (d : Dev nD) : Nat :=
  (Scalar.addi (Scalar.muli (Scalar.andi (meW d) 7#32) 32#32) (Scalar.muli (Scalar.andi (Scalar.shrsi (meW d) 3#32) 3#32) 8#32)).toNat
/-- Within its 32 rows, the first row of the 8 the `j`-th high partner keeps. -/
def hiSrcN (d : Dev nD) (j : Fin 3) : Nat :=
  (Scalar.muli (Scalar.andi (Scalar.xori (Scalar.shrsi (meW d) 3#32) (hiV j)) 3#32) 8#32).toNat

/-! ## The buffers -/

abbrev xM : Memref sig .tc .vmem S2x256x768 .bf16 := Memref.whole cc0_stg0_0
abbrev wqM : Memref sig .tc .vmem S768x512 .bf16 := Memref.whole cc0_stg1_0
abbrev woM : Memref sig .tc .vmem S512x768 .bf16 := Memref.whole cc0_stg2_0
abbrev kM : Memref sig .tc .vmem S2x512x2x64 .bf16 := Memref.whole cc0_stg3_0
abbrev vM : Memref sig .tc .vmem S2x512x2x64 .bf16 := Memref.whole cc0_stg4_0
abbrev outM : Memref sig .tc .vmem S2x256x768 .f32 := Memref.whole cc0_stg5_0
/-- The queries. -/
abbrev qM : Memref sig .tc .vmem S2x256x512 .bf16 := Memref.whole cc0_scratch0
/-- The accumulator: per head 64 columns of numerator and 8 of denominator. -/
abbrev accM : Memref sig .tc .vmem S2x256x576 .f32 := Memref.whole cc0_scratch1
/-- What is sent in the two reduce-scatters. -/
abbrev sndM : Memref sig .tc .vmem S2x256x576 .bf16 := Memref.whole cc0_scratch2
/-- What the first reduce-scatter receives. -/
abbrev r1M : Memref sig .tc .vmem S2x8x32x576 .bf16 := Memref.whole cc0_scratch3
/-- What the second reduce-scatter receives. -/
abbrev r2M : Memref sig .tc .vmem S2x4x8x576 .bf16 := Memref.whole cc0_scratch4
/-- The normalised attention output. -/
abbrev nrM : Memref sig .tc .vmem S2x256x512 .bf16 := Memref.whole cc0_scratch5

/-! ## The rectangles -/

abbrev slot7 (j : Fin 7) : Nat := 1 + j.val
abbrev slot3 (j : Fin 3) : Nat := 1 + j.val

theorem inb_all576 : ∀ (c : Fin 2) a, (![c.val, 0, 0] : Fin 3 → Nat) a + S1x256x576.size a ≤ S2x256x576.size a := by decide +kernel
theorem inb_all512 : ∀ (c : Fin 2) a, (![c.val, 0, 0] : Fin 3 → Nat) a + S1x256x512.size a ≤ S2x256x512.size a := by decide +kernel
theorem inb_all768 : ∀ (c : Fin 2) a, (![c.val, 0, 0] : Fin 3 → Nat) a + S1x256x768.size a ≤ S2x256x768.size a := by decide +kernel
theorem inb_top32 : ∀ (c : Fin 2) a, (![c.val, 0, 0] : Fin 3 → Nat) a + S1x32x576.size a ≤ S2x256x576.size a := by decide +kernel
theorem inb_kv : ∀ (b : Fin 2) (g : Fin 2) a, (![b.val, 0, g.val, 0] : Fin 4 → Nat) a + S1x512x1x64.size a ≤ S2x512x2x64.size a := by decide +kernel
theorem inb_qh : ∀ (b : Fin 2) (h : Fin 8) a, (![b.val, 0, 64 * h.val] : Fin 3 → Nat) a + S1x256x64.size a ≤ S2x256x512.size a := by decide +kernel
theorem inb_ah : ∀ (b : Fin 2) (h : Fin 8) a, (![b.val, 0, 72 * h.val] : Fin 3 → Nat) a + S1x256x72.size a ≤ S2x256x576.size a := by decide +kernel
theorem inb_r1 : ∀ (c : Fin 2) (j : Fin 7) a, (![c.val, slot7 j, 0, 0] : Fin 4 → Nat) a + S1x1x32x576.size a ≤ S2x8x32x576.size a := by decide +kernel
theorem inb_r2 : ∀ (c : Fin 2) (j : Fin 3) a, (![c.val, slot3 j, 0, 0] : Fin 4 → Nat) a + S1x1x8x576.size a ≤ S2x4x8x576.size a := by decide +kernel
theorem inb_s8 : ∀ (c : Fin 2) (j : Fin 7) a, (![c.val, slot7 j] : Fin 2 → Nat) a + S1x1.size a ≤ S2x8.size a := by decide +kernel
theorem inb_s4 : ∀ (c : Fin 2) (j : Fin 3) a, (![c.val, slot3 j] : Fin 2 → Nat) a + S1x1.size a ≤ S2x4.size a := by decide +kernel
theorem inb_blk : ∀ (d : Dev nD) (c : Fin 2) a, (![c.val, blkN d, 0] : Fin 3 → Nat) a + S1x32x576.size a ≤ S2x256x576.size a := by decide +kernel
theorem inb_loSrc : ∀ (d : Dev nD) (c : Fin 2) (j : Fin 7) a, (![c.val, loSrcN d j, 0] : Fin 3 → Nat) a + S1x32x576.size a ≤ S2x256x576.size a := by decide +kernel
theorem inb_seg : ∀ (d : Dev nD) (c : Fin 2) a, (![c.val, segN d, 0] : Fin 3 → Nat) a + S1x8x576.size a ≤ S2x256x576.size a := by decide +kernel
theorem inb_hiSrc : ∀ (d : Dev nD) (c : Fin 2) (j : Fin 3) a, (![c.val, hiSrcN d j, 0] : Fin 3 → Nat) a + S1x8x576.size a ≤ S2x256x576.size a := by decide +kernel
theorem inb_segN : ∀ (d : Dev nD) (c : Fin 2) a, (![c.val, segN d, 0] : Fin 3 → Nat) a + S1x8x512.size a ≤ S2x256x512.size a := by decide +kernel
theorem inb_blkN : ∀ (d : Dev nD) (c : Fin 2) a, (![c.val, blkN d, 0] : Fin 3 → Nat) a + S1x32x512.size a ≤ S2x256x512.size a := by decide +kernel
theorem inb_segO : ∀ (d : Dev nD) (c : Fin 2) (h : Fin 8) a, (![c.val, segN d, 72 * h.val] : Fin 3 → Nat) a + S1x8x64.size a ≤ S2x256x576.size a := by decide +kernel
theorem inb_segL : ∀ (d : Dev nD) (c : Fin 2) (h : Fin 8) a, (![c.val, segN d, 72 * h.val + 64] : Fin 3 → Nat) a + S1x8x1.size a ≤ S2x256x576.size a := by decide +kernel
theorem inb_segH : ∀ (d : Dev nD) (c : Fin 2) (h : Fin 8) a, (![c.val, segN d, 64 * h.val] : Fin 3 → Nat) a + S1x8x64.size a ≤ S2x256x512.size a := by decide +kernel

abbrev rAll576 (c : Fin 2) : Rect S2x256x576 := Rect.unit ![c.val, 0, 0] S1x256x576.size (inb_all576 c)
abbrev rAll512 (c : Fin 2) : Rect S2x256x512 := Rect.unit ![c.val, 0, 0] S1x256x512.size (inb_all512 c)
abbrev rAll768 (c : Fin 2) : Rect S2x256x768 := Rect.unit ![c.val, 0, 0] S1x256x768.size (inb_all768 c)
abbrev rTop32 (c : Fin 2) : Rect S2x256x576 := Rect.unit ![c.val, 0, 0] S1x32x576.size (inb_top32 c)
abbrev rKv (b g : Fin 2) : Rect S2x512x2x64 := Rect.unit ![b.val, 0, g.val, 0] S1x512x1x64.size (inb_kv b g)
abbrev rQh (b : Fin 2) (h : Fin 8) : Rect S2x256x512 := Rect.unit ![b.val, 0, 64 * h.val] S1x256x64.size (inb_qh b h)
abbrev rAh (b : Fin 2) (h : Fin 8) : Rect S2x256x576 := Rect.unit ![b.val, 0, 72 * h.val] S1x256x72.size (inb_ah b h)
abbrev rR1 (c : Fin 2) (j : Fin 7) : Rect S2x8x32x576 := Rect.unit ![c.val, slot7 j, 0, 0] S1x1x32x576.size (inb_r1 c j)
abbrev rR2 (c : Fin 2) (j : Fin 3) : Rect S2x4x8x576 := Rect.unit ![c.val, slot3 j, 0, 0] S1x1x8x576.size (inb_r2 c j)
abbrev rBlk (d : Dev nD) (c : Fin 2) : Rect S2x256x576 := Rect.unit ![c.val, blkN d, 0] S1x32x576.size (inb_blk d c)
abbrev rLoSrc (d : Dev nD) (c : Fin 2) (j : Fin 7) : Rect S2x256x576 := Rect.unit ![c.val, loSrcN d j, 0] S1x32x576.size (inb_loSrc d c j)
abbrev rSeg (d : Dev nD) (c : Fin 2) : Rect S2x256x576 := Rect.unit ![c.val, segN d, 0] S1x8x576.size (inb_seg d c)
abbrev rHiSrc (d : Dev nD) (c : Fin 2) (j : Fin 3) : Rect S2x256x576 := Rect.unit ![c.val, hiSrcN d j, 0] S1x8x576.size (inb_hiSrc d c j)
abbrev rSegN (d : Dev nD) (c : Fin 2) : Rect S2x256x512 := Rect.unit ![c.val, segN d, 0] S1x8x512.size (inb_segN d c)
abbrev rBlkN (d : Dev nD) (c : Fin 2) : Rect S2x256x512 := Rect.unit ![c.val, blkN d, 0] S1x32x512.size (inb_blkN d c)
abbrev rSegO (d : Dev nD) (c : Fin 2) (h : Fin 8) : Rect S2x256x576 := Rect.unit ![c.val, segN d, 72 * h.val] S1x8x64.size (inb_segO d c h)
abbrev rSegL (d : Dev nD) (c : Fin 2) (h : Fin 8) : Rect S2x256x576 := Rect.unit ![c.val, segN d, 72 * h.val + 64] S1x8x1.size (inb_segL d c h)
abbrev rSegH (d : Dev nD) (c : Fin 2) (h : Fin 8) : Rect S2x256x512 := Rect.unit ![c.val, segN d, 64 * h.val] S1x8x64.size (inb_segH d c h)

theorem ww_r1 : ∀ (c : Fin 2) (j : Fin 7), (rR1 c j).WholeWords (EltTy.packing .bf16) := by decide +kernel
theorem ww_r2 : ∀ (c : Fin 2) (j : Fin 3), (rR2 c j).WholeWords (EltTy.packing .bf16) := by decide +kernel
theorem ww_loSrc : ∀ (d : Dev nD) (c : Fin 2) (j : Fin 7), (rLoSrc d c j).WholeWords (EltTy.packing .bf16) := by decide +kernel
theorem ww_hiSrc : ∀ (d : Dev nD) (c : Fin 2) (j : Fin 3), (rHiSrc d c j).WholeWords (EltTy.packing .bf16) := by decide +kernel
theorem ww_segN : ∀ (d : Dev nD) (c : Fin 2), (rSegN d c).WholeWords (EltTy.packing .bf16) := by decide +kernel
theorem ww_blkN : ∀ (d : Dev nD) (c : Fin 2), (rBlkN d c).WholeWords (EltTy.packing .bf16) := by decide +kernel
theorem pk_all576 : ∀ (c : Fin 2), (rAll576 c).PackedRows (EltTy.packing .bf16) := by decide +kernel
theorem pk_top32 : ∀ (c : Fin 2), (rTop32 c).PackedRows (EltTy.packing .bf16) := by decide +kernel
theorem pk_segH : ∀ (d : Dev nD) (c : Fin 2) (h : Fin 8), (rSegH d c h).PackedRows (EltTy.packing .bf16) := by decide +kernel

/-! ## The two ends of each transfer, and its two semaphores -/

abbrev srcRs1 (d : Dev nD) (c : Fin 2) (j : Fin 7) : Memref sig .tc .vmem S32x576 .bf16 :=
  (sndM.slice (rLoSrc d c j) (fun _ => rfl)).squeeze S32x576 squeezes_S1x32x576_S32x576
abbrev dstRs1 (c : Fin 2) (j : Fin 7) : Memref sig .tc .vmem S32x576 .bf16 :=
  (r1M.slice (rR1 c j) (fun _ => rfl)).squeeze S32x576 squeezes_S1x1x32x576_S32x576
abbrev srcRs2 (d : Dev nD) (c : Fin 2) (j : Fin 3) : Memref sig .tc .vmem S8x576 .bf16 :=
  (sndM.slice (rHiSrc d c j) (fun _ => rfl)).squeeze S8x576 squeezes_S1x8x576_S8x576
abbrev dstRs2 (c : Fin 2) (j : Fin 3) : Memref sig .tc .vmem S8x576 .bf16 :=
  (r2M.slice (rR2 c j) (fun _ => rfl)).squeeze S8x576 squeezes_S1x1x8x576_S8x576
abbrev segAg (d : Dev nD) (c : Fin 2) : Memref sig .tc .vmem S8x512 .bf16 :=
  (nrM.slice (rSegN d c) (fun _ => rfl)).squeeze S8x512 squeezes_S1x8x512_S8x512
abbrev blkAg (d : Dev nD) (c : Fin 2) : Memref sig .tc .vmem S32x512 .bf16 :=
  (nrM.slice (rBlkN d c) (fun _ => rfl)).squeeze S32x512 squeezes_S1x32x512_S32x512

theorem we_srcRs1 (d : Dev nD) (c : Fin 2) (j : Fin 7) : (srcRs1 d c j).view.WordExact :=
  ((Memref.isWhole_whole _).wordExact_slice rfl _ (ww_loSrc d c j)).reshape _ _
theorem we_dstRs1 (c : Fin 2) (j : Fin 7) : (dstRs1 c j).view.WordExact :=
  ((Memref.isWhole_whole _).wordExact_slice rfl _ (ww_r1 c j)).reshape _ _
theorem we_srcRs2 (d : Dev nD) (c : Fin 2) (j : Fin 3) : (srcRs2 d c j).view.WordExact :=
  ((Memref.isWhole_whole _).wordExact_slice rfl _ (ww_hiSrc d c j)).reshape _ _
theorem we_dstRs2 (c : Fin 2) (j : Fin 3) : (dstRs2 c j).view.WordExact :=
  ((Memref.isWhole_whole _).wordExact_slice rfl _ (ww_r2 c j)).reshape _ _
theorem we_segAg (d : Dev nD) (c : Fin 2) : (segAg d c).view.WordExact :=
  ((Memref.isWhole_whole _).wordExact_slice rfl _ (ww_segN d c)).reshape _ _
theorem we_blkAg (d : Dev nD) (c : Fin 2) : (blkAg d c).view.WordExact :=
  ((Memref.isWhole_whole _).wordExact_slice rfl _ (ww_blkN d c)).reshape _ _

abbrev sem8 (A : DmaSems sig S2x8) (c : Fin 2) (j : Fin 7) : DmaSem sig :=
  ((A.slice (Rect.unit (s := S2x8) ![c.val, slot7 j] S1x1.size (inb_s8 c j))).squeeze S_ squeezes_S1x1_S_).sem
abbrev sem4 (A : DmaSems sig S2x4) (c : Fin 2) (j : Fin 3) : DmaSem sig :=
  ((A.slice (Rect.unit (s := S2x4) ![c.val, slot3 j] S1x1.size (inb_s4 c j))).squeeze S_ squeezes_S1x1_S_).sem

/-- The barrier's semaphore. -/
abbrev barS : Sem sig := (SemArray.scalar (sig.barrier 0 rfl) : Sems sig S_).sem

variable {F : FTy → Type} [FloatOps F] [Named F]

/-- The programs of the kernel's cores. -/
abbrev P (F : FTy → Type) [FloatOps F] [Named F] (α : Type) := Prog (TpuEff nD τ sig (Elt F) Λ₀ .tc) α

/-- Do `p` for each entry of a list, in order. -/
def each {ι : Type} (p : ι → P F PUnit) : List ι → P F PUnit
  | [] => pure ⟨⟩
  | i :: l => do p i; each p l

/-- The slots of a low group, and of a high group. -/
abbrev all7 : List (Fin 7) := [0, 1, 2, 3, 4, 5, 6]
abbrev all3 : List (Fin 3) := [0, 1, 2]

/-! ## The phases -/

/-- Tell every partner that this device has entered. -/
def enterLo (d : Dev nD) (j : Fin 7) : P F PUnit := semSignalWord (peerLo d j) barS 1#32
def enterHi (d : Dev nD) (j : Fin 3) : P F PUnit := semSignalWord (peerHi d j) barS 1#32

/-- Compute the queries. -/
def queries : P F PUnit := do
  let wq : Vec F S768x512 .bf16 ← Prog.lift (.load wqM (Rect.unit (s := S768x512) ![0, 0] S768x512.size inb_S768x512_S768x512_0_0).toLoadRect (View.loadsAt_vmem h_S768x512))
  let x : Vec F S2x256x768 .bf16 ← Prog.lift (.load xM (Rect.unit (s := S2x256x768) ![0, 0, 0] S2x256x768.size inb_S2x256x768_S2x256x768_0_0_0).toLoadRect (View.loadsAt_vmem h_S2x256x768))
  let _ : Vec F S2x256x512 .bf16 ← Prog.lift (.load qM (Rect.unit (s := S2x256x512) ![0, 0, 0] S2x256x512.size inb_S2x256x512_S2x256x512_0_0_0).toLoadRect (View.loadsAt_vmem h_S2x256x512))
  Prog.lift (.store qM (Rect.unit (s := S2x256x512) ![0, 0, 0] S2x256x512.size inb_S2x256x512_S2x256x512_0_0_0) (k0_pay2 wq x) Finset.univ (View.stores_vmem h_S2x256x512 ((Memref.isWhole_whole _).storeExact_slice rfl _ packedbf16_S2x256x512_S2x256x512_0_0_0) (fun _ => rfl)) (.inl rfl))

/-- One head of one batch: the weights of this device's keys, and with them the sums over its values. -/
def headStep (b : Fin 2) (k v : Vec F S1x512x1x64 .bf16) (h : Fin 8) : P F PUnit := do
  let q : Vec F S1x256x64 .bf16 ← Prog.lift (.load qM (rQh b h).toLoadRect (View.loadsAt_vmem h_S1x256x64))
  let _ : Vec F S1x256x72 .f32 ← Prog.lift (.load accM (rAh b h).toLoadRect (View.loadsAt_vmem h_S1x256x72))
  Prog.lift (.store accM (rAh b h) (k0_pay7 k0_pay3 k v q) Finset.univ (View.stores_vmem_bits_univ h_S1x256x72 rfl) (.inl rfl))

/-- The heads that share one head of keys and values. -/
abbrev headsOf (g : Fin 2) : List (Fin 8) := match g with | 0 => [0, 1, 2, 3] | 1 => [4, 5, 6, 7]

def groupStep (b g : Fin 2) : P F PUnit := do
  let k : Vec F S1x512x1x64 .bf16 ← Prog.lift (.load kM (rKv b g).toLoadRect (View.loadsAt_vmem h_S1x512x1x64))
  let v : Vec F S1x512x1x64 .bf16 ← Prog.lift (.load vM (rKv b g).toLoadRect (View.loadsAt_vmem h_S1x512x1x64))
  each (headStep b k v) (headsOf g)

/-- The attention of one batch over this device's keys. -/
def partials (b : Fin 2) : P F PUnit := each (groupStep b) [0, 1]

/-- Send the `j`-th low partner the rows it keeps. -/
def sendRs1 (d : Dev nD) (c : Fin 2) (j : Fin 7) : P F PUnit :=
  Prog.lift (.enqueueDma (srcRs1 d c j) (.remote (Dev.tc (peerLo d j)) (dstRs1 c j) (.dma (sem8 cc0_scratch6 c j))) (.dma (sem8 cc0_scratch7 c j))
    (we_srcRs1 d c j) (we_dstRs1 c j) ⟨⟨rfl, Or.inl rfl⟩, trivial⟩)

def startRs1 (d : Dev nD) (c : Fin 2) : P F PUnit := do
  let a : Vec F S1x256x576 .f32 ← Prog.lift (.load accM (rAll576 c).toLoadRect (View.loadsAt_vmem h_S1x256x576))
  let _ : Vec F S1x256x576 .bf16 ← Prog.lift (.load sndM (rAll576 c).toLoadRect (View.loadsAt_vmem h_S1x256x576))
  Prog.lift (.store sndM (rAll576 c) (k0_pay20 a) Finset.univ (View.stores_vmem h_S1x256x576 ((Memref.isWhole_whole _).storeExact_slice rfl _ (pk_all576 c)) (fun _ => rfl)) (.inl rfl))
  each (sendRs1 d c) all7

def waitRs1 (d : Dev nD) (c : Fin 2) (j : Fin 7) : P F PUnit := do
  Prog.lift (.waitDma2 (sem8 cc0_scratch6 c j) (dstRs1 c j) (srcRs1 d c j) (we_dstRs1 c j) (we_srcRs1 d c j))
  Prog.lift (.waitDma2 (sem8 cc0_scratch7 c j) (srcRs1 d c j) (dstRs1 c j) (we_srcRs1 d c j) (we_dstRs1 c j))

abbrev loadR1 (c : Fin 2) (j : Fin 7) : P F (Vec F S1x1x32x576 .bf16) :=
  Prog.lift (.load r1M (rR1 c j).toLoadRect (View.loadsAt_vmem h_S1x1x32x576))

/-- Add what the seven partners sent to this device's own rows. -/
def addRs1 (d : Dev nD) (c : Fin 2) : P F PUnit := do
  let a : Vec F S1x32x576 .f32 ← Prog.lift (.load accM (rBlk d c).toLoadRect (View.loadsAt_vmem h_S1x32x576))
  let r1 ← loadR1 c 0
  let r2 ← loadR1 c 1
  let r3 ← loadR1 c 2
  let r4 ← loadR1 c 3
  let r5 ← loadR1 c 4
  let r6 ← loadR1 c 5
  let r7 ← loadR1 c 6
  let _ : Vec F S1x32x576 .f32 ← Prog.lift (.load accM (rBlk d c).toLoadRect (View.loadsAt_vmem h_S1x32x576))
  Prog.lift (.store accM (rBlk d c) (k0_pay38 (k0_pay36 a r1) (k0_pay37 r2) r3 r4 r5 r6 r7) Finset.univ (View.stores_vmem_bits_univ h_S1x32x576 rfl) (.inl rfl))

def sendRs2 (d : Dev nD) (c : Fin 2) (j : Fin 3) : P F PUnit :=
  Prog.lift (.enqueueDma (srcRs2 d c j) (.remote (Dev.tc (peerHi d j)) (dstRs2 c j) (.dma (sem4 cc0_scratch8 c j))) (.dma (sem4 cc0_scratch9 c j))
    (we_srcRs2 d c j) (we_dstRs2 c j) ⟨⟨rfl, Or.inl rfl⟩, trivial⟩)

def startRs2 (d : Dev nD) (c : Fin 2) : P F PUnit := do
  let a : Vec F S1x32x576 .f32 ← Prog.lift (.load accM (rBlk d c).toLoadRect (View.loadsAt_vmem h_S1x32x576))
  let _ : Vec F S1x32x576 .bf16 ← Prog.lift (.load sndM (rTop32 c).toLoadRect (View.loadsAt_vmem h_S1x32x576))
  Prog.lift (.store sndM (rTop32 c) (k0_pay43 a) Finset.univ (View.stores_vmem h_S1x32x576 ((Memref.isWhole_whole _).storeExact_slice rfl _ (pk_top32 c)) (fun _ => rfl)) (.inl rfl))
  each (sendRs2 d c) all3

def waitRs2 (d : Dev nD) (c : Fin 2) (j : Fin 3) : P F PUnit := do
  Prog.lift (.waitDma2 (sem4 cc0_scratch8 c j) (dstRs2 c j) (srcRs2 d c j) (we_dstRs2 c j) (we_srcRs2 d c j))
  Prog.lift (.waitDma2 (sem4 cc0_scratch9 c j) (srcRs2 d c j) (dstRs2 c j) (we_srcRs2 d c j) (we_dstRs2 c j))

abbrev loadR2 (c : Fin 2) (j : Fin 3) : P F (Vec F S1x1x8x576 .bf16) :=
  Prog.lift (.load r2M (rR2 c j).toLoadRect (View.loadsAt_vmem h_S1x1x8x576))

def addRs2 (d : Dev nD) (c : Fin 2) : P F PUnit := do
  let a : Vec F S1x8x576 .f32 ← Prog.lift (.load accM (rSeg d c).toLoadRect (View.loadsAt_vmem h_S1x8x576))
  let r1 ← loadR2 c 0
  let r2 ← loadR2 c 1
  let r3 ← loadR2 c 2
  let _ : Vec F S1x8x576 .f32 ← Prog.lift (.load accM (rSeg d c).toLoadRect (View.loadsAt_vmem h_S1x8x576))
  Prog.lift (.store accM (rSeg d c) (k0_pay44 a r1 r2 r3) Finset.univ (View.stores_vmem_bits_univ h_S1x8x576 rfl) (.inl rfl))

/-- Divide one head's numerator by its denominator. -/
def normStep (d : Dev nD) (c : Fin 2) (h : Fin 8) : P F PUnit := do
  let o : Vec F S1x8x64 .f32 ← Prog.lift (.load accM (rSegO d c h).toLoadRect (View.loadsAt_vmem h_S1x8x64))
  let l : Vec F S1x8x1 .f32 ← Prog.lift (.load accM (rSegL d c h).toLoadRect (View.loadsAt_vmem h_S1x8x1))
  let _ : Vec F S1x8x64 .bf16 ← Prog.lift (.load nrM (rSegH d c h).toLoadRect (View.loadsAt_vmem h_S1x8x64))
  Prog.lift (.store nrM (rSegH d c h) (k0_pay47 o l) Finset.univ (View.stores_vmem h_S1x8x64 ((Memref.isWhole_whole _).storeExact_slice rfl _ (pk_segH d c h)) (fun _ => rfl)) (.inl rfl))

def normalise (d : Dev nD) (c : Fin 2) : P F PUnit := each (normStep d c) [0, 1, 2, 3, 4, 5, 6, 7]

def sendAg1 (d : Dev nD) (c : Fin 2) (j : Fin 3) : P F PUnit :=
  Prog.lift (.enqueueDma (segAg d c) (.remote (Dev.tc (peerHi d j)) (segAg d c) (.dma (sem4 cc0_scratch10 c j))) (.dma (sem4 cc0_scratch11 c j))
    (we_segAg d c) (we_segAg d c) ⟨⟨rfl, Or.inl rfl⟩, trivial⟩)

def waitAg1 (d : Dev nD) (c : Fin 2) (j : Fin 3) : P F PUnit := do
  Prog.lift (.waitDma2 (sem4 cc0_scratch10 c j) (segAg d c) (segAg d c) (we_segAg d c) (we_segAg d c))
  Prog.lift (.waitDma2 (sem4 cc0_scratch11 c j) (segAg d c) (segAg d c) (we_segAg d c) (we_segAg d c))

def sendAg2 (d : Dev nD) (c : Fin 2) (j : Fin 7) : P F PUnit :=
  Prog.lift (.enqueueDma (blkAg d c) (.remote (Dev.tc (peerLo d j)) (blkAg d c) (.dma (sem8 cc0_scratch12 c j))) (.dma (sem8 cc0_scratch13 c j))
    (we_blkAg d c) (we_blkAg d c) ⟨⟨rfl, Or.inl rfl⟩, trivial⟩)

def waitAg2 (d : Dev nD) (c : Fin 2) (j : Fin 7) : P F PUnit := do
  Prog.lift (.waitDma2 (sem8 cc0_scratch12 c j) (blkAg d c) (blkAg d c) (we_blkAg d c) (we_blkAg d c))
  Prog.lift (.waitDma2 (sem8 cc0_scratch13 c j) (blkAg d c) (blkAg d c) (we_blkAg d c) (we_blkAg d c))

/-- Project one batch onto the output. -/
def project (wo : Vec F S512x768 .bf16) (c : Fin 2) : P F PUnit := do
  let n : Vec F S1x256x512 .bf16 ← Prog.lift (.load nrM (rAll512 c).toLoadRect (View.loadsAt_vmem h_S1x256x512))
  let _ : Vec F S1x256x768 .f32 ← Prog.lift (.load outM (rAll768 c).toLoadRect (View.loadsAt_vmem h_S1x256x768))
  Prog.lift (.store outM (rAll768 c) (k0_pay1 (k0_pay4 wo) n) Finset.univ (View.stores_vmem_bits_univ h_S1x256x768 rfl) (.inl rfl))

/-- The whole body. -/
def phases : P F PUnit := do
  let d : Dev nD ← Prog.lift .deviceId
  each (enterLo d) all7
  each (enterHi d) all3
  queries
  let wo : Vec F S512x768 .bf16 ← Prog.lift (.load woM (Rect.unit (s := S512x768) ![0, 0] S512x768.size inb_S512x768_S512x768_0_0).toLoadRect (View.loadsAt_vmem h_S512x768))
  partials 0
  semWaitWord barS 10#32
  startRs1 d 0
  partials 1
  startRs1 d 1
  each (waitRs1 d 0) all7
  addRs1 d 0
  startRs2 d 0
  each (waitRs1 d 1) all7
  addRs1 d 1
  startRs2 d 1
  each (waitRs2 d 0) all3
  addRs2 d 0
  normalise d 0
  each (sendAg1 d 0) all3
  each (waitRs2 d 1) all3
  addRs2 d 1
  normalise d 1
  each (sendAg1 d 1) all3
  each (waitAg1 d 0) all3
  each (sendAg2 d 0) all7
  each (waitAg1 d 1) all3
  each (sendAg2 d 1) all7
  each (waitAg2 d 0) all7
  project wo 0
  each (waitAg2 d 1) all7
  project wo 1

end Cert.KernelIdeal.Ring

end
-- ==== Proof.Regions.lean ====
/- Which rows of a buffer each rectangle covers, and how the rows are shared out among the devices.

   A buffer of 256 rows per batch is cut into 32 segments of 8 rows, one for each device; `segOf d` is the number of the
   segment device `d` keeps. The eight devices of a low group own the eight blocks of four segments. -/
module

public import proofs.«01_k».proof.Proof.Phases
public import Idealize.ShloMosaic.Lib.Exec.Geometry
public import Idealize.ShloMosaic.Lib.ValueLayout

@[expose] public section

noncomputable section

namespace Cert.KernelIdeal.Ring

open Idealize.ShloMosaic Idealize.ShloMosaic.ValueIdx Cert.KernelIdeal.Gen

/-! ## Segments -/

/-- The segment a device keeps. -/
def segOf (d : Dev nD) : Fin 32 := ⟨d.val % 8 * 4 + d.val / 8, by have : d.val < 32 := d.isLt; omega⟩
/-- The segment itself, the block of four it lies in, and a segment of the top block, as sets. -/
def segT (d : Dev nD) : Finset (Fin 32) := {segOf d}
def blkT (d : Dev nD) : Finset (Fin 32) := Finset.univ.filter fun t => t.val / 4 = d.val % 8
def topT (d : Dev nD) : Finset (Fin 32) := Finset.univ.filter fun t => t.val = d.val / 8
/-- The top block of four segments. -/
def topB : Finset (Fin 32) := Finset.univ.filter fun t => t.val < 4
/-- The first row of a device's segment within a block. -/
def hiN (d : Dev nD) : Nat := d.val / 8 * 8

theorem peerLo_peerLo : ∀ (d : Dev nD) (j : Fin 7), peerLo (peerLo d j) j = d := by decide +kernel
theorem peerHi_peerHi : ∀ (d : Dev nD) (j : Fin 3), peerHi (peerHi d j) j = d := by decide +kernel
theorem peerLo_ne : ∀ (d : Dev nD) (j : Fin 7), peerLo d j ≠ d := by decide +kernel
theorem peerHi_ne : ∀ (d : Dev nD) (j : Fin 3), peerHi d j ≠ d := by decide +kernel

theorem blkN_eq : ∀ d : Dev nD, blkN d = d.val % 8 * 32 := by decide +kernel
theorem segN_eq : ∀ d : Dev nD, segN d = (segOf d).val * 8 := by decide +kernel
theorem loSrcN_eq : ∀ (d : Dev nD) (j : Fin 7), loSrcN d j = blkN (peerLo d j) := by decide +kernel
theorem hiSrcN_eq : ∀ (d : Dev nD) (j : Fin 3), hiSrcN d j = hiN (peerHi d j) := by decide +kernel

theorem mem_segT (d : Dev nD) (t : Fin 32) : t ∈ segT d ↔ segN d ≤ 8 * t.val ∧ 8 * t.val < segN d + 8 := by
  rw [segN_eq, segT, Finset.mem_singleton, Fin.ext_iff]; omega
theorem mem_blkT (d : Dev nD) (t : Fin 32) : t ∈ blkT d ↔ blkN d ≤ 8 * t.val ∧ 8 * t.val < blkN d + 32 := by
  rw [blkN_eq, blkT, Finset.mem_filter]; simp only [Finset.mem_univ, true_and]; omega
theorem mem_topT (d : Dev nD) (t : Fin 32) : t ∈ topT d ↔ hiN d ≤ 8 * t.val ∧ 8 * t.val < hiN d + 8 := by
  rw [hiN, topT, Finset.mem_filter]; simp only [Finset.mem_univ, true_and]; omega
theorem mem_topB (t : Fin 32) : t ∈ topB ↔ 0 ≤ 8 * t.val ∧ 8 * t.val < 0 + 32 := by
  rw [topB, Finset.mem_filter]; simp only [Finset.mem_univ, true_and]; omega

/-- How a device's segments are shared out in the barrier: its own, its low partners' blocks, its high partners' segments. -/
def share : Dev nD → Option (Fin 7 ⊕ Fin 3) → Finset (Fin 32)
  | d, none => segT d
  | d, some (.inl j) => blkT (peerLo d j)
  | d, some (.inr j) => segT (peerHi d j)
/-- A device's four high segments: its own and its partners'. -/
def shareHi : Dev nD → Option (Fin 3) → Finset (Fin 32)
  | d, none => segT d
  | d, some j => segT (peerHi d j)
/-- A device's eight blocks: its own and its low partners'. -/
def shareLo : Dev nD → Option (Fin 7) → Finset (Fin 32)
  | d, none => blkT d
  | d, some j => blkT (peerLo d j)
/-- The rows sent in the second reduce-scatter, and the rest. -/
def shareTop : Dev nD → Option (Fin 3) → Finset (Fin 32)
  | d, none => Finset.univ \ (Finset.univ : Finset (Fin 3)).biUnion fun j => topT (peerHi d j)
  | d, some j => topT (peerHi d j)

theorem share_disj : ∀ (d : Dev nD) (i j : Option (Fin 7 ⊕ Fin 3)), i ≠ j → Disjoint (share d i) (share d j) := by decide +kernel
theorem share_cover : ∀ d : Dev nD, (Finset.univ : Finset (Option (Fin 7 ⊕ Fin 3))).biUnion (share d) = Finset.univ := by decide +kernel
theorem shareHi_disj : ∀ (d : Dev nD) (i j : Option (Fin 3)), i ≠ j → Disjoint (shareHi d i) (shareHi d j) := by decide +kernel
theorem shareHi_cover : ∀ d : Dev nD, (Finset.univ : Finset (Option (Fin 3))).biUnion (shareHi d) = blkT d := by decide +kernel
theorem shareLo_disj : ∀ (d : Dev nD) (i j : Option (Fin 7)), i ≠ j → Disjoint (shareLo d i) (shareLo d j) := by decide +kernel
theorem shareLo_cover : ∀ d : Dev nD, (Finset.univ : Finset (Option (Fin 7))).biUnion (shareLo d) = Finset.univ := by decide +kernel
theorem shareTop_disj : ∀ (d : Dev nD) (i j : Option (Fin 3)), i ≠ j → Disjoint (shareTop d i) (shareTop d j) := by decide +kernel
theorem shareTop_cover : ∀ d : Dev nD, (Finset.univ : Finset (Option (Fin 3))).biUnion (shareTop d) = Finset.univ := by decide +kernel

/-! ## Rows -/

/-- The rows of batch `c` lying in the segments `T`, in a buffer of `n` columns. -/
def rows (n : Nat) (c : Fin 2) (T : Finset (Fin 32)) : Finset (⟨3, ![2, 256, n]⟩ : Shape).Idx :=
  Finset.univ.filter fun i => (i 0).val = c.val ∧ ∃ t ∈ T, (i 1).val / 8 = t.val

theorem mem_rows {n : Nat} {c : Fin 2} {T : Finset (Fin 32)} {i : (⟨3, ![2, 256, n]⟩ : Shape).Idx} :
    i ∈ rows n c T ↔ (i 0).val = c.val ∧ ∃ t ∈ T, (i 1).val / 8 = t.val := by
  rw [rows, Finset.mem_filter]; simp only [Finset.mem_univ, true_and]

theorem lt256 {n : Nat} (i : (⟨3, ![2, 256, n]⟩ : Shape).Idx) : (i 1).val < 256 := (i 1).isLt
theorem lt2 {n : Nat} (i : (⟨3, ![2, 256, n]⟩ : Shape).Idx) : (i 0).val < 2 := (i 0).isLt
theorem ltn {n : Nat} (i : (⟨3, ![2, 256, n]⟩ : Shape).Idx) : (i 2).val < n := (i 2).isLt

theorem rows_disjoint {n : Nat} (c : Fin 2) {S T : Finset (Fin 32)} (h : Disjoint S T) : Disjoint (rows n c S) (rows n c T) := by
  rw [Finset.disjoint_left]
  intro i h₁ h₂
  obtain ⟨-, t, ht, e⟩ := mem_rows.1 h₁
  obtain ⟨-, t', ht', e'⟩ := mem_rows.1 h₂
  have : t = t' := Fin.ext (e.symm.trans e')
  exact Finset.disjoint_left.1 h ht (this ▸ ht')

theorem rows_disjoint_batch {n : Nat} {c c' : Fin 2} (h : c ≠ c') (S T : Finset (Fin 32)) : Disjoint (rows n c S) (rows n c' T) := by
  rw [Finset.disjoint_left]
  intro i h₁ h₂
  exact h (Fin.ext ((mem_rows.1 h₁).1.symm.trans (mem_rows.1 h₂).1))

theorem rows_mono {n : Nat} (c : Fin 2) {S T : Finset (Fin 32)} (h : S ⊆ T) : rows n c S ⊆ rows n c T := fun _ hi =>
  let ⟨h0, t, ht, e⟩ := mem_rows.1 hi
  mem_rows.2 ⟨h0, t, h ht, e⟩

theorem rows_biUnion {ι : Type} [Fintype ι] (n : Nat) (c : Fin 2) (T : ι → Finset (Fin 32)) :
    (Finset.univ : Finset ι).biUnion (fun i => rows n c (T i)) = rows n c (Finset.univ.biUnion T) := by
  ext i
  simp only [Finset.mem_biUnion, Finset.mem_univ, true_and, mem_rows]
  constructor
  · rintro ⟨a, h, t, ht, e⟩; exact ⟨h, t, ⟨a, ht⟩, e⟩
  · rintro ⟨h, t, ⟨a, ht⟩, e⟩; exact ⟨a, h, t, ht, e⟩

theorem mem_rows_univ {n : Nat} {c : Fin 2} {i : (⟨3, ![2, 256, n]⟩ : Shape).Idx} : i ∈ rows n c Finset.univ ↔ (i 0).val = c.val := by
  rw [mem_rows]
  exact ⟨fun h => h.1, fun h => ⟨h, ⟨(i 1).val / 8, by have := lt256 i; omega⟩, Finset.mem_univ _, rfl⟩⟩

/-- The two batches are the whole buffer. -/
theorem rows_batches (n : Nat) : (Finset.univ : Finset (Fin 2)).biUnion (fun c => rows n c Finset.univ) = Finset.univ := by
  ext i
  simp only [Finset.mem_biUnion, Finset.mem_univ, true_and, iff_true]
  exact ⟨i 0, mem_rows_univ.2 rfl⟩

/-- A rectangle of whole segments, all columns, is their rows. -/
theorem unit_eq_rows {n : Nat} (c : Fin 2) (o k : Nat) (T : Finset (Fin 32)) (ho : o % 8 = 0) (hk : k % 8 = 0)
    (hT : ∀ t : Fin 32, t ∈ T ↔ o ≤ 8 * t.val ∧ 8 * t.val < o + k)
    (inb : ∀ a, (![c.val, o, 0] : Fin 3 → Nat) a + (![1, k, n] : Fin 3 → Nat) a ≤ (⟨3, ![2, 256, n]⟩ : Shape).size a) :
    (Rect.unit (s := ⟨3, ![2, 256, n]⟩) ![c.val, o, 0] ![1, k, n] inb).set = rows n c T := by
  ext i
  rw [Rect.mem_set_unit, mem_rows]
  have hn := ltn i
  have h256 := lt256 i
  constructor
  · intro h
    have h0 : c.val ≤ (i 0).val ∧ (i 0).val < c.val + 1 := h 0
    have h1 : o ≤ (i 1).val ∧ (i 1).val < o + k := h 1
    exact ⟨by omega, ⟨(i 1).val / 8, by omega⟩, (hT _).2 ⟨by show o ≤ 8 * ((i 1).val / 8); omega, by show 8 * ((i 1).val / 8) < o + k; omega⟩, rfl⟩
  · rintro ⟨h0, t, ht, e⟩ a
    obtain ⟨h1, h2⟩ := (hT t).1 ht
    match a with
    | 0 => show c.val ≤ (i 0).val ∧ (i 0).val < c.val + 1; omega
    | 1 => show o ≤ (i 1).val ∧ (i 1).val < o + k; omega
    | 2 => show 0 ≤ (i 2).val ∧ (i 2).val < 0 + n; omega

theorem set_all576 (c : Fin 2) : (rAll576 c).set = rows 576 c Finset.univ :=
  unit_eq_rows c 0 256 _ rfl rfl (fun t => by simp only [Finset.mem_univ, true_iff]; omega) _
theorem set_all512 (c : Fin 2) : (rAll512 c).set = rows 512 c Finset.univ :=
  unit_eq_rows c 0 256 _ rfl rfl (fun t => by simp only [Finset.mem_univ, true_iff]; omega) _
theorem set_all768 (c : Fin 2) : (rAll768 c).set = rows 768 c Finset.univ :=
  unit_eq_rows c 0 256 _ rfl rfl (fun t => by simp only [Finset.mem_univ, true_iff]; omega) _
theorem set_top32 (c : Fin 2) : (rTop32 c).set = rows 576 c topB := unit_eq_rows c 0 32 _ rfl rfl mem_topB _
theorem set_blk (d : Dev nD) (c : Fin 2) : (rBlk d c).set = rows 576 c (blkT d) :=
  unit_eq_rows c (blkN d) 32 _ (by rw [blkN_eq]; omega) rfl (mem_blkT d) _
theorem set_loSrc (d : Dev nD) (c : Fin 2) (j : Fin 7) : (rLoSrc d c j).set = rows 576 c (blkT (peerLo d j)) :=
  unit_eq_rows c (loSrcN d j) 32 _ (by rw [loSrcN_eq, blkN_eq]; omega) rfl (by rw [loSrcN_eq]; exact mem_blkT _) _
theorem set_seg (d : Dev nD) (c : Fin 2) : (rSeg d c).set = rows 576 c (segT d) :=
  unit_eq_rows c (segN d) 8 _ (by rw [segN_eq]; omega) rfl (mem_segT d) _
theorem set_hiSrc (d : Dev nD) (c : Fin 2) (j : Fin 3) : (rHiSrc d c j).set = rows 576 c (topT (peerHi d j)) :=
  unit_eq_rows c (hiSrcN d j) 8 _ (by rw [hiSrcN_eq, hiN]; omega) rfl (by rw [hiSrcN_eq]; exact mem_topT _) _
theorem set_segN (d : Dev nD) (c : Fin 2) : (rSegN d c).set = rows 512 c (segT d) :=
  unit_eq_rows c (segN d) 8 _ (by rw [segN_eq]; omega) rfl (mem_segT d) _
theorem set_blkN (d : Dev nD) (c : Fin 2) : (rBlkN d c).set = rows 512 c (blkT d) :=
  unit_eq_rows c (blkN d) 32 _ (by rw [blkN_eq]; omega) rfl (mem_blkT d) _

/-- A rectangle of whole segments, some columns, lies in their rows. -/
theorem unit_subset_rows {n : Nat} (c : Fin 2) (o k p w : Nat) (T : Finset (Fin 32))
    (hT : ∀ t : Fin 32, o < 8 * t.val + 8 → 8 * t.val < o + k → t ∈ T)
    (inb : ∀ a, (![c.val, o, p] : Fin 3 → Nat) a + (![1, k, w] : Fin 3 → Nat) a ≤ (⟨3, ![2, 256, n]⟩ : Shape).size a) :
    (Rect.unit (s := ⟨3, ![2, 256, n]⟩) ![c.val, o, p] ![1, k, w] inb).set ⊆ rows n c T := by
  intro i hi
  rw [Rect.mem_set_unit] at hi
  have h256 := lt256 i
  have h0 : c.val ≤ (i 0).val ∧ (i 0).val < c.val + 1 := hi 0
  have h1 : o ≤ (i 1).val ∧ (i 1).val < o + k := hi 1
  exact mem_rows.2 ⟨by omega, ⟨(i 1).val / 8, by omega⟩, hT _ (by show o < 8 * ((i 1).val / 8) + 8; omega) (by show 8 * ((i 1).val / 8) < o + k; omega), rfl⟩

theorem sub_ah (b : Fin 2) (h : Fin 8) : (rAh b h).set ⊆ rows 576 b Finset.univ :=
  unit_subset_rows b 0 256 (72 * h.val) 72 _ (fun _ _ _ => Finset.mem_univ _) _
theorem seg_aux (d : Dev nD) (t : Fin 32) (h₁ : segN d < 8 * t.val + 8) (h₂ : 8 * t.val < segN d + 8) : t ∈ segT d :=
  (mem_segT d t).2 ⟨by rw [segN_eq] at *; omega, h₂⟩
theorem sub_segO (d : Dev nD) (c : Fin 2) (h : Fin 8) : (rSegO d c h).set ⊆ rows 576 c (segT d) :=
  unit_subset_rows c (segN d) 8 (72 * h.val) 64 _ (seg_aux d) _
theorem sub_segL (d : Dev nD) (c : Fin 2) (h : Fin 8) : (rSegL d c h).set ⊆ rows 576 c (segT d) :=
  unit_subset_rows c (segN d) 8 (72 * h.val + 64) 1 _ (seg_aux d) _
theorem sub_segH (d : Dev nD) (c : Fin 2) (h : Fin 8) : (rSegH d c h).set ⊆ rows 512 c (segT d) :=
  unit_subset_rows c (segN d) 8 (64 * h.val) 64 _ (seg_aux d) _

/-! ## Slots -/

/-- Slot `s` of batch `c`, in a buffer of `k` slots of `m` rows. -/
def slots (k m : Nat) (c : Fin 2) (s : Fin k) : Finset (⟨4, ![2, k, m, 576]⟩ : Shape).Idx :=
  Finset.univ.filter fun i => (i 0).val = c.val ∧ (i 1).val = s.val

theorem mem_slots {k m : Nat} {c : Fin 2} {s : Fin k} {i : (⟨4, ![2, k, m, 576]⟩ : Shape).Idx} :
    i ∈ slots k m c s ↔ (i 0).val = c.val ∧ (i 1).val = s.val := by
  rw [slots, Finset.mem_filter]; simp only [Finset.mem_univ, true_and]

theorem slots_disj {k m : Nat} (x y : Fin 2 × Fin k) (h : x ≠ y) : Disjoint (slots k m x.1 x.2) (slots k m y.1 y.2) := by
  rw [Finset.disjoint_left]
  intro i h₁ h₂
  obtain ⟨a, b⟩ := mem_slots.1 h₁
  obtain ⟨a', b'⟩ := mem_slots.1 h₂
  exact h (Prod.ext (Fin.ext (a.symm.trans a')) (Fin.ext (b.symm.trans b')))

theorem slots_cover (k m : Nat) : (Finset.univ : Finset (Fin 2 × Fin k)).biUnion (fun x => slots k m x.1 x.2) = Finset.univ := by
  ext i
  simp only [Finset.mem_biUnion, Finset.mem_univ, true_and, iff_true]
  exact ⟨(i 0, i 1), mem_slots.2 ⟨rfl, rfl⟩⟩

theorem unit_eq_slots {k m : Nat} (c : Fin 2) (s : Fin k)
    (inb : ∀ a, (![c.val, s.val, 0, 0] : Fin 4 → Nat) a + (![1, 1, m, 576] : Fin 4 → Nat) a ≤ (⟨4, ![2, k, m, 576]⟩ : Shape).size a) :
    (Rect.unit (s := ⟨4, ![2, k, m, 576]⟩) ![c.val, s.val, 0, 0] ![1, 1, m, 576] inb).set = slots k m c s := by
  ext i
  rw [Rect.mem_set_unit, mem_slots]
  constructor
  · intro h
    have h0 : c.val ≤ (i 0).val ∧ (i 0).val < c.val + 1 := h 0
    have h1 : s.val ≤ (i 1).val ∧ (i 1).val < s.val + 1 := h 1
    omega
  · rintro ⟨h0, h1⟩ a
    have h2 : (i 2).val < m := (i 2).isLt
    have h3 : (i 3).val < 576 := (i 3).isLt
    match a with
    | 0 => show c.val ≤ (i 0).val ∧ (i 0).val < c.val + 1; omega
    | 1 => show s.val ≤ (i 1).val ∧ (i 1).val < s.val + 1; omega
    | 2 => show 0 ≤ (i 2).val ∧ (i 2).val < 0 + m; omega
    | 3 => show 0 ≤ (i 3).val ∧ (i 3).val < 0 + 576; omega

/-- Slot `1 + j`. -/
abbrev sl7 (j : Fin 7) : Fin 8 := ⟨1 + j.val, by omega⟩
abbrev sl3 (j : Fin 3) : Fin 4 := ⟨1 + j.val, by omega⟩

theorem set_r1 (c : Fin 2) (j : Fin 7) : (rR1 c j).set = slots 8 32 c (sl7 j) := unit_eq_slots c (sl7 j) _
theorem set_r2 (c : Fin 2) (j : Fin 3) : (rR2 c j).set = slots 4 8 c (sl3 j) := unit_eq_slots c (sl3 j) _

/-! ## The sets of the transfers' two ends -/

theorem set_srcRs1 (d : Dev nD) (c : Fin 2) (j : Fin 7) : (srcRs1 d c j).view.set = rows 576 c (blkT (peerLo d j)) :=
  (Memref.set_view_squeeze _ _).trans ((View.set_slice_whole _ _).trans (set_loSrc d c j))
theorem set_dstRs1 (c : Fin 2) (j : Fin 7) : (dstRs1 c j).view.set = slots 8 32 c (sl7 j) :=
  (Memref.set_view_squeeze _ _).trans ((View.set_slice_whole _ _).trans (set_r1 c j))
theorem set_srcRs2 (d : Dev nD) (c : Fin 2) (j : Fin 3) : (srcRs2 d c j).view.set = rows 576 c (topT (peerHi d j)) :=
  (Memref.set_view_squeeze _ _).trans ((View.set_slice_whole _ _).trans (set_hiSrc d c j))
theorem set_dstRs2 (c : Fin 2) (j : Fin 3) : (dstRs2 c j).view.set = slots 4 8 c (sl3 j) :=
  (Memref.set_view_squeeze _ _).trans ((View.set_slice_whole _ _).trans (set_r2 c j))
theorem set_segAg (d : Dev nD) (c : Fin 2) : (segAg d c).view.set = rows 512 c (segT d) :=
  (Memref.set_view_squeeze _ _).trans ((View.set_slice_whole _ _).trans (set_segN d c))
theorem set_blkAg (d : Dev nD) (c : Fin 2) : (blkAg d c).view.set = rows 512 c (blkT d) :=
  (Memref.set_view_squeeze _ _).trans ((View.set_slice_whole _ _).trans (set_blkN d c))

end Cert.KernelIdeal.Ring

end
-- ==== Proof.Contents.lean ====
/- What each buffer holds at each stage, as a function of what the devices were given.

   Every buffer is written in coordinates, whole: what a part not yet written would hold is never used. The run holds
   each region of a buffer at these contents. -/
module

public import proofs.«01_k».proof.Proof.Regions

@[expose] public section

noncomputable section

namespace Cert.KernelIdeal.Ring

open Idealize.ShloMosaic Idealize.ShloMosaic.ValueIdx Cert.KernelIdeal.Gen

variable {F : FTy → Type} [FloatOps F] [Named F]

/-- What one device is given. -/
structure Inp (F : FTy → Type) where
  x : Vec F S2x256x768 .bf16
  wq : Vec F S768x512 .bf16
  wo : Vec F S512x768 .bf16
  k : Vec F S2x512x2x64 .bf16
  v : Vec F S2x512x2x64 .bf16

variable (I : Dev nD → Inp F)

/-- The head of keys and values a head uses. -/
def grp (h : Fin 8) : Fin 2 := ⟨h.val / 4, by omega⟩

/-- The queries. -/
def Qc (d : Dev nD) : Vec F S2x256x512 .bf16 := k0_pay2 (I d).wq (I d).x

/-- One head of one batch: 64 columns of numerator, then 8 of denominator. -/
def headC (d : Dev nD) (b : Fin 2) (h : Fin 8) : Vec F S1x256x72 .f32 :=
  k0_pay7 k0_pay3 ((kM.access (rKv b (grp h))).read (Elt F) (I d).k) ((vM.access (rKv b (grp h))).read (Elt F) (I d).v)
    ((qM.access (rQh b h)).read (Elt F) (Qc I d))

/-- The accumulator over this device's own keys. -/
def A0 (d : Dev nD) : Vec F S2x256x576 .f32 := fun i =>
  headC I d (i 0) ⟨(i 2).val / 72, by have := ltn i; omega⟩ (ix3 (0 : Fin 1) (i 1 : Fin 256) (⟨(i 2).val % 72, by omega⟩ : Fin 72))

/-- What is sent first. -/
def S1 (d : Dev nD) : Vec F S2x256x576 .bf16 := fun i =>
  k0_pay20 ((accM.access (rAll576 (i 0))).read (Elt F) (A0 I d)) (ix3 (0 : Fin 1) (i 1 : Fin 256) (i 2 : Fin 576))

/-- The device whose rows land in a slot of the first receive buffer, and of the second. -/
def fromLo (d : Dev nD) (s : Fin 8) : Dev nD := Fin.cases d (peerLo d) s
def fromHi (d : Dev nD) (s : Fin 4) : Dev nD := Fin.cases d (peerHi d) s

theorem blk_lt (d : Dev nD) : blkN d + 32 ≤ 256 := by rw [blkN_eq]; omega
theorem hi_lt (d : Dev nD) : hiN d + 8 ≤ 256 := by have : d.val < 32 := d.isLt; unfold hiN; omega
theorem seg_lt (d : Dev nD) : segN d + 8 ≤ 256 := by rw [segN_eq]; omega

/-- What arrives first. -/
def R1 (d : Dev nD) : Vec F S2x8x32x576 .bf16 := fun i =>
  S1 I (fromLo d (i 1)) (ix3 (i 0 : Fin 2) (⟨blkN d + (i 2).val, by have h : (i 2).val < 32 := (i 2).isLt; have := blk_lt d; omega⟩ : Fin 256) (i 3 : Fin 576))

/-- The sum over a low group, of a device's own 32 rows of one batch. -/
def sum1 (d : Dev nD) (c : Fin 2) : Vec F S1x32x576 .f32 :=
  let r (j : Fin 7) : Vec F S1x1x32x576 .bf16 := (r1M.access (rR1 c j)).read (Elt F) (R1 I d)
  k0_pay38 (k0_pay36 ((accM.access (rBlk d c)).read (Elt F) (A0 I d)) (r 0)) (k0_pay37 (r 1)) (r 2) (r 3) (r 4) (r 5) (r 6)

/-- The accumulator after the first reduce-scatter. -/
def A1 (d : Dev nD) : Vec F S2x256x576 .f32 := fun i =>
  if h : blkN d ≤ (i 1).val ∧ (i 1).val < blkN d + 32
    then sum1 I d (i 0) (ix3 (0 : Fin 1) (⟨(i 1).val - blkN d, by omega⟩ : Fin 32) (i 2 : Fin 576))
    else A0 I d i

/-- What is sent second: the device's own 32 rows, moved to the top. -/
def S2 (d : Dev nD) : Vec F S2x256x576 .bf16 := fun i =>
  if h : (i 1).val < 32
    then k0_pay43 ((accM.access (rBlk d (i 0))).read (Elt F) (A1 I d)) (ix3 (0 : Fin 1) (⟨(i 1).val, h⟩ : Fin 32) (i 2 : Fin 576))
    else S1 I d i

/-- What arrives second. -/
def R2 (d : Dev nD) : Vec F S2x4x8x576 .bf16 := fun i =>
  S2 I (fromHi d (i 1)) (ix3 (i 0 : Fin 2) (⟨hiN d + (i 2).val, by have h : (i 2).val < 8 := (i 2).isLt; have := hi_lt d; omega⟩ : Fin 256) (i 3 : Fin 576))

/-- The sum over all devices, of a device's own 8 rows of one batch. -/
def sum2 (d : Dev nD) (c : Fin 2) : Vec F S1x8x576 .f32 :=
  let r (j : Fin 3) : Vec F S1x1x8x576 .bf16 := (r2M.access (rR2 c j)).read (Elt F) (R2 I d)
  k0_pay44 ((accM.access (rSeg d c)).read (Elt F) (A1 I d)) (r 0) (r 1) (r 2)

/-- The accumulator after the second reduce-scatter. -/
def A2 (d : Dev nD) : Vec F S2x256x576 .f32 := fun i =>
  if h : segN d ≤ (i 1).val ∧ (i 1).val < segN d + 8
    then sum2 I d (i 0) (ix3 (0 : Fin 1) (⟨(i 1).val - segN d, by omega⟩ : Fin 8) (i 2 : Fin 576))
    else A1 I d i

/-- The device that keeps a row. -/
def owner (r : Fin 256) : Dev nD := ⟨r.val / 8 % 4 * 8 + r.val / 32, by show _ < 32; omega⟩

/-- One head of a device's own 8 rows, divided by its denominator. -/
def normC (d : Dev nD) (c : Fin 2) (h : Fin 8) : Vec F S1x8x64 .bf16 :=
  k0_pay47 ((accM.access (rSegO d c h)).read (Elt F) (A2 I d)) ((accM.access (rSegL d c h)).read (Elt F) (A2 I d))

/-- The attention output, the same on every device once gathered. -/
def G : Vec F S2x256x512 .bf16 := fun i =>
  normC I (owner (i 1)) (i 0) ⟨(i 2).val / 64, by have := ltn i; omega⟩
    (ix3 (0 : Fin 1) (⟨(i 1).val % 8, by omega⟩ : Fin 8) (⟨(i 2).val % 64, by omega⟩ : Fin 64))

/-- The result. -/
def Out (d : Dev nD) : Vec F S2x256x768 .f32 := fun i =>
  k0_pay1 (k0_pay4 (I d).wo) ((nrM.access (rAll512 (i 0))).read (Elt F) (G I)) (ix3 (0 : Fin 1) (i 1 : Fin 256) (i 2 : Fin 768))

/-! ## Reading and writing at an index -/

section Whole
variable {Val : EltTy → Type} {sig : RefSig} {κ : Kind}

/-- A store through a rectangle of a whole buffer, at an index of the rectangle. -/
theorem store_mem (b : Ref sig κ) (r : Rect b.ty.shape) (f : b.ty.Contents Val) (w : r.shape.Idx → Val b.ty.elt) (i : b.ty.shape.Idx)
    (y : r.shape.Idx) (h : r.emb y = i) : ((Memref.whole b).access r).write Val f w Finset.univ i = w y := by
  subst h
  exact View.write_emb_of_mem (v := (Memref.whole b).access r) f w (Finset.mem_univ y)

/-- The same off the rectangle. -/
theorem store_not_mem (b : Ref sig κ) (r : Rect b.ty.shape) (f : b.ty.Contents Val) (w : r.shape.Idx → Val b.ty.elt) (i : b.ty.shape.Idx)
    (h : i ∉ r.set) : ((Memref.whole b).access r).write Val f w Finset.univ i = f i :=
  View.write_of_not_mem (v := (Memref.whole b).access r) f w Finset.univ (by
    intro hi; exact h (by have := View.set_slice_whole b r; rw [← this]; exact hi))

/-- What a transfer from a slice of one whole buffer leaves in a slice of another, unit axes dropped on both sides, at an index. -/
theorem land_mem {b₁ b₂ : Ref sig κ} (r₁ : Rect b₁.ty.shape) (r₂ : Rect b₂.ty.shape) (s : Shape) (h₁ : ∀ a, r₁.stride a = 1)
    (h₂ : ∀ a, r₂.stride a = 1) (q₁ : r₁.shape.Squeezes s) (q₂ : r₂.shape.Squeezes s) (he : b₁.ty.elt = b₂.ty.elt)
    (f : b₂.ty.Contents Val) (g : b₁.ty.Contents Val) (w : s.Idx → Val b₂.ty.elt)
    (hw : ∀ y, HEq (w y) ((((Memref.whole b₁).slice r₁ h₁).squeeze s q₁).view.read Val g y)) (i : b₂.ty.shape.Idx) (y : s.Idx)
    (h : (((Memref.whole b₂).slice r₂ h₂).squeeze s q₂).view.emb y = i) :
    HEq ((((Memref.whole b₂).slice r₂ h₂).squeeze s q₂).view.write Val f w Finset.univ i) (g ((((Memref.whole b₁).slice r₁ h₁).squeeze s q₁).view.emb y)) := by
  subst h
  have := View.write_emb_of_mem (v := (((Memref.whole b₂).slice r₂ h₂).squeeze s q₂).view) f w (Finset.mem_univ y)
  rw [this]
  exact (cast_heq _ _).trans ((hw y).trans (cast_heq _ _))

end Whole

/-- Where a rectangle of a rank-3 shape places an index. -/
theorem emb3 {n0 n1 n2 p q r : Nat} (off : Fin 3 → Nat) (inb : ∀ a, off a + (![p, q, r] : Fin 3 → Nat) a ≤ (⟨3, ![n0, n1, n2]⟩ : Shape).size a)
    (x : Fin p) (y : Fin q) (z : Fin r) (i : (⟨3, ![n0, n1, n2]⟩ : Shape).Idx) (h0 : off 0 + x.val = (i 0).val) (h1 : off 1 + y.val = (i 1).val)
    (h2 : off 2 + z.val = (i 2).val) : (Rect.unit (s := ⟨3, ![n0, n1, n2]⟩) off ![p, q, r] inb).emb (ix3 x y z) = i := by
  funext a
  apply Fin.ext
  rw [Rect.emb_apply]
  match a with
  | 0 => show off 0 + 1 * x.val = _; omega
  | 1 => show off 1 + 1 * y.val = _; omega
  | 2 => show off 2 + 1 * z.val = _; omega

/-- Where a rectangle of a rank-4 shape places an index. -/
theorem emb4 {n0 n1 n2 n3 p q r t : Nat} (off : Fin 4 → Nat) (inb : ∀ a, off a + (![p, q, r, t] : Fin 4 → Nat) a ≤ (⟨4, ![n0, n1, n2, n3]⟩ : Shape).size a)
    (x : Fin p) (y : Fin q) (z : Fin r) (w : Fin t) (i : (⟨4, ![n0, n1, n2, n3]⟩ : Shape).Idx) (h0 : off 0 + x.val = (i 0).val)
    (h1 : off 1 + y.val = (i 1).val) (h2 : off 2 + z.val = (i 2).val) (h3 : off 3 + w.val = (i 3).val) :
    (Rect.unit (s := ⟨4, ![n0, n1, n2, n3]⟩) off ![p, q, r, t] inb).emb (ix4 x y z w) = i := by
  funext a
  apply Fin.ext
  rw [Rect.emb_apply]
  match a with
  | 0 => show off 0 + 1 * x.val = _; omega
  | 1 => show off 1 + 1 * y.val = _; omega
  | 2 => show off 2 + 1 * z.val = _; omega
  | 3 => show off 3 + 1 * w.val = _; omega

/-! ## The stores -/

variable {I}

theorem store_head (d : Dev nD) (b : Fin 2) (h : Fin 8) (f : Vec F S2x256x576 .f32) (i : S2x256x576.Idx) (hi : i ∈ rows 576 b Finset.univ) :
    (accM.access (rAh b h)).write (Elt F) f (headC I d b h) Finset.univ i = if (i 2).val / 72 = h.val then A0 I d i else f i := by
  obtain rfl : b = i 0 := Fin.ext (mem_rows_univ.1 hi).symm
  have hlt : (i 2).val / 72 < 8 := by have := ltn i; omega
  split
  · next e =>
    obtain rfl : h = ⟨(i 2).val / 72, hlt⟩ := Fin.ext e.symm
    exact store_mem cc0_scratch1 (rAh (i 0) _) f _ i (ix3 (0 : Fin 1) (i 1 : Fin 256) (⟨(i 2).val % 72, by omega⟩ : Fin 72))
      (emb3 _ _ _ _ _ i rfl (Nat.zero_add _) (by show 72 * ((i 2).val / 72) + (i 2).val % 72 = _; omega))
  · next e =>
    refine store_not_mem cc0_scratch1 (rAh (i 0) h) f _ i fun hm => e ?_
    have h2 : 72 * h.val ≤ (i 2).val ∧ (i 2).val < 72 * h.val + 72 := Rect.mem_set_unit.1 hm 2
    omega

theorem store_snd1 (d : Dev nD) (c : Fin 2) (f : Vec F S2x256x576 .bf16) (i : S2x256x576.Idx) (hi : i ∈ rows 576 c Finset.univ) :
    (sndM.access (rAll576 c)).write (Elt F) f (k0_pay20 ((accM.access (rAll576 c)).read (Elt F) (A0 I d))) Finset.univ i = S1 I d i := by
  obtain rfl : c = i 0 := Fin.ext (mem_rows_univ.1 hi).symm
  exact store_mem cc0_scratch2 (rAll576 (i 0)) f _ i (ix3 (0 : Fin 1) (i 1 : Fin 256) (i 2 : Fin 576))
    (emb3 _ _ _ _ _ i rfl (Nat.zero_add _) (Nat.zero_add _))

theorem store_acc1 (d : Dev nD) (c : Fin 2) (i : S2x256x576.Idx) (hi : i ∈ rows 576 c Finset.univ) :
    (accM.access (rBlk d c)).write (Elt F) (A0 I d) (sum1 I d c) Finset.univ i = A1 I d i := by
  obtain rfl : c = i 0 := Fin.ext (mem_rows_univ.1 hi).symm
  unfold A1
  split
  · next e =>
    exact store_mem cc0_scratch1 (rBlk d (i 0)) _ _ i (ix3 (0 : Fin 1) (⟨(i 1).val - blkN d, by omega⟩ : Fin 32) (i 2 : Fin 576))
      (emb3 _ _ _ _ _ i rfl (by show blkN d + ((i 1).val - blkN d) = _; omega) (Nat.zero_add _))
  · next e => exact store_not_mem cc0_scratch1 (rBlk d (i 0)) _ _ i fun hm => e (Rect.mem_set_unit.1 hm 1)

theorem store_snd2 (d : Dev nD) (c : Fin 2) (i : S2x256x576.Idx) (hi : i ∈ rows 576 c Finset.univ) :
    (sndM.access (rTop32 c)).write (Elt F) (S1 I d) (k0_pay43 ((accM.access (rBlk d c)).read (Elt F) (A1 I d))) Finset.univ i = S2 I d i := by
  obtain rfl : c = i 0 := Fin.ext (mem_rows_univ.1 hi).symm
  unfold S2
  split
  · next e =>
    exact store_mem cc0_scratch2 (rTop32 (i 0)) _ _ i (ix3 (0 : Fin 1) (⟨(i 1).val, e⟩ : Fin 32) (i 2 : Fin 576))
      (emb3 _ _ _ _ _ i rfl (Nat.zero_add _) (Nat.zero_add _))
  · next e =>
    refine store_not_mem cc0_scratch2 (rTop32 (i 0)) _ _ i fun hm => e ?_
    have h1 : 0 ≤ (i 1).val ∧ (i 1).val < 0 + 32 := Rect.mem_set_unit.1 hm 1
    omega

theorem store_acc2 (d : Dev nD) (c : Fin 2) (i : S2x256x576.Idx) (hi : i ∈ rows 576 c Finset.univ) :
    (accM.access (rSeg d c)).write (Elt F) (A1 I d) (sum2 I d c) Finset.univ i = A2 I d i := by
  obtain rfl : c = i 0 := Fin.ext (mem_rows_univ.1 hi).symm
  unfold A2
  split
  · next e =>
    exact store_mem cc0_scratch1 (rSeg d (i 0)) _ _ i (ix3 (0 : Fin 1) (⟨(i 1).val - segN d, by omega⟩ : Fin 8) (i 2 : Fin 576))
      (emb3 _ _ _ _ _ i rfl (by show segN d + ((i 1).val - segN d) = _; omega) (Nat.zero_add _))
  · next e => exact store_not_mem cc0_scratch1 (rSeg d (i 0)) _ _ i fun hm => e (Rect.mem_set_unit.1 hm 1)

theorem owner_segOf (d : Dev nD) (r : Fin 256) (h : r.val / 8 = (segOf d).val) : owner r = d := by
  have : d.val < 32 := d.isLt
  have h' : r.val / 8 = d.val % 8 * 4 + d.val / 8 := h
  have h32 : r.val / 32 = r.val / 8 / 4 := (Nat.div_div_eq_div_mul r.val 8 4).symm
  have h8 : d.val / 8 < 4 := by omega
  exact Fin.ext (by show r.val / 8 % 4 * 8 + r.val / 32 = d.val; rw [h32, h']; omega)

theorem store_norm (d : Dev nD) (c : Fin 2) (h : Fin 8) (f : Vec F S2x256x512 .bf16) (i : S2x256x512.Idx) (hi : i ∈ rows 512 c (segT d)) :
    (nrM.access (rSegH d c h)).write (Elt F) f (normC I d c h) Finset.univ i = if (i 2).val / 64 = h.val then G I i else f i := by
  obtain ⟨h0, t, ht, e1⟩ := mem_rows.1 hi
  obtain rfl : t = segOf d := Finset.mem_singleton.1 ht
  obtain rfl : c = i 0 := Fin.ext h0.symm
  have ho : owner (i 1) = d := owner_segOf d (i 1) e1
  have hs := segN_eq d
  have hlt : (i 2).val / 64 < 8 := by have := ltn i; omega
  split
  · next e =>
    obtain rfl : h = ⟨(i 2).val / 64, hlt⟩ := Fin.ext e.symm
    have e8 : segN d + (i 1).val % 8 = (i 1).val := by have e1' : (i 1).val / 8 = (segOf d).val := e1; omega
    refine (store_mem cc0_scratch5 (rSegH d (i 0) _) f _ i (ix3 (0 : Fin 1) (⟨(i 1).val % 8, by omega⟩ : Fin 8) (⟨(i 2).val % 64, by omega⟩ : Fin 64))
      (emb3 _ _ _ _ _ i rfl e8 (by show 64 * ((i 2).val / 64) + (i 2).val % 64 = _; omega))).trans ?_
    exact congrArg (fun o => normC I o (i 0) ⟨(i 2).val / 64, by have := ltn i; omega⟩
      (ix3 (0 : Fin 1) (⟨(i 1).val % 8, by omega⟩ : Fin 8) (⟨(i 2).val % 64, by omega⟩ : Fin 64))) ho.symm
  · next e =>
    refine store_not_mem cc0_scratch5 (rSegH d (i 0) h) f _ i fun hm => e ?_
    have h2 : 64 * h.val ≤ (i 2).val ∧ (i 2).val < 64 * h.val + 64 := Rect.mem_set_unit.1 hm 2
    omega

theorem store_out (d : Dev nD) (c : Fin 2) (f : Vec F S2x256x768 .f32) (i : S2x256x768.Idx) (hi : i ∈ rows 768 c Finset.univ) :
    (outM.access (rAll768 c)).write (Elt F) f (k0_pay1 (k0_pay4 (I d).wo) ((nrM.access (rAll512 c)).read (Elt F) (G I))) Finset.univ i = Out I d i := by
  obtain rfl : c = i 0 := Fin.ext (mem_rows_univ.1 hi).symm
  exact store_mem cc0_stg5_0 (rAll768 (i 0)) f _ i (ix3 (0 : Fin 1) (i 1 : Fin 256) (i 2 : Fin 768))
    (emb3 _ _ _ _ _ i rfl (Nat.zero_add _) (Nat.zero_add _))

/-! ## The landings -/

theorem fromLo_sl (d : Dev nD) (j : Fin 7) : fromLo d (sl7 j) = peerLo d j := by
  have : sl7 j = j.succ := Fin.ext (Nat.add_comm _ _)
  rw [this]; rfl
theorem fromHi_sl (d : Dev nD) (j : Fin 3) : fromHi d (sl3 j) = peerHi d j := by
  have : sl3 j = j.succ := Fin.ext (Nat.add_comm _ _)
  rw [this]; rfl

theorem land_rs1 (d : Dev nD) (c : Fin 2) (j : Fin 7) (f : Vec F S2x8x32x576 .bf16) (i : S2x8x32x576.Idx) (hi : i ∈ slots 8 32 c (sl7 j)) :
    (dstRs1 c j).view.write (Elt F) f ((srcRs1 d c j).view.read (Elt F) (S1 I d)) Finset.univ i = R1 I (peerLo d j) i := by
  obtain ⟨h0, h1⟩ := mem_slots.1 hi
  have e1 : i 1 = sl7 j := Fin.ext h1
  have hf : fromLo (peerLo d j) (i 1) = d := by rw [e1, fromLo_sl, peerLo_peerLo]
  have h2 : (i 2).val < 32 := (i 2).isLt
  unfold R1
  rw [hf]
  have hl := eq_of_heq (land_mem (Val := Elt F) (b₁ := cc0_scratch2) (b₂ := cc0_scratch3) (rLoSrc d c j) (rR1 c j) S32x576 (fun _ => rfl) (fun _ => rfl)
    squeezes_S1x32x576_S32x576 squeezes_S1x1x32x576_S32x576 rfl f (S1 I d) _ (fun _ => HEq.rfl) i (ix2 (⟨(i 2).val, h2⟩ : Fin 32) (i 3 : Fin 576))
    (by
      show (rR1 c j).emb (Shape.reshapeEquiv _ (ix2 (⟨(i 2).val, h2⟩ : Fin 32) (i 3 : Fin 576))) = i
      refine (congrArg (rR1 c j).emb (reshapeEquiv_ix2_11ab _ _ _)).trans ?_
      exact emb4 _ _ _ _ _ _ i h0.symm h1.symm (Nat.zero_add _) (Nat.zero_add _)))
  refine hl.trans (congrArg (S1 I d) ?_)
  show (rLoSrc d c j).emb (Shape.reshapeEquiv _ (ix2 (⟨(i 2).val, h2⟩ : Fin 32) (i 3 : Fin 576))) = _
  refine (congrArg (rLoSrc d c j).emb (reshapeEquiv_ix2_1ab _ _ _)).trans ?_
  exact emb3 _ _ _ _ _ _ h0.symm (by show loSrcN d j + (i 2).val = blkN (peerLo d j) + (i 2).val; rw [loSrcN_eq]) (Nat.zero_add _)

theorem land_rs2 (d : Dev nD) (c : Fin 2) (j : Fin 3) (f : Vec F S2x4x8x576 .bf16) (i : S2x4x8x576.Idx) (hi : i ∈ slots 4 8 c (sl3 j)) :
    (dstRs2 c j).view.write (Elt F) f ((srcRs2 d c j).view.read (Elt F) (S2 I d)) Finset.univ i = R2 I (peerHi d j) i := by
  obtain ⟨h0, h1⟩ := mem_slots.1 hi
  have e1 : i 1 = sl3 j := Fin.ext h1
  have hf : fromHi (peerHi d j) (i 1) = d := by rw [e1, fromHi_sl, peerHi_peerHi]
  have h2 : (i 2).val < 8 := (i 2).isLt
  unfold R2
  rw [hf]
  have hl := eq_of_heq (land_mem (Val := Elt F) (b₁ := cc0_scratch2) (b₂ := cc0_scratch4) (rHiSrc d c j) (rR2 c j) S8x576 (fun _ => rfl) (fun _ => rfl)
    squeezes_S1x8x576_S8x576 squeezes_S1x1x8x576_S8x576 rfl f (S2 I d) _ (fun _ => HEq.rfl) i (ix2 (⟨(i 2).val, h2⟩ : Fin 8) (i 3 : Fin 576))
    (by
      show (rR2 c j).emb (Shape.reshapeEquiv _ (ix2 (⟨(i 2).val, h2⟩ : Fin 8) (i 3 : Fin 576))) = i
      refine (congrArg (rR2 c j).emb (reshapeEquiv_ix2_11ab _ _ _)).trans ?_
      exact emb4 _ _ _ _ _ _ i h0.symm h1.symm (Nat.zero_add _) (Nat.zero_add _)))
  refine hl.trans (congrArg (S2 I d) ?_)
  show (rHiSrc d c j).emb (Shape.reshapeEquiv _ (ix2 (⟨(i 2).val, h2⟩ : Fin 8) (i 3 : Fin 576))) = _
  refine (congrArg (rHiSrc d c j).emb (reshapeEquiv_ix2_1ab _ _ _)).trans ?_
  exact emb3 _ _ _ _ _ _ h0.symm (by show hiSrcN d j + (i 2).val = hiN (peerHi d j) + (i 2).val; rw [hiSrcN_eq]) (Nat.zero_add _)

/-- What a view reads of one buffer, written through the same view on another, at an index of the view. -/
theorem write_read_self {sig : RefSig} {κ : Kind} {sp : Space} {s : Shape} {e : EltTy} {Val : EltTy → Type} (v : View sig κ sp s e)
    (f g : v.ty.Contents Val) (i : v.ty.Idx) (hi : i ∈ v.set) : v.write Val f (v.read Val g) Finset.univ i = g i := by
  obtain ⟨y, -, rfl⟩ := Finset.mem_map.1 hi
  rw [View.write_emb_of_mem _ _ (Finset.mem_univ y), View.read_apply, cast_cast, cast_eq]

theorem land_seg (d : Dev nD) (c : Fin 2) (f : Vec F S2x256x512 .bf16) (i : S2x256x512.Idx) (hi : i ∈ rows 512 c (segT d)) :
    (segAg d c).view.write (Elt F) f ((segAg d c).view.read (Elt F) (G I)) Finset.univ i = G I i :=
  write_read_self (segAg d c).view f (G I) i (by rw [set_segAg]; exact hi)

theorem land_blk (d : Dev nD) (c : Fin 2) (f : Vec F S2x256x512 .bf16) (i : S2x256x512.Idx) (hi : i ∈ rows 512 c (blkT d)) :
    (blkAg d c).view.write (Elt F) f ((blkAg d c).view.read (Elt F) (G I)) Finset.univ i = G I i :=
  write_read_self (blkAg d c).view f (G I) i (by rw [set_blkAg]; exact hi)

end Cert.KernelIdeal.Ring

end
-- ==== Proof.Schedule.lean ====
/- The protocol: who signals, who waits, and what each landing hands over.

   Every semaphore cell is used once. A device's barrier cell has ten duties of one unit, one for each partner; a
   partner's signal hands over the places where this device's transfers will land on it. A transfer has two cells: its
   send cell gives the source back, its receive cell hands the landed rows to their new owner. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdeal.Ring

open Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

/-! ## Transfers and cells -/

/-- A device's transfers: by stage, batch, and slot. -/
inductive Xf
  | rs1 (c : Fin 2) (j : Fin 7)
  | rs2 (c : Fin 2) (j : Fin 3)
  | ag1 (c : Fin 2) (j : Fin 3)
  | ag2 (c : Fin 2) (j : Fin 7)
deriving DecidableEq

/-- A device's partners. -/
abbrev Pr : Type := Fin 7 ⊕ Fin 3
def prt (d : Dev nD) : Pr → Dev nD
  | .inl j => peerLo d j
  | .inr j => peerHi d j
theorem prt_prt (d : Dev nD) (i : Pr) : prt (prt d i) i = d := by cases i; exacts [peerLo_peerLo _ _, peerHi_peerHi _ _]

namespace Xf
/-- The partner a transfer goes to. -/
def side : Xf → Pr
  | rs1 _ j => .inl j
  | rs2 _ j => .inr j
  | ag1 _ j => .inr j
  | ag2 _ j => .inl j
def ssem : Xf → DmaSem sig
  | rs1 c j => sem8 cc0_scratch6 c j
  | rs2 c j => sem4 cc0_scratch8 c j
  | ag1 c j => sem4 cc0_scratch10 c j
  | ag2 c j => sem8 cc0_scratch12 c j
def rsem : Xf → DmaSem sig
  | rs1 c j => sem8 cc0_scratch7 c j
  | rs2 c j => sem4 cc0_scratch9 c j
  | ag1 c j => sem4 cc0_scratch11 c j
  | ag2 c j => sem8 cc0_scratch13 c j
/-- The credit a transfer brings. -/
def N : Xf → ℕ
  | rs1 _ _ => (dstRs1 0 0).view.dmaCredit
  | rs2 _ _ => (dstRs2 0 0).view.dmaCredit
  | ag1 _ _ => (segAg 0 0).view.dmaCredit
  | ag2 _ _ => (blkAg 0 0).view.dmaCredit
/-- The order in which receive cells are waited for. -/
def lev : Xf → ℕ
  | rs1 _ _ => 2
  | rs2 _ _ => 3
  | ag1 _ _ => 4
  | ag2 _ _ => 5
/-- The transfers in program order, from each stage on. -/
abbrev from7 : List Xf := all7.map (ag2 1)
abbrev from6 : List Xf := all7.map (ag2 0) ++ from7
abbrev from5 : List Xf := all3.map (ag1 1) ++ from6
abbrev from4 : List Xf := all3.map (ag1 0) ++ from5
abbrev from3 : List Xf := all3.map (rs2 1) ++ from4
abbrev from2 : List Xf := all3.map (rs2 0) ++ from3
abbrev from1 : List Xf := all7.map (rs1 1) ++ from2
/-- All of them. -/
abbrev order : List Xf := all7.map (rs1 0) ++ from1
theorem order_nodup : order.Nodup := by decide +kernel
theorem mem_order : ∀ x : Xf, x ∈ order
  | rs1 c j => by revert c j; decide +kernel
  | rs2 c j => by revert c j; decide +kernel
  | ag1 c j => by revert c j; decide +kernel
  | ag2 c j => by revert c j; decide +kernel
instance : Fintype Xf := ⟨order.toFinset, fun x => List.mem_toFinset.2 (mem_order x)⟩
theorem univ_eq : (Finset.univ : Finset Xf) = order.toFinset := rfl
theorem N_pos (x : Xf) : 0 < x.N := by cases x <;> exact View.dmaCredit_pos _ (by decide)
end Xf

def peer (d : Dev nD) (x : Xf) : Dev nD := prt d x.side
theorem peer_peer (d : Dev nD) (x : Xf) : peer (peer d x) x = d := prt_prt d x.side

/-- A device's cells: its barrier, then its transfers' send cells, then their receive cells. -/
abbrev Ck : Type := Unit ⊕ (Xf ⊕ Xf)
abbrev Ck.bar : Ck := .inl ()
abbrev Ck.snd (x : Xf) : Ck := .inr (.inl x)
abbrev Ck.rcv (x : Xf) : Ck := .inr (.inr x)

def csem : Ck → SemLoc sig
  | .inl _ => .reg barS
  | .inr (.inl x) => .dma x.ssem
  | .inr (.inr x) => .dma x.rsem

theorem csem_inj : Function.Injective csem := by
  have h : ∀ k ∈ ([Ck.bar] ++ Xf.order.map Ck.snd ++ Xf.order.map Ck.rcv), ∀ k' ∈ ([Ck.bar] ++ Xf.order.map Ck.snd ++ Xf.order.map Ck.rcv),
      csem k = csem k' → k = k' := by decide +kernel
  have hm : ∀ k : Ck, k ∈ ([Ck.bar] ++ Xf.order.map Ck.snd ++ Xf.order.map Ck.rcv) := fun k => by
    rcases k with _ | x | x
    · exact List.mem_append_left _ (List.mem_append_left _ (List.mem_singleton.2 rfl))
    · exact List.mem_append_left _ (List.mem_append_right _ (List.mem_map_of_mem (Xf.mem_order x)))
    · exact List.mem_append_right _ (List.mem_map_of_mem (Xf.mem_order x))
  exact fun k k' e => h k (hm k) k' (hm k') e

abbrev kcell (d : Dev nD) (k : Ck) : GSem nD τ sig := ((d : Thread nD τ), csem k)

/-- Which of a device's cells a semaphore is. -/
def ofSem (s : SemLoc sig) : Option Ck := by
  classical exact if h : ∃ k, csem k = s then some h.choose else none
theorem ofSem_csem (k : Ck) : ofSem (csem k) = some k := by
  have h : ∃ k', csem k' = csem k := ⟨k, rfl⟩
  unfold ofSem
  rw [dif_pos h, csem_inj h.choose_spec]

theorem kcell_inj {d d' : Dev nD} {k k' : Ck} (h : kcell d k = kcell d' k') : d = d' ∧ k = k' :=
  ⟨congrArg (fun g : GSem nD τ sig => g.1.1) h, csem_inj (congrArg Prod.snd h)⟩

/-! ## The resources -/

variable {F : FTy → Type} [FloatOps F] [Named F]

abbrev UB : Type := URounds (GSem nD τ sig) Pr
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Rows of a device's accumulator, send buffer, attention output and result; slots of its receive buffers. -/
def accP (d : Dev nD) (c : Fin 2) (T : Finset (Fin 32)) (f : Vec F S2x256x576 .f32) : sProp 𝕄 :=
  ((d : Thread nD τ).loc cc0_scratch1) ↦[rows 576 c T]{fullShare} f
def sndP (d : Dev nD) (c : Fin 2) (T : Finset (Fin 32)) (f : Vec F S2x256x576 .bf16) : sProp 𝕄 :=
  ((d : Thread nD τ).loc cc0_scratch2) ↦[rows 576 c T]{fullShare} f
def nrP (d : Dev nD) (q : PosShare TreeShare) (c : Fin 2) (T : Finset (Fin 32)) (f : Vec F S2x256x512 .bf16) : sProp 𝕄 :=
  ((d : Thread nD τ).loc cc0_scratch5) ↦[rows 512 c T]{q} f
def outP (d : Dev nD) (c : Fin 2) (f : Vec F S2x256x768 .f32) : sProp 𝕄 :=
  ((d : Thread nD τ).loc cc0_stg5_0) ↦[rows 768 c Finset.univ]{fullShare} f
def r1P (d : Dev nD) (c : Fin 2) (s : Fin 8) (f : Vec F S2x8x32x576 .bf16) : sProp 𝕄 :=
  ((d : Thread nD τ).loc cc0_scratch3) ↦[slots 8 32 c s]{fullShare} f
def r2P (d : Dev nD) (c : Fin 2) (s : Fin 4) (f : Vec F S2x4x8x576 .bf16) : sProp 𝕄 :=
  ((d : Thread nD τ).loc cc0_scratch4) ↦[slots 4 8 c s]{fullShare} f

omit [Named F] in
instance accP_st (d c T f) : BI.Storable (upEmb : UEmb _ 𝕄) (accP (F := F) d c T f) := by unfold accP; infer_instance
omit [Named F] in
instance sndP_st (d c T f) : BI.Storable (upEmb : UEmb _ 𝕄) (sndP (F := F) d c T f) := by unfold sndP; infer_instance
omit [Named F] in
instance nrP_st (d q c T f) : BI.Storable (upEmb : UEmb _ 𝕄) (nrP (F := F) d q c T f) := by unfold nrP; infer_instance
omit [Named F] in
instance r1P_st (d c s f) : BI.Storable (upEmb : UEmb _ 𝕄) (r1P (F := F) d c s f) := by unfold r1P; infer_instance
omit [Named F] in
instance r2P_st (d c s f) : BI.Storable (upEmb : UEmb _ 𝕄) (r2P (F := F) d c s f) := by unfold r2P; infer_instance

variable (I : Dev nD → Inp F)

/-- The source of a transfer of device `d`: what its send cell gives back. -/
def srcP (d : Dev nD) : Xf → sProp 𝕄
  | .rs1 c j => sndP d c (blkT (peerLo d j)) (S1 I d)
  | .rs2 c j => sndP d c (topT (peerHi d j)) (S2 I d)
  | .ag1 c j => nrP d (Transfers.shareTokN fullShare j.val) c (segT d) (G I)
  | .ag2 c j => nrP d (Transfers.shareTokN fullShare j.val) c (blkT d) (G I)

/-- Where a transfer of device `d` lands, on the device it goes to, at any contents. -/
def dstP (d : Dev nD) : Xf → sProp 𝕄
  | .rs1 c j => iprop(∃ f, r1P (F := F) (peerLo d j) c (sl7 j) f)
  | .rs2 c j => iprop(∃ f, r2P (F := F) (peerHi d j) c (sl3 j) f)
  | .ag1 c j => iprop(∃ f, nrP (F := F) (peerHi d j) fullShare c (segT d) f)
  | .ag2 c j => iprop(∃ f, nrP (F := F) (peerLo d j) fullShare c (blkT d) f)

/-- What device `d` has once its partner's transfer has landed on it. -/
def gotP (d : Dev nD) : Xf → sProp 𝕄
  | .rs1 c j => r1P d c (sl7 j) (R1 I d)
  | .rs2 c j => r2P d c (sl3 j) (R2 I d)
  | .ag1 c j => nrP d fullShare c (segT (peerHi d j)) (G I)
  | .ag2 c j => nrP d fullShare c (blkT (peerLo d j)) (G I)

/-- What a partner's signal hands device `d`: where its transfers to that partner land. -/
def barP (d : Dev nD) : Pr → sProp 𝕄
  | .inl j => iprop(dstP (F := F) d (.rs1 0 j) ∗ dstP (F := F) d (.rs1 1 j) ∗ dstP (F := F) d (.ag2 0 j) ∗ dstP (F := F) d (.ag2 1 j))
  | .inr j => iprop(dstP (F := F) d (.rs2 0 j) ∗ dstP (F := F) d (.rs2 1 j) ∗ dstP (F := F) d (.ag1 0 j) ∗ dstP (F := F) d (.ag1 1 j))

instance srcP_st (d x) : BI.Storable (upEmb : UEmb _ 𝕄) (srcP I d x) := by cases x <;> (unfold srcP; infer_instance)
instance gotP_st (d x) : BI.Storable (upEmb : UEmb _ 𝕄) (gotP I d x) := by cases x <;> (unfold gotP; infer_instance)
omit [Named F] in
instance dstP_st (d x) : BI.Storable (upEmb : UEmb _ 𝕄) (dstP (F := F) d x) := by cases x <;> (unfold dstP; infer_instance)
omit [Named F] in
instance barP_st (d i) : BI.Storable (upEmb : UEmb _ 𝕄) (barP (F := F) d i) := by cases i <;> (unfold barP; infer_instance)

/-! ## The schedule -/

/-- The one duty of a send or receive cell. -/
abbrev one : Pr := .inl 0

def dutiesAt : Option Ck → Finset Pr
  | none => ∅
  | some (.inl _) => Finset.univ
  | some (.inr _) => {one}
def amountAt : Option Ck → ℕ
  | some (.inr (.inl x)) => x.N
  | some (.inr (.inr x)) => x.N
  | _ => 1
def payAt (d : Dev nD) : Option Ck → Pr → sProp 𝕄
  | some (.inl _), i => barP (F := F) d i
  | some (.inr (.inl x)), _ => srcP I d x
  | some (.inr (.inr x)), _ => gotP I d x
  | none, _ => iprop(emp)

theorem amountAt_pos (o : Option Ck) : 0 < amountAt o := by
  rcases o with _ | _ | x | x
  exacts [Nat.one_pos, Nat.one_pos, x.N_pos, x.N_pos]

instance payAt_st (d o i) : BI.Storable (upEmb : UEmb _ 𝕄) (payAt I d o i) := by
  rcases o with _ | _ | x | x <;> (unfold payAt; infer_instance)

def sched : Rounds.Schedule (GSem nD τ sig) Pr 𝕄 where
  duties g r := if r = 0 ∧ g.1.2 = .tc then dutiesAt (ofSem g.2) else ∅
  unitless _ := False
  amount g _ _ := amountAt (ofSem g.2)
  payload g _ i := payAt I g.1.1 (ofSem g.2) i
  amount_pos g _ _ _ := amountAt_pos _

instance sched_st (g : GSem nD τ sig) (r : ℕ) (i : Pr) : BI.Storable (upEmb : UEmb _ 𝕄) ((sched I).payload g r i) :=
  payAt_st I _ _ _

section Tables
variable (d : Dev nD)

theorem duties_k (k : Ck) : (sched I).duties (kcell d k) 0 = dutiesAt (some k) := by
  dsimp only [sched]; rw [if_pos ⟨rfl, rfl⟩, ofSem_csem]
theorem duties_later (g : GSem nD τ sig) : ∀ r, 1 ≤ r → (sched I).duties g r = ∅ :=
  fun r hr => by dsimp only [sched]; rw [if_neg fun h => by omega]
theorem amount_k (k : Ck) (i : Pr) : (sched I).amount (kcell d k) 0 i = amountAt (some k) := by
  dsimp only [sched]; rw [ofSem_csem]
theorem payload_k (k : Ck) (i : Pr) : (sched I).payload (kcell d k) 0 i = payAt I d (some k) i := by
  dsimp only [sched]; rw [ofSem_csem]
theorem expect_bar : (sched I).expect (kcell d .bar) 0 = 10 := by
  unfold Schedule.expect Schedule.amountOf
  rw [duties_k, Finset.sum_congr rfl fun i _ => amount_k I d Ck.bar i]
  show ∑ _i : Pr, 1 = 10
  rw [Finset.sum_const, Finset.card_univ]; rfl
theorem expect_x (k : Xf ⊕ Xf) : (sched I).expect (kcell d (.inr k)) 0 = amountAt (some (.inr k)) := by
  unfold Schedule.expect Schedule.amountOf
  rw [duties_k]
  show ∑ i ∈ {one}, _ = _
  rw [Finset.sum_singleton, amount_k]
theorem rest_bar : bigSep ((sched I).duties (kcell d .bar) 0 \ ∅) (fun i => (sched I).payload (kcell d .bar) 0 i) = bigSep Finset.univ (barP (F := F) d) := by
  rw [Finset.sdiff_empty, duties_k]
  exact bigSep_congr fun i _ => payload_k I d Ck.bar i
theorem rest_x (k : Xf ⊕ Xf) :
    bigSep ((sched I).duties (kcell d (.inr k)) 0 \ ∅) (fun i => (sched I).payload (kcell d (.inr k)) 0 i) = payAt I d (some (.inr k)) one := by
  rw [Finset.sdiff_empty, duties_k]
  show bigSep {one} _ = _
  rw [bigSep_singleton, payload_k]

end Tables

/-! ## What a device owes; the levels -/

/-- What the transfers still to be sent owe. -/
def oweX (d : Dev nD) : List Xf → CellTallies nD τ sig Unit
  | [] => 0
  | x :: l => oweX d l + tallyAt (kcell (peer d x) (.rcv x)) () x.N
/-- What the signals still to be given owe, and all transfers. -/
def oweB (d : Dev nD) : List Pr → CellTallies nD τ sig Unit
  | [] => oweX d Xf.order
  | i :: l => oweB d l + tallyAt (kcell (prt d i) .bar) () 1

def allPr : List Pr := all7.map .inl ++ all3.map .inr
def O₀ (d : Dev nD) : CellTallies nD τ sig Unit := oweB d allPr

def L (g : GSem nD τ sig) : Finset Unit := if g.1.2 = .tc then {()} else ∅
def levAt : Option Ck → ℕ
  | some (.inl _) => 1
  | some (.inr (.inr x)) => x.lev
  | _ => 0
def lv (g : GSem nD τ sig) (_ : Unit) : ℕ := levAt (ofSem g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (d : Dev nD) (k : Ck) (u : Unit) : lv (kcell d k) u = levAt (some k) := by unfold lv; rw [ofSem_csem]

theorem oweX_pos {d : Dev nD} : ∀ {l : List Xf} {g : GSem nD τ sig} {u : Unit}, 0 < oweX d l g u → ∃ x ∈ l, g = kcell (peer d x) (.rcv x)
  | [], g, u, h => by exact absurd h (Nat.lt_irrefl 0)
  | x :: l, g, u, h => by
    unfold oweX at h
    rw [Pi.add_apply, Finsupp.add_apply, tallyAt_apply] at h
    by_cases hg : g = kcell (peer d x) (.rcv x) ∧ u = ()
    · exact ⟨x, List.mem_cons_self, hg.1⟩
    · rw [if_neg hg, Nat.add_zero] at h
      obtain ⟨y, hy, e⟩ := oweX_pos h
      exact ⟨y, List.mem_cons_of_mem _ hy, e⟩

theorem oweB_pos {d : Dev nD} : ∀ {l : List Pr} {g : GSem nD τ sig} {u : Unit}, 0 < oweB d l g u →
    (∃ n, g = kcell n .bar) ∨ ∃ x ∈ Xf.order, g = kcell (peer d x) (.rcv x)
  | [], g, u, h => .inr (oweX_pos h)
  | i :: l, g, u, h => by
    unfold oweB at h
    rw [Pi.add_apply, Finsupp.add_apply, tallyAt_apply] at h
    by_cases hg : g = kcell (prt d i) .bar ∧ u = ()
    · exact .inl ⟨_, hg.1⟩
    · rw [if_neg hg, Nat.add_zero] at h
      exact oweB_pos h

omit [FloatOps F] [Named F] in
/-- A device may wait for a cell while it owes only transfers of a higher level. -/
theorem mayWait_x (d : Dev nD) (s : SemLoc sig) (l : List Xf) (h : ∀ x ∈ l, levAt (ofSem s) < x.lev) :
    (levAts L lv : sProp 𝕄) ⊢ MayWait (d : Thread nD τ) s () (oweX d l) :=
  MayOwe.of_cut (L := L) (lev := lv) (levAt (ofSem s)) (fun p hp => by rw [Finset.mem_singleton.mp hp, L_tc]; exact Finset.mem_singleton_self _)
    (fun g u hg => by obtain ⟨x, -, rfl⟩ := oweX_pos hg; rw [L_tc]; exact Finset.mem_singleton_self _)
    (fun p hp => by rw [Finset.mem_singleton.mp hp]; exact le_rfl)
    (fun g u hg => by obtain ⟨x, hx, rfl⟩ := oweX_pos hg; rw [lv_k]; exact h x hx)

theorem Xf.lev_pos : ∀ x : Xf, 1 < x.lev
  | .rs1 _ _ => Nat.lt_add_of_pos_right (n := 1) Nat.one_pos
  | .rs2 _ _ => Nat.lt_add_of_pos_right (n := 1) (k := 2) Nat.two_pos
  | .ag1 _ _ => Nat.lt_add_of_pos_right (n := 1) (k := 3) (Nat.succ_pos _)
  | .ag2 _ _ => Nat.lt_add_of_pos_right (n := 1) (k := 4) (Nat.succ_pos _)

omit [FloatOps F] [Named F] in
/-- Before the body and after it, a device may wait for a cell outside the protocol. -/
theorem mayWait_stage (d : Dev nD) (s : SemLoc sig) (hs : ofSem s = none) (O : CellTallies nD τ sig Unit) (hO : O = O₀ d ∨ O = 0) :
    (levAts L lv : sProp 𝕄) ⊢ MayWait (d : Thread nD τ) s () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨n, rfl⟩ | ⟨x, -, rfl⟩ <;> exact Finset.mem_singleton_self _)
      (fun p hp => by rw [Finset.mem_singleton.mp hp]; unfold lv; rw [hs]; exact le_rfl)
      (fun g u hg => by
        rcases oweB_pos hg with ⟨n, rfl⟩ | ⟨x, -, rfl⟩
        · rw [lv_k]; exact Nat.one_pos
        · rw [lv_k]; exact Nat.lt_trans Nat.one_pos x.lev_pos)
  · rw [MayWait_zero]; iintro -; iempintro

end Cert.KernelIdeal.Ring

end
-- ==== Proof.Steps.lean ====
/- One step of the protocol at a time: a signal, the barrier's wait, a transfer sent, a transfer waited for. -/
module

public import proofs.«01_k».proof.Proof.Schedule

@[expose] public section

noncomputable section

namespace Cert.KernelIdeal.Ring

open Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F] [Named F]

local notation "𝕄" => MT nD τ sig Unit (Elt F) ℕ UU ℕ

abbrev 𝒱₀ : Variants := Variants.none

/-- A program of device `d` run from nothing else. -/
abbrev Wp (d : Dev nD) {α : Type} (p : P F α) (Q : α → sProp 𝕄) : sProp 𝕄 :=
  wp frame (wpE (defs₀ (F := F)) 𝒱₀ (d : Thread nD τ) none) Set.univ p Q

variable (I : Dev nD → Inp F) (K : Dev nD × Ck → ℕ)

/-- What every device knows: the cells' invariants, that their one round is open, the levels. -/
def ctx : sProp 𝕄 :=
  iprop(bigSep (Finset.univ : Finset (Dev nD × Ck)) (fun p => iprop(cellInv ER (sched I) (K p) (kcell p.1 p.2) ∗ reached ER (kcell p.1 p.2) 0)) ∗ (levAts L lv : sProp 𝕄))

instance ctx_persistent : BI.Persistent (ctx I K) := by unfold ctx; infer_instance

theorem ctx_cell (d : Dev nD) (k : Ck) : ctx I K ⊢ iprop(cellInv ER (sched I) (K (d, k)) (kcell d k) ∗ reached ER (kcell d k) 0) :=
  (BI.sep_and.trans and_elimL).trans (bigSep_elim (Φ := fun p : Dev nD × Ck => iprop(cellInv ER (sched I) (K p) (kcell p.1 p.2) ∗ reached ER (kcell p.1 p.2) 0))
    (Finset.mem_univ ((d, k) : Dev nD × Ck)))

/-- A device may wait for a cell while it owes only transfers of a higher level. -/
theorem ctx_mw (d : Dev nD) (s : SemLoc sig) (l : List Xf) (h : ∀ x ∈ l, levAt (ofSem s) < x.lev) :
    ctx I K ⊢ MayWait (d : Thread nD τ) s () (oweX d l) := by
  unfold ctx
  iintro ⟨-, H⟩
  iapply (mayWait_x d s l h)
  iexact H

/-- What device `d` still owes, the transfers `l` to be sent. -/
def st (d : Dev nD) (l : List Xf) : sProp 𝕄 := iprop(∃ W, owes (d : Thread nD τ) (oweX d l) W)
/-- The same with the signals `l` to be given, and all transfers. -/
def stB (d : Dev nD) (l : List Pr) : sProp 𝕄 := iprop(∃ W, owes (d : Thread nD τ) (oweB d l) W)

/-! ## Lists -/

/-- One program after another: `A` is what the first needs. -/
theorem Wp_seq {α β : Type} {d : Dev nD} {p : P F α} {k : α → P F β} {A : sProp 𝕄} {Q' : α → sProp 𝕄} {Q : β → sProp 𝕄} (h : A ⊢ Wp d p Q') :
    iprop(A ∗ (∀ a, Q' a -∗ Wp d (k a) Q)) ⊢ Wp d (p >>= k) Q := by
  show _ ⊢ wp _ _ _ (p >>= k) _
  rw [wp_bind]
  exact (sep_mono_left h).trans (wp_wand_r _ _ _)

/-- The same at the end of a program. -/
theorem Wp_last {α : Type} {d : Dev nD} {p : P F α} {A : sProp 𝕄} {Q' Q : α → sProp 𝕄} (h : A ⊢ Wp d p Q') :
    iprop(A ∗ (∀ a, Q' a -∗ Q a)) ⊢ Wp d p Q := (sep_mono_left h).trans (wp_wand_r _ _ _)

theorem Wp_ret {α : Type} {d : Dev nD} {a : α} {Q : α → sProp 𝕄} : Q a ⊢ Wp d (.ret a) Q := by
  show _ ⊢ wp _ _ _ (Prog.ret a) _
  rw [wp_ret]
  iintro H
  imodintro
  iexact H

/-- A loop over a list, one entry at a time: `R` before with the entries to come, `Φ` an entry's own resources, `Ψ` what it leaves. -/
theorem wp_each {ι : Type} (d : Dev nD) (p : ι → P F PUnit) (R : List ι → sProp 𝕄) (Φ Ψ : ι → sProp 𝕄)
    (h : ∀ i l, iprop(R (i :: l) ∗ Φ i) ⊢ Wp d (p i) (fun _ => iprop(R l ∗ Ψ i))) :
    ∀ l, iprop(R l ∗ bigSepL l Φ) ⊢ Wp d (each p l) (fun _ => iprop(R [] ∗ bigSepL l Ψ))
  | [] => Wp_ret (d := d) (a := PUnit.unit) (Q := fun _ => iprop(R [] ∗ bigSepL [] Ψ))
  | i :: l => by
    show _ ⊢ Wp d (p i >>= fun _ => each p l) _
    rw [bigSepL_cons', bigSepL_cons']
    iintro ⟨HR, Hi, Hl⟩
    iapply (Wp_seq (h i l))
    isplitl [HR Hi]
    · isplitl [HR] <;> iassumption
    iintro %u ⟨HR, Hi⟩
    iapply (Wp_last (wp_each d p R Φ Ψ h l))
    isplitl [HR Hl]
    · isplitl [HR] <;> iassumption
    iintro %u ⟨HR, Hl⟩
    isplitl [HR]; · iexact HR
    isplitl [Hi] <;> iassumption

/-! ## The barrier -/

def enter (d : Dev nD) : Pr → P F PUnit
  | .inl j => enterLo d j
  | .inr j => enterHi d j

/-- Signal one partner: its places on this device go to it. -/
theorem wp_enter (d : Dev nD) (i : Pr) (l : List Pr) :
    iprop((ctx I K ∗ stB (F := F) d (i :: l)) ∗ (dutyTok ER (kcell (prt d i) .bar) 0 i ∗ barP (F := F) (prt d i) i))
      ⊢ Wp d (enter d i) (fun _ => iprop((ctx I K ∗ stB (F := F) d l) ∗ emp)) := by
  have key : ∀ n : Dev nD, n = prt d i → iprop((ctx I K ∗ stB (F := F) d (i :: l)) ∗ (dutyTok ER (kcell (prt d i) .bar) 0 i ∗ barP (F := F) (prt d i) i))
      ⊢ Wp d (semSignalWord n barS 1#32) (fun _ => iprop((ctx I K ∗ stB (F := F) d l) ∗ emp)) := by
    rintro n rfl
    have hp : barP (F := F) (prt d i) i ⊢ (sched I).payload ((prt d i : Thread nD τ), .reg barS) 0 i := Entails.of_eq (payload_k I (prt d i) .bar i).symm
    unfold stB
    simp only [semSignalWord, Prog.lift]
    iintro ⟨⟨#Hc, %W, HO⟩, Ht, Hb⟩
    ihave ⟨HI, HR⟩ := (ctx_cell I K (prt d i) .bar) $$ Hc
    iapply (Rounds.wp_signal 𝒱₀ ER (sched I) (d : Thread nD τ) none (dst := (prt d i : Thread nD τ)) (κ := K (prt d i, .bar))
      (d := i) (by show i ∈ (sched I).duties (kcell (prt d i) .bar) 0; rw [duties_k I (prt d i) .bar]; exact Finset.mem_univ _) ((amount_k I (prt d i) .bar i).trans (by decide)) () (oweB d l) rfl)
      $$ [HI HR HO Ht Hb]
    · isplitl [HI]; · iexact HI
      isplitl [HO]; · iexact HO
      isplitl [Ht]; · iexact Ht
      isplitl [Hb]; · iapply hp; iexact Hb
      iexact HR
    iintro HO
    rw [wp_ret]; imodintro
    isplitl
    · isplitr; · iexact Hc
      iexists W; iexact HO
    iempintro
  cases i with
  | inl j => exact key _ rfl
  | inr j => exact key _ rfl

/-- Wait for the ten partners: the places on them are this device's. -/
theorem wp_barrier (d : Dev nD) :
    iprop(ctx I K ∗ st (F := F) d Xf.order ∗ cred (tallyAt (kcell d .bar) () 10) ∗ atPos ER (kcell d .bar) 0 ∅ 0)
      ⊢ Wp d (semWaitWord barS 10#32) (fun _ => iprop(st (F := F) d Xf.order ∗ bigSep Finset.univ (barP (F := F) d) ∗ semVal (kcell d .bar) 0)) := by
  have hexp : (sched I).expect ((d : Thread nD τ), .reg barS) 0 = 10 := expect_bar I d
  have hrest : bigSep ((sched I).duties ((d : Thread nD τ), .reg barS) 0 \ ∅) (fun i => (sched I).payload ((d : Thread nD τ), .reg barS) 0 i)
    ⊢ bigSep Finset.univ (barP (F := F) d) := Entails.of_eq (rest_bar I d)
  have hmw : ctx I K ⊢ MayWait (d : Thread nD τ) (.reg barS) () (oweX d Xf.order) :=
    ctx_mw I K d (csem .bar) Xf.order (fun x _ => by rw [ofSem_csem]; exact x.lev_pos)
  unfold st
  simp only [semWaitWord, Prog.lift]
  iintro ⟨#Hc, ⟨%W, HO⟩, Hcr, Hat⟩
  ihave #⟨HI, HR⟩ := (ctx_cell I K d .bar) $$ Hc
  iapply (Rounds.wp_wait_rest_token 𝒱₀ ER (sched I) (d : Thread nD τ) none (κ := K (d, .bar))
      (wpE_semWait_eq 𝒱₀ (d : Thread nD τ) none Set.univ) (Set.mem_univ _) () (O := oweX d Xf.order) (W := W) (R := 0) (m := 0) (T := ∅)
      (by rw [hexp]; rfl)) $$ [Hcr HO Hat]
  · isplitr; · iexact HI
    isplitl [Hcr]; · iexact Hcr
    isplitl [HO]; · iexact HO
    isplitr
    · iapply hmw; iexact Hc
    iexact Hat
  iintro ⟨HO, Hat, -, Hpay⟩
  ihave Hp := hrest $$ Hpay
  imod (Rounds.cell_close ER (sched I) (Set.mem_univ (K (d, .bar))) (fun h => h) (R := 0 + 1) (duties_later I (kcell d .bar))) $$ [Hat] with Hz
  · isplitr; · iexact HI
    iexact Hat
  rw [wp_ret]; imodintro
  isplitl [HO]; · iexists _; iexact HO
  isplitl [Hp] <;> iassumption

/-! ## Transfers -/

def sendX (d : Dev nD) : Xf → P F PUnit
  | .rs1 c j => sendRs1 d c j
  | .rs2 c j => sendRs2 d c j
  | .ag1 c j => sendAg1 d c j
  | .ag2 c j => sendAg2 d c j
def waitX (d : Dev nD) : Xf → P F PUnit
  | .rs1 c j => waitRs1 d c j
  | .rs2 c j => waitRs2 d c j
  | .ag1 c j => waitAg1 d c j
  | .ag2 c j => waitAg2 d c j

/-- A transfer sent, its two ends any two views that hold the transfer's source and landing place. -/
theorem wp_send_gen (d : Dev nD) (x : Xf) (l : List Xf) {s : Shape} {e : EltTy}
    (n : Dev nD) (hn : n = peer d x)
    {src dst : Memref sig .tc .vmem s e} {hsc : (dst : Memref sig (Dev.tc n : Thread nD τ).2.kind .vmem s e).view.ref.isScScratch = false}
    {hsrc : src.view.WordExact} {hdst : dst.view.WordExact}
    {hsem : DmaTarget.Typed .vmem (.dma x.rsem) (.remote (Dev.tc n : Thread nD τ) dst (.dma x.ssem) hsc)}
    (q : PosShare TreeShare) (fs : Buf (Elt F) (src.view.loc (d : Thread nD τ)))
    (hN : dst.view.dmaCredit = x.N)
    (h₁ : srcP I d x = (src.view.loc (d : Thread nD τ) ↦[src.view.set]{q} fs))
    (h₂ : dstP (F := F) d x ⊢ iprop(∃ fd, dst.view.loc (peer d x : Thread nD τ) ↦[dst.view.set]{fullShare} fd))
    (h₃ : ∀ fd, (dst.view.loc (peer d x : Thread nD τ) ↦[dst.view.set]{fullShare} (dst.view.write (Elt F) fd (src.view.read (Elt F) fs) Finset.univ))
      ⊢ gotP I (peer d x) x) :
    iprop((ctx I K ∗ st (F := F) d (x :: l)) ∗ srcP I d x ∗ dstP (F := F) d x
        ∗ dutyTok ER (kcell d (.snd x)) 0 one ∗ dutyTok ER (kcell (peer d x) (.rcv x)) 0 one)
      ⊢ Wp d (Prog.lift (.enqueueDma src (.remote (Dev.tc n : Thread nD τ) dst (.dma x.ssem) hsc) (.dma x.rsem) hsrc hdst hsem))
          (fun _ => iprop((ctx I K ∗ st (F := F) d l) ∗ cred (tallyAt (kcell d (.snd x)) () x.N))) := by
  subst hn
  have hd₁ : one ∈ (sched I).duties ((d : Thread nD τ), .dma x.ssem) 0 :=
    (congrArg (one ∈ ·) (duties_k I d (.snd x))).mpr (Finset.mem_singleton_self _)
  have hd₂ : one ∈ (sched I).duties ((peer d x : Thread nD τ), .dma x.rsem) 0 :=
    (congrArg (one ∈ ·) (duties_k I (peer d x) (.rcv x))).mpr (Finset.mem_singleton_self _)
  have hp₁ : (src.view.loc (d : Thread nD τ) ↦[src.view.set]{q} fs) ⊢ (sched I).payload ((d : Thread nD τ), .dma x.ssem) 0 one :=
    Entails.of_eq (h₁.symm.trans (payload_k I d (.snd x) one).symm)
  have hp₂ : ∀ fd, (dst.view.loc (peer d x : Thread nD τ) ↦[dst.view.set]{fullShare} (dst.view.write (Elt F) fd (src.view.read (Elt F) fs) Finset.univ))
      ⊢ (sched I).payload ((peer d x : Thread nD τ), .dma x.rsem) 0 one :=
    fun fd => (h₃ fd).trans (Entails.of_eq (payload_k I (peer d x) (.rcv x) one).symm)
  unfold st
  simp only [Prog.lift]
  iintro ⟨⟨#Hc, %W, HO⟩, Hs, Hd, Ht1, Ht2⟩
  ihave #⟨HI1, HR1⟩ := (ctx_cell I K d (.snd x)) $$ Hc
  ihave #⟨HI2, HR2⟩ := (ctx_cell I K (peer d x) (.rcv x)) $$ Hc
  ihave ⟨%fd, Hd⟩ := h₂ $$ Hd
  ihave Hs := (Entails.of_eq h₁) $$ Hs
  iapply (Rounds.wp_send_pointsTo 𝒱₀ ER (sched I) (d : Thread nD τ) none (κ₁ := K (d, .snd x)) (κ₂ := K (peer d x, .rcv x))
    (r₁ := 0) (r₂ := 0) (d₁ := one) (d₂ := one) (sS := .dma x.ssem) (sem := .dma x.rsem) (fd := fd) (fs := fs) (q := q)
    hd₁ hd₂
    () () x.N hN (amount_k I d (.snd x) one) (amount_k I (peer d x) (.rcv x) one) (oweX d l) rfl (W := W)
    hp₁ (hp₂ fd)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hcr, HO⟩
  rw [wp_ret]; imodintro
  isplitl [HO]
  · isplitr; · iexact Hc
    iexists W; iexact HO
  iexact Hcr

theorem wp_sendX (d : Dev nD) (x : Xf) (l : List Xf) :
    iprop((ctx I K ∗ st (F := F) d (x :: l)) ∗ srcP I d x ∗ dstP (F := F) d x
        ∗ dutyTok ER (kcell d (.snd x)) 0 one ∗ dutyTok ER (kcell (peer d x) (.rcv x)) 0 one)
      ⊢ Wp d (sendX d x) (fun _ => iprop((ctx I K ∗ st (F := F) d l) ∗ cred (tallyAt (kcell d (.snd x)) () x.N))) := by
  cases x with
  | rs1 c j =>
    refine wp_send_gen I K d (.rs1 c j) l (peerLo d j) rfl fullShare (S1 I d) rfl ?_ ?_ ?_
    · rw [set_srcRs1]; rfl
    · rw [set_dstRs1]; exact .rfl
    · intro fd
      rw [set_dstRs1]
      exact Entails.of_eq (pointsTo_congr fun i hi => land_rs1 d c j fd i hi)
  | rs2 c j =>
    refine wp_send_gen I K d (.rs2 c j) l (peerHi d j) rfl fullShare (S2 I d) rfl ?_ ?_ ?_
    · rw [set_srcRs2]; rfl
    · rw [set_dstRs2]; exact .rfl
    · intro fd
      rw [set_dstRs2]
      exact Entails.of_eq (pointsTo_congr fun i hi => land_rs2 d c j fd i hi)
  | ag1 c j =>
    refine wp_send_gen I K d (.ag1 c j) l (peerHi d j) rfl (Transfers.shareTokN fullShare j.val) (G I) rfl ?_ ?_ ?_
    · rw [set_segAg]; rfl
    · rw [set_segAg]; exact .rfl
    · intro fd
      rw [set_segAg]
      show _ ⊢ nrP (peerHi d j) fullShare c (segT (peerHi (peerHi d j) j)) (G I)
      rw [peerHi_peerHi]
      exact Entails.of_eq (pointsTo_congr fun i hi => land_seg d c fd i hi)
  | ag2 c j =>
    refine wp_send_gen I K d (.ag2 c j) l (peerLo d j) rfl (Transfers.shareTokN fullShare j.val) (G I) rfl ?_ ?_ ?_
    · rw [set_blkAg]; rfl
    · rw [set_blkAg]; exact .rfl
    · intro fd
      rw [set_blkAg]
      show _ ⊢ nrP (peerLo d j) fullShare c (blkT (peerLo (peerLo d j) j)) (G I)
      rw [peerLo_peerLo]
      exact Entails.of_eq (pointsTo_congr fun i hi => land_blk d c fd i hi)

/-- One wait on one of a transfer's two cells: the cell's payload, and the cell closed. -/
theorem wp_wait_gen (d : Dev nD) (k : Xf ⊕ Xf) (l : List Xf) (hl : ∀ x ∈ l, levAt (some (.inr k)) < x.lev) {s s' : Shape} {e e' : EltTy}
    (sem : DmaSem sig) (hs : csem (.inr k) = .dma sem) {src : Memref sig .tc .vmem s' e'} {dst : Memref sig .tc .vmem s e}
    {hsrc : src.view.WordExact} {hdst : dst.view.WordExact} (hN : dst.view.dmaCredit = amountAt (some (.inr k))) {Q : PUnit → sProp 𝕄} {p : PUnit → P F PUnit} :
    iprop(ctx I K ∗ st (F := F) d l ∗ cred (tallyAt (kcell d (.inr k)) () (amountAt (some (.inr k)))) ∗ atPos ER (kcell d (.inr k)) 0 ∅ 0
        ∗ ((st (F := F) d l ∗ payAt I d (some (.inr k)) one ∗ semVal (kcell d (.inr k)) 0) -∗ Wp d (p ⟨⟩) Q))
      ⊢ Wp d (.op (.waitDma2 sem src dst hsrc hdst) p) Q := by
  unfold st
  rw [← hN]
  have hexp := expect_x I d k
  have hrest := rest_x I d k
  have hlater := duties_later I (kcell d (.inr k))
  have hmw := ctx_mw I K d (csem (.inr k)) l (fun x hx => by rw [ofSem_csem]; exact hl x hx)
  have hcell := ctx_cell I K d (.inr k)
  unfold kcell at *
  rw [hs] at *
  iintro ⟨#Hc, ⟨%W, HO⟩, Hcr, Hat, Hk⟩
  ihave #⟨HI, HR⟩ := hcell $$ Hc
  iapply (Rounds.wp_wait_rest_token 𝒱₀ ER (sched I) (d : Thread nD τ) none (κ := K (d, .inr k))
      (wpE_waitDma2_eq 𝒱₀ (d : Thread nD τ) none Set.univ) (Set.mem_univ _) () (O := oweX d l) (W := W) (R := 0) (m := 0) (T := ∅)
      (by rw [Nat.zero_add, hexp, hN])) $$ [Hcr HO Hat]
  · isplitr; · iexact HI
    isplitl [Hcr]; · iexact Hcr
    isplitl [HO]; · iexact HO
    isplitr
    · iapply hmw; iexact Hc
    iexact Hat
  iintro ⟨HO, Hat, -, Hpay⟩
  ihave Hp := (Entails.of_eq hrest) $$ Hpay
  imod (Rounds.cell_close ER (sched I) (Set.mem_univ (K (d, .inr k))) (fun h => h) (R := 0 + 1) hlater) $$ [Hat] with Hz
  · isplitr; · iexact HI
    iexact Hat
  iapply Hk
  isplitl [HO]; · iexists _; iexact HO
  isplitl [Hp] <;> iassumption

/-- A transfer's two waits: its source back, what landed, and both cells closed. -/
theorem wp_waitX (d : Dev nD) (x : Xf) (l : List Xf) (hl : ∀ y ∈ l, x.lev < y.lev) :
    iprop((ctx I K ∗ st (F := F) d l) ∗ cred (tallyAt (kcell d (.snd x)) () x.N) ∗ atPos ER (kcell d (.snd x)) 0 ∅ 0
        ∗ cred (tallyAt (kcell d (.rcv x)) () x.N) ∗ atPos ER (kcell d (.rcv x)) 0 ∅ 0)
      ⊢ Wp d (waitX d x) (fun _ => iprop((ctx I K ∗ st (F := F) d l)
          ∗ srcP I d x ∗ gotP I d x ∗ semVal (kcell d (.snd x)) 0 ∗ semVal (kcell d (.rcv x)) 0)) := by
  have key : ∀ {s s' : Shape} {e e' : EltTy} {src : Memref sig .tc .vmem s' e'} {dst : Memref sig .tc .vmem s e}
      {hsrc : src.view.WordExact} {hdst : dst.view.WordExact} (h₁ : src.view.dmaCredit = x.N) (h₂ : dst.view.dmaCredit = x.N),
      iprop((ctx I K ∗ st (F := F) d l) ∗ cred (tallyAt (kcell d (.snd x)) () x.N) ∗ atPos ER (kcell d (.snd x)) 0 ∅ 0
          ∗ cred (tallyAt (kcell d (.rcv x)) () x.N) ∗ atPos ER (kcell d (.rcv x)) 0 ∅ 0)
        ⊢ Wp d (do Prog.lift (.waitDma2 x.ssem dst src hdst hsrc); Prog.lift (.waitDma2 x.rsem src dst hsrc hdst)) (fun _ => iprop((ctx I K ∗ st (F := F) d l)
          ∗ srcP I d x ∗ gotP I d x ∗ semVal (kcell d (.snd x)) 0 ∗ semVal (kcell d (.rcv x)) 0)) := by
    intro s s' e e' src dst hsrc hdst h₁ h₂
    simp only [Prog.lift, Prog.bind_op, Prog.bind_ret]
    iintro ⟨⟨#Hc, HO⟩, Hcs, Has, Hcr, Har⟩
    iapply (wp_wait_gen I K d (.inl x) l (fun y hy => Nat.lt_of_lt_of_le (Nat.lt_trans Nat.one_pos y.lev_pos) le_rfl) x.ssem rfl h₁)
    isplitr; · iexact Hc
    isplitl [HO]; · iexact HO
    isplitl [Hcs]; · iexact Hcs
    isplitl [Has]; · iexact Has
    iintro ⟨HO, Hs, Hzs⟩
    iapply (wp_wait_gen I K d (.inr x) l hl x.rsem rfl h₂)
    isplitr; · iexact Hc
    isplitl [HO]; · iexact HO
    isplitl [Hcr]; · iexact Hcr
    isplitl [Har]; · iexact Har
    iintro ⟨HO, Hr, Hzr⟩
    iapply Wp_ret
    isplitl [HO]
    · isplitr; · iexact Hc
      iexact HO
    isplitl [Hs]; · iapply (Entails.of_eq (show payAt I d (some (.inr (.inl x))) one = srcP I d x from rfl)); iexact Hs
    isplitl [Hr]; · iapply (Entails.of_eq (show payAt I d (some (.inr (.inr x))) one = gotP I d x from rfl)); iexact Hr
    isplitl [Hzs] <;> iassumption
  cases x with
  | rs1 c j => exact key rfl rfl
  | rs2 c j => exact key rfl rfl
  | ag1 c j => exact key rfl rfl
  | ag2 c j => exact key rfl rfl

end Cert.KernelIdeal.Ring

end
-- ==== Proof.Holdings.lean ====
/- How a device's buffers fall into the pieces it hands over and gets back. -/
module

public import proofs.«01_k».proof.Proof.Steps

@[expose] public section

noncomputable section

namespace Cert.KernelIdeal.Ring

open Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F] [Named F]

local notation "𝕄" => MT nD τ sig Unit (Elt F) ℕ UU ℕ

/-! ## Lists -/

theorem bigSepL_sep {ι : Type} (l : List ι) (Φ Ψ : ι → sProp 𝕄) : bigSepL l (fun i => iprop(Φ i ∗ Ψ i)) ⊣⊢ iprop(bigSepL l Φ ∗ bigSepL l Ψ) := by
  induction l with
  | nil =>
    constructor
    · iintro -; isplitl <;> iempintro
    · iintro -; iempintro
  | cons i l ih =>
    rw [bigSepL_cons', bigSepL_cons', bigSepL_cons']
    constructor
    · iintro ⟨⟨H1, H2⟩, Hl⟩
      ihave ⟨H3, H4⟩ := ih.1 $$ Hl
      isplitl [H1 H3]
      · isplitl [H1] <;> iassumption
      isplitl [H2] <;> iassumption
    · iintro ⟨⟨H1, H3⟩, H2, H4⟩
      isplitl [H1 H2]
      · isplitl [H1] <;> iassumption
      iapply ih.2
      isplitl [H3] <;> iassumption

theorem opt7 (Φ : Option (Fin 7) → sProp 𝕄) : bigSep Finset.univ Φ = iprop(Φ none ∗ bigSepL all7 (fun j => Φ (some j))) := by
  rw [bigSep_univ_eq_bigSepL (none :: all7.map some) (by decide) (by decide), bigSepL_cons', bigSepL_map]
theorem opt3 (Φ : Option (Fin 3) → sProp 𝕄) : bigSep Finset.univ Φ = iprop(Φ none ∗ bigSepL all3 (fun j => Φ (some j))) := by
  rw [bigSep_univ_eq_bigSepL (none :: all3.map some) (by decide) (by decide), bigSepL_cons', bigSepL_map]
theorem bat (Φ : Fin 2 → sProp 𝕄) : bigSep Finset.univ Φ = iprop(Φ 0 ∗ Φ 1) := by
  rw [bigSep_univ_eq_bigSepL [0, 1] (by decide) (by decide), bigSepL_cons', bigSepL_singleton]
theorem range7 (Φ : ℕ → sProp 𝕄) : bigSep (Finset.range 7) Φ = bigSepL all7 (fun j => Φ j.val) := by
  rw [bigSep_eq_bigSepL_of_eq (all7.map Fin.val) (by decide) (by decide), bigSepL_map]
theorem range3 (Φ : ℕ → sProp 𝕄) : bigSep (Finset.range 3) Φ = bigSepL all3 (fun j => Φ j.val) := by
  rw [bigSep_eq_bigSepL_of_eq (all3.map Fin.val) (by decide) (by decide), bigSepL_map]
theorem prs (Φ : Pr → sProp 𝕄) : bigSep Finset.univ Φ = iprop(bigSepL all7 (fun j => Φ (.inl j)) ∗ bigSepL all3 (fun j => Φ (.inr j))) := by
  rw [bigSep_univ_eq_bigSepL (all7.map .inl ++ all3.map .inr) (by decide) (by decide), bigSepL_append, bigSepL_map, bigSepL_map]
theorem slots8 (Φ : Fin 2 × Fin 8 → sProp 𝕄) : bigSep Finset.univ Φ
    = iprop((Φ (0, 0) ∗ bigSepL all7 (fun j => Φ (0, sl7 j))) ∗ Φ (1, 0) ∗ bigSepL all7 (fun j => Φ (1, sl7 j))) := by
  rw [bigSep_univ_eq_bigSepL (((0, 0) :: all7.map fun j => (0, sl7 j)) ++ (1, 0) :: all7.map fun j => (1, sl7 j)) (by decide) (by decide),
    bigSepL_append, bigSepL_cons', bigSepL_cons', bigSepL_map, bigSepL_map]
theorem slots4 (Φ : Fin 2 × Fin 4 → sProp 𝕄) : bigSep Finset.univ Φ
    = iprop((Φ (0, 0) ∗ bigSepL all3 (fun j => Φ (0, sl3 j))) ∗ Φ (1, 0) ∗ bigSepL all3 (fun j => Φ (1, sl3 j))) := by
  rw [bigSep_univ_eq_bigSepL (((0, 0) :: all3.map fun j => (0, sl3 j)) ++ (1, 0) :: all3.map fun j => (1, sl3 j)) (by decide) (by decide),
    bigSepL_append, bigSepL_cons', bigSepL_cons', bigSepL_map, bigSepL_map]

/-! ## Rows -/

theorem snd_cover {ι : Type} [Fintype ι] (d : Dev nD) (c : Fin 2) (T : ι → Finset (Fin 32)) (h : ∀ i j, i ≠ j → Disjoint (T i) (T j))
    (f : Vec F S2x256x576 .bf16) : sndP d c (Finset.univ.biUnion T) f = bigSep Finset.univ (fun i => sndP d c (T i) f) := by
  unfold sndP
  rw [← rows_biUnion 576 c T]
  exact pointsTo_biUnion _ _ fun i _ j _ hij => rows_disjoint c (h i j hij)
theorem nr_cover {ι : Type} [Fintype ι] (d : Dev nD) (c : Fin 2) (T : ι → Finset (Fin 32)) (h : ∀ i j, i ≠ j → Disjoint (T i) (T j))
    (f : Vec F S2x256x512 .bf16) : nrP d fullShare c (Finset.univ.biUnion T) f = bigSep Finset.univ (fun i => nrP d fullShare c (T i) f) := by
  unfold nrP
  rw [← rows_biUnion 512 c T]
  exact pointsTo_biUnion _ _ fun i _ j _ hij => rows_disjoint c (h i j hij)

theorem snd_lo (d : Dev nD) (c : Fin 2) (f : Vec F S2x256x576 .bf16) :
    sndP d c Finset.univ f = iprop(sndP d c (blkT d) f ∗ bigSepL all7 (fun j => sndP d c (blkT (peerLo d j)) f)) := by
  rw [← shareLo_cover d, snd_cover d c (shareLo d) (shareLo_disj d), opt7]; rfl
theorem snd_top (d : Dev nD) (c : Fin 2) (f : Vec F S2x256x576 .bf16) :
    sndP d c Finset.univ f = iprop(sndP d c (shareTop d none) f ∗ bigSepL all3 (fun j => sndP d c (topT (peerHi d j)) f)) := by
  rw [← shareTop_cover d, snd_cover d c (shareTop d) (shareTop_disj d), opt3]; rfl
theorem nr_lo (d : Dev nD) (c : Fin 2) (f : Vec F S2x256x512 .bf16) :
    nrP d fullShare c Finset.univ f = iprop(nrP d fullShare c (blkT d) f ∗ bigSepL all7 (fun j => nrP d fullShare c (blkT (peerLo d j)) f)) := by
  rw [← shareLo_cover d, nr_cover d c (shareLo d) (shareLo_disj d), opt7]; rfl
theorem nr_hi (d : Dev nD) (c : Fin 2) (f : Vec F S2x256x512 .bf16) :
    nrP d fullShare c (blkT d) f = iprop(nrP d fullShare c (segT d) f ∗ bigSepL all3 (fun j => nrP d fullShare c (segT (peerHi d j)) f)) := by
  rw [← shareHi_cover d, nr_cover d c (shareHi d) (shareHi_disj d), opt3]; rfl

/-- Rows read by several transfers at once: a share for each, and what is left. -/
theorem nr_toks7 (d : Dev nD) (c : Fin 2) (T : Finset (Fin 32)) (f : Vec F S2x256x512 .bf16) :
    nrP d fullShare c T f ⊣⊢ iprop(nrP d (Transfers.shareDrop fullShare 7) c T f
      ∗ bigSepL all7 (fun j => nrP d (Transfers.shareTokN fullShare j.val) c T f)) := by
  have h := range7 (fun i => nrP (F := F) d (Transfers.shareTokN fullShare i) c T f)
  rw [← h]
  exact Transfers.pointsTo_toks_range fullShare 7
theorem nr_toks3 (d : Dev nD) (c : Fin 2) (T : Finset (Fin 32)) (f : Vec F S2x256x512 .bf16) :
    nrP d fullShare c T f ⊣⊢ iprop(nrP d (Transfers.shareDrop fullShare 3) c T f
      ∗ bigSepL all3 (fun j => nrP d (Transfers.shareTokN fullShare j.val) c T f)) := by
  have h := range3 (fun i => nrP (F := F) d (Transfers.shareTokN fullShare i) c T f)
  rw [← h]
  exact Transfers.pointsTo_toks_range fullShare 3

/-! ## Whole buffers -/

theorem acc_whole (d : Dev nD) (f : Vec F S2x256x576 .f32) :
    (((d : Thread nD τ).loc cc0_scratch1) ↦{fullShare} f : sProp 𝕄) = iprop(accP d 0 Finset.univ f ∗ accP d 1 Finset.univ f) := by
  unfold accP
  rw [← bat (fun c => (((d : Thread nD τ).loc cc0_scratch1) ↦[rows 576 c Finset.univ]{fullShare} f : sProp 𝕄))]
  exact (congrArg (fun S => (((d : Thread nD τ).loc cc0_scratch1) ↦[S]{fullShare} f : sProp 𝕄)) (rows_batches 576).symm).trans
    (pointsTo_biUnion _ _ fun i _ j _ hij => rows_disjoint_batch hij _ _)
theorem snd_whole (d : Dev nD) (f : Vec F S2x256x576 .bf16) :
    (((d : Thread nD τ).loc cc0_scratch2) ↦{fullShare} f : sProp 𝕄) = iprop(sndP d 0 Finset.univ f ∗ sndP d 1 Finset.univ f) := by
  unfold sndP
  rw [← bat (fun c => (((d : Thread nD τ).loc cc0_scratch2) ↦[rows 576 c Finset.univ]{fullShare} f : sProp 𝕄))]
  exact (congrArg (fun S => (((d : Thread nD τ).loc cc0_scratch2) ↦[S]{fullShare} f : sProp 𝕄)) (rows_batches 576).symm).trans
    (pointsTo_biUnion _ _ fun i _ j _ hij => rows_disjoint_batch hij _ _)
theorem nr_whole (d : Dev nD) (f : Vec F S2x256x512 .bf16) :
    (((d : Thread nD τ).loc cc0_scratch5) ↦{fullShare} f : sProp 𝕄) = iprop(nrP d fullShare 0 Finset.univ f ∗ nrP d fullShare 1 Finset.univ f) := by
  unfold nrP
  rw [← bat (fun c => (((d : Thread nD τ).loc cc0_scratch5) ↦[rows 512 c Finset.univ]{fullShare} f : sProp 𝕄))]
  exact (congrArg (fun S => (((d : Thread nD τ).loc cc0_scratch5) ↦[S]{fullShare} f : sProp 𝕄)) (rows_batches 512).symm).trans
    (pointsTo_biUnion _ _ fun i _ j _ hij => rows_disjoint_batch hij _ _)
theorem out_whole (d : Dev nD) (f : Vec F S2x256x768 .f32) :
    (((d : Thread nD τ).loc cc0_stg5_0) ↦{fullShare} f : sProp 𝕄) = iprop(outP d 0 f ∗ outP d 1 f) := by
  unfold outP
  rw [← bat (fun c => (((d : Thread nD τ).loc cc0_stg5_0) ↦[rows 768 c Finset.univ]{fullShare} f : sProp 𝕄))]
  exact (congrArg (fun S => (((d : Thread nD τ).loc cc0_stg5_0) ↦[S]{fullShare} f : sProp 𝕄)) (rows_batches 768).symm).trans
    (pointsTo_biUnion _ _ fun i _ j _ hij => rows_disjoint_batch hij _ _)

theorem r1_whole (d : Dev nD) (f : Vec F S2x8x32x576 .bf16) :
    (((d : Thread nD τ).loc cc0_scratch3) ↦{fullShare} f : sProp 𝕄)
      = iprop((r1P d 0 0 f ∗ bigSepL all7 (fun j => r1P d 0 (sl7 j) f)) ∗ r1P d 1 0 f ∗ bigSepL all7 (fun j => r1P d 1 (sl7 j) f)) := by
  rw [← slots8 (fun x => r1P d x.1 x.2 f)]
  unfold r1P
  exact (congrArg (fun S => (((d : Thread nD τ).loc cc0_scratch3) ↦[S]{fullShare} f : sProp 𝕄)) (slots_cover 8 32).symm).trans
    (pointsTo_biUnion _ _ fun i _ j _ hij => slots_disj i j hij)
theorem r2_whole (d : Dev nD) (f : Vec F S2x4x8x576 .bf16) :
    (((d : Thread nD τ).loc cc0_scratch4) ↦{fullShare} f : sProp 𝕄)
      = iprop((r2P d 0 0 f ∗ bigSepL all3 (fun j => r2P d 0 (sl3 j) f)) ∗ r2P d 1 0 f ∗ bigSepL all3 (fun j => r2P d 1 (sl3 j) f)) := by
  rw [← slots4 (fun x => r2P d x.1 x.2 f)]
  unfold r2P
  exact (congrArg (fun S => (((d : Thread nD τ).loc cc0_scratch4) ↦[S]{fullShare} f : sProp 𝕄)) (slots_cover 4 8).symm).trans
    (pointsTo_biUnion _ _ fun i _ j _ hij => slots_disj i j hij)

/-- The first receive buffer put together again, slot 0 as it was. -/
theorem r1_join (d : Dev nD) (f g : Vec F S2x8x32x576 .bf16) :
    iprop((r1P d 0 0 f ∗ bigSepL all7 (fun j => r1P d 0 (sl7 j) g)) ∗ r1P d 1 0 f ∗ bigSepL all7 (fun j => r1P d 1 (sl7 j) g))
      ⊢ iprop(∃ h : Vec F S2x8x32x576 .bf16, (((d : Thread nD τ).loc cc0_scratch3) ↦{fullShare} h : sProp 𝕄)) := by
  let m : Vec F S2x8x32x576 .bf16 := fun i => if (i 1).val = 0 then f i else g i
  have e0 : ∀ c, r1P (F := F) d c 0 f = r1P d c 0 m := fun c => by
    unfold r1P
    exact pointsTo_congr fun i hi => (if_pos (mem_slots.1 hi).2).symm
  have e1 : ∀ c j, r1P (F := F) d c (sl7 j) g = r1P d c (sl7 j) m := fun c j => by
    unfold r1P
    exact pointsTo_congr fun i hi => (if_neg (by rw [(mem_slots.1 hi).2]; exact Nat.succ_ne_zero _ ∘ (Nat.add_comm 1 j.val).symm.trans)).symm
  simp only [e0, e1]
  rw [← r1_whole d m]
  iintro H
  iexists m
  iexact H
theorem r2_join (d : Dev nD) (f g : Vec F S2x4x8x576 .bf16) :
    iprop((r2P d 0 0 f ∗ bigSepL all3 (fun j => r2P d 0 (sl3 j) g)) ∗ r2P d 1 0 f ∗ bigSepL all3 (fun j => r2P d 1 (sl3 j) g))
      ⊢ iprop(∃ h : Vec F S2x4x8x576 .bf16, (((d : Thread nD τ).loc cc0_scratch4) ↦{fullShare} h : sProp 𝕄)) := by
  let m : Vec F S2x4x8x576 .bf16 := fun i => if (i 1).val = 0 then f i else g i
  have e0 : ∀ c, r2P (F := F) d c 0 f = r2P d c 0 m := fun c => by
    unfold r2P
    exact pointsTo_congr fun i hi => (if_pos (mem_slots.1 hi).2).symm
  have e1 : ∀ c j, r2P (F := F) d c (sl3 j) g = r2P d c (sl3 j) m := fun c j => by
    unfold r2P
    exact pointsTo_congr fun i hi => (if_neg (by rw [(mem_slots.1 hi).2]; exact Nat.succ_ne_zero _ ∘ (Nat.add_comm 1 j.val).symm.trans)).symm
  simp only [e0, e1]
  rw [← r2_whole d m]
  iintro H
  iexists m
  iexact H

/-! ## What the signals hand over -/

/-- The places a device's low partner gets, out of the device's buffers. -/
theorem pay_lo (d : Dev nD) (f : Vec F S2x8x32x576 .bf16) (g : Vec F S2x256x512 .bf16) :
    iprop((bigSepL all7 (fun j => r1P d 0 (sl7 j) f) ∗ bigSepL all7 (fun j => r1P d 1 (sl7 j) f))
        ∗ bigSepL all7 (fun j => nrP d fullShare 0 (blkT (peerLo d j)) g) ∗ bigSepL all7 (fun j => nrP d fullShare 1 (blkT (peerLo d j)) g))
      ⊢ bigSepL all7 (fun j => barP (F := F) (prt d (.inl j)) (.inl j)) := by
  refine (BIClass.sep_mono (bigSepL_sep _ _ _).2 (bigSepL_sep _ _ _).2).trans ((bigSepL_sep _ _ _).2.trans (bigSepL_mono fun j _ => ?_))
  unfold barP dstP prt
  dsimp only
  rw [peerLo_peerLo]
  iintro ⟨⟨H1, H2⟩, H3, H4⟩
  isplitl [H1]; · iexists f; iexact H1
  isplitl [H2]; · iexists f; iexact H2
  isplitl [H3]; · iexists g; iexact H3
  iexists g; iexact H4
theorem pay_hi (d : Dev nD) (f : Vec F S2x4x8x576 .bf16) (g : Vec F S2x256x512 .bf16) :
    iprop((bigSepL all3 (fun j => r2P d 0 (sl3 j) f) ∗ bigSepL all3 (fun j => r2P d 1 (sl3 j) f))
        ∗ bigSepL all3 (fun j => nrP d fullShare 0 (segT (peerHi d j)) g) ∗ bigSepL all3 (fun j => nrP d fullShare 1 (segT (peerHi d j)) g))
      ⊢ bigSepL all3 (fun j => barP (F := F) (prt d (.inr j)) (.inr j)) := by
  refine (BIClass.sep_mono (bigSepL_sep _ _ _).2 (bigSepL_sep _ _ _).2).trans ((bigSepL_sep _ _ _).2.trans (bigSepL_mono fun j _ => ?_))
  unfold barP dstP prt
  dsimp only
  rw [peerHi_peerHi]
  iintro ⟨⟨H1, H2⟩, H3, H4⟩
  isplitl [H1]; · iexists f; iexact H1
  isplitl [H2]; · iexists f; iexact H2
  isplitl [H3]; · iexists g; iexact H3
  iexists g; iexact H4

/-- The places a device gets, by stage and batch. -/
theorem bar_split (d : Dev nD) : bigSep Finset.univ (barP (F := F) d)
    ⊢ iprop((bigSepL all7 (fun j => dstP (F := F) d (.rs1 0 j)) ∗ bigSepL all7 (fun j => dstP (F := F) d (.rs1 1 j))
        ∗ bigSepL all7 (fun j => dstP (F := F) d (.ag2 0 j)) ∗ bigSepL all7 (fun j => dstP (F := F) d (.ag2 1 j)))
      ∗ bigSepL all3 (fun j => dstP (F := F) d (.rs2 0 j)) ∗ bigSepL all3 (fun j => dstP (F := F) d (.rs2 1 j))
        ∗ bigSepL all3 (fun j => dstP (F := F) d (.ag1 0 j)) ∗ bigSepL all3 (fun j => dstP (F := F) d (.ag1 1 j))) := by
  rw [prs]
  exact BIClass.sep_mono ((bigSepL_sep _ _ _).1.trans (sep_mono_right ((bigSepL_sep _ _ _).1.trans (sep_mono_right (bigSepL_sep _ _ _).1))))
    ((bigSepL_sep _ _ _).1.trans (sep_mono_right ((bigSepL_sep _ _ _).1.trans (sep_mono_right (bigSepL_sep _ _ _).1))))

end Cert.KernelIdeal.Ring

end
-- ==== Proof.Runs.lean ====
/- What each phase of the body does to the pieces a device holds. -/
module

public import proofs.«01_k».proof.Proof.Holdings

@[expose] public section

noncomputable section

namespace Cert.KernelIdeal.Ring

open Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F] [Named F]

local notation "𝕄" => MT nD τ sig Unit (Elt F) ℕ UU ℕ

variable (I : Dev nD → Inp F) (K : Dev nD × Ck → ℕ)

/-- The two tokens a transfer is sent with, what its two waits need, and its two cells closed. -/
def tokP (d : Dev nD) (x : Xf) : sProp 𝕄 :=
  iprop(dutyTok ER (kcell d (.snd x)) 0 one ∗ dutyTok ER (kcell (peer d x) (.rcv x)) 0 one)
def waitP (d : Dev nD) (x : Xf) : sProp 𝕄 :=
  iprop(atPos ER (kcell d (.snd x)) 0 ∅ 0 ∗ cred (tallyAt (kcell d (.rcv x)) () x.N) ∗ atPos ER (kcell d (.rcv x)) 0 ∅ 0)
def doneP (d : Dev nD) (x : Xf) : sProp 𝕄 := iprop(semVal (kcell d (.snd x)) 0 ∗ semVal (kcell d (.rcv x)) 0)
def sentP (d : Dev nD) (x : Xf) : sProp 𝕄 := cred (tallyAt (kcell d (.snd x)) () x.N)

/-! ## Loops of protocol steps -/

theorem run_sends {ι : Type} (d : Dev nD) (f : ι → Xf) (r : List Xf) (l : List ι) :
    iprop((ctx I K ∗ st (F := F) d (l.map f ++ r)) ∗ bigSepL l (fun j => srcP I d (f j)) ∗ bigSepL l (fun j => dstP (F := F) d (f j))
        ∗ bigSepL l (fun j => tokP (F := F) d (f j)))
      ⊢ Wp d (each (fun j => sendX d (f j)) l) (fun _ => iprop((ctx I K ∗ st (F := F) d r) ∗ bigSepL l (fun j => sentP (F := F) d (f j)))) := by
  refine .trans ?_ (wp_each d (fun j => sendX d (f j)) (fun l => iprop(ctx I K ∗ st (F := F) d (l.map f ++ r)))
    (fun j => iprop(srcP I d (f j) ∗ dstP (F := F) d (f j) ∗ tokP (F := F) d (f j))) (fun j => sentP (F := F) d (f j))
    (fun j l => ?_) l)
  · exact sep_mono_right ((sep_mono_right (bigSepL_sep _ _ _).2).trans (bigSepL_sep _ _ _).2)
  · unfold tokP sentP
    exact wp_sendX I K d (f j) (l.map f ++ r)

theorem run_waits {ι : Type} (d : Dev nD) (f : ι → Xf) (r : List Xf) (l : List ι) (h : ∀ j, ∀ y ∈ r, (f j).lev < y.lev) :
    iprop((ctx I K ∗ st (F := F) d r) ∗ bigSepL l (fun j => sentP (F := F) d (f j)) ∗ bigSepL l (fun j => waitP (F := F) d (f j)))
      ⊢ Wp d (each (fun j => waitX d (f j)) l) (fun _ => iprop((ctx I K ∗ st (F := F) d r)
          ∗ bigSepL l (fun j => srcP I d (f j)) ∗ bigSepL l (fun j => gotP I d (f j)) ∗ bigSepL l (fun j => doneP (F := F) d (f j)))) := by
  have key := wp_each d (fun j => waitX d (f j)) (fun _ => iprop(ctx I K ∗ st (F := F) d r))
    (fun j => iprop(sentP (F := F) d (f j) ∗ waitP (F := F) d (f j))) (fun j => iprop(srcP I d (f j) ∗ gotP I d (f j) ∗ doneP (F := F) d (f j)))
    (fun j l => by unfold sentP waitP doneP; exact wp_waitX I K d (f j) r (h j)) l
  iintro ⟨H, Hs, Hw⟩
  iapply (Wp_last key)
  isplitl [H Hs Hw]
  · isplitl [H]; · iexact H
    iapply (bigSepL_sep _ _ _).2
    isplitl [Hs] <;> iassumption
  iintro %u ⟨H, Hl⟩
  ihave ⟨Hs, Hl⟩ := (bigSepL_sep _ _ _).1 $$ Hl
  ihave ⟨Hg, Hz⟩ := (bigSepL_sep _ _ _).1 $$ Hl
  isplitl [H]; · iexact H
  isplitl [Hs]; · iexact Hs
  isplitl [Hg] <;> iassumption

/-- Nothing, once for each entry of a list. -/
theorem emps {ι : Type} : ∀ l : List ι, (iprop(emp) : sProp 𝕄) ⊢ bigSepL l (fun _ => iprop(emp))
  | [] => .rfl
  | _ :: l => by
    rw [bigSepL_cons']
    iintro -
    isplitr
    · iempintro
    · iapply (emps l)
      iempintro

/-- The signals of entry. -/
theorem run_signals {ι : Type} (d : Dev nD) (f : ι → Pr) (r : List Pr) (l : List ι) :
    iprop((ctx I K ∗ stB (F := F) d (l.map f ++ r)) ∗ bigSepL l (fun j => dutyTok ER (kcell (prt d (f j)) .bar) 0 (f j))
        ∗ bigSepL l (fun j => barP (F := F) (prt d (f j)) (f j)))
      ⊢ Wp d (each (fun j => enter d (f j)) l) (fun _ => iprop(ctx I K ∗ stB (F := F) d r)) := by
  have key := wp_each d (fun j => enter d (f j)) (fun l => iprop(ctx I K ∗ stB (F := F) d (l.map f ++ r)))
    (fun j => iprop(dutyTok ER (kcell (prt d (f j)) .bar) 0 (f j) ∗ barP (F := F) (prt d (f j)) (f j))) (fun _ => iprop(emp))
    (fun j l => wp_enter I K d (f j) (l.map f ++ r)) l
  iintro ⟨H, Ht, Hb⟩
  iapply (Wp_last key)
  isplitl [H Ht Hb]
  · isplitl [H]; · iexact H
    iapply (bigSepL_sep _ _ _).2
    isplitl [Ht] <;> iassumption
  iintro %u ⟨H, -⟩
  iexact H

/-! ## The computation -/

/-- A buffer held whole, at given contents. -/
abbrev at_ (d : Dev nD) (b : Ref sig .tc) (f : b.ty.Contents (Elt F)) : sProp 𝕄 := ((d : Thread nD τ).loc b) ↦{fullShare} f

theorem hz3 : (![0, 0, 0] : Fin 3 → Nat) = fun _ => 0 := funext fun a => by fin_cases a <;> rfl
theorem hz2 : (![0, 0] : Fin 2 → Nat) = fun _ => 0 := funext fun a => by fin_cases a <;> rfl

theorem run_queries (d : Dev nD) (q : Vec F S2x256x512 .bf16) :
    iprop(at_ d cc0_stg1_0 (I d).wq ∗ at_ d cc0_stg0_0 (I d).x ∗ at_ (F := F) d cc0_scratch0 q)
      ⊢ Wp d queries (fun _ => iprop(at_ d cc0_stg1_0 (I d).wq ∗ at_ d cc0_stg0_0 (I d).x ∗ at_ d cc0_scratch0 (Qc I d))) := by
  unfold queries
  simp only [Prog.lift, Prog.bind_op, Prog.bind_ret]
  iintro ⟨Hw, Hx, Hq⟩
  iapply (wp_load 𝒱₀ (d : Thread nD τ) none Set.univ (m := wqM) (Finset.subset_univ _)) $$ Hw; iintro Hw
  iapply (wp_load 𝒱₀ (d : Thread nD τ) none Set.univ (m := xM) (Finset.subset_univ _)) $$ Hx; iintro Hx
  iapply (wp_load 𝒱₀ (d : Thread nD τ) none Set.univ (m := qM) (Finset.subset_univ _)) $$ Hq; iintro Hq
  iapply (wp_store 𝒱₀ (d : Thread nD τ) none Set.univ (m := qM) (r := Rect.unit (s := S2x256x512) ![0, 0, 0] S2x256x512.size inb_S2x256x512_S2x256x512_0_0_0) (S := Finset.univ) (f := q) (Mk := Finset.univ) (Finset.subset_univ _)) $$ Hq; iintro Hq
  iapply Wp_ret
  isplitl [Hw]; · iexact Hw
  isplitl [Hx]; · iexact Hx
  iapply (Entails.of_eq (congrArg (fun g => at_ d cc0_scratch0 g)
    (congrArg₂ (k0_pay2 (F := F)) (Memref.readAt_unit_zero (Elt F) cc0_stg1_0 hz2 inb_S768x512_S768x512_0_0 (I d).wq)
      (Memref.readAt_unit_zero (Elt F) cc0_stg0_0 hz3 inb_S2x256x768_S2x256x768_0_0_0 (I d).x))))
  iapply (Entails.of_eq (congrArg (fun g => at_ d cc0_scratch0 g)
    (Memref.write_access_unit_zero_univ (Elt F) cc0_scratch0 hz3 inb_S2x256x512_S2x256x512_0_0_0 q _)))
  iexact Hq

/-- The accumulator of one batch while the heads in `l` are still to be computed. -/
def accL (d : Dev nD) (b : Fin 2) (l : List (Fin 8)) : sProp 𝕄 :=
  iprop(∃ f, ⌜∀ i ∈ rows 576 b Finset.univ, (∀ h ∈ l, (i 2).val / 72 ≠ h.val) → f i = A0 I d i⌝ ∗ accP d b Finset.univ f)

theorem run_head (d : Dev nD) (b g : Fin 2) (r : List (Fin 8)) (h : Fin 8) (l : List (Fin 8)) :
    iprop((⌜∀ h' ∈ h :: l, grp h' = g⌝ ∗ at_ d cc0_scratch0 (Qc I d) ∗ accL I d b (h :: l ++ r)) ∗ emp)
      ⊢ Wp d (headStep b ((kM.access (rKv b g)).read (Elt F) (I d).k) ((vM.access (rKv b g)).read (Elt F) (I d).v) h)
          (fun _ => iprop((⌜∀ h' ∈ l, grp h' = g⌝ ∗ at_ d cc0_scratch0 (Qc I d) ∗ accL I d b (l ++ r)) ∗ emp)) := by
  unfold headStep accL accP
  simp only [Prog.lift, Prog.bind_op, Prog.bind_ret]
  iintro ⟨⟨%hg, Hq, %f, %hf, Ha⟩, -⟩
  have hgh : grp h = g := hg h List.mem_cons_self
  subst hgh
  iapply (wp_load_rect 𝒱₀ (d : Thread nD τ) none Set.univ (m := qM) (r := rQh b h) (S := Finset.univ) (q := fullShare) (f := Qc I d) (Finset.subset_univ _)) $$ Hq; iintro Hq
  iapply (wp_load_rect 𝒱₀ (d : Thread nD τ) none Set.univ (m := accM) (r := rAh b h) (q := fullShare) (f := f) (S := rows 576 b Finset.univ)
    (by rw [View.set_slice_whole]; exact sub_ah b h)) $$ Ha; iintro Ha
  iapply (wp_store 𝒱₀ (d : Thread nD τ) none Set.univ (m := accM) (r := rAh b h) (f := f) (Mk := Finset.univ) (S := rows 576 b Finset.univ)
    (by rw [View.setOn_univ, View.set_slice_whole]; exact sub_ah b h)) $$ Ha; iintro Ha
  iapply Wp_ret
  isplitl
  · isplitr; · ipureintro; exact fun h' hh => hg h' (List.mem_cons_of_mem _ hh)
    isplitl [Hq]; · iexact Hq
    iexists _
    isplitr
    rotate_left
    · iexact Ha
    ipureintro
    intro i hi hn
    refine (store_head d b h f i hi).trans ?_
    split
    · rfl
    · next e =>
      refine hf i hi fun h' hh => ?_
      rcases List.mem_cons.1 hh with rfl | hh
      · exact e
      · exact hn h' hh
  iempintro

theorem run_group (d : Dev nD) (b g : Fin 2) (gl : List (Fin 2)) :
    iprop((at_ d cc0_stg3_0 (I d).k ∗ at_ d cc0_stg4_0 (I d).v ∗ at_ d cc0_scratch0 (Qc I d) ∗ accL I d b ((g :: gl).flatMap headsOf)) ∗ emp)
      ⊢ Wp d (groupStep b g)
          (fun _ => iprop((at_ d cc0_stg3_0 (I d).k ∗ at_ d cc0_stg4_0 (I d).v ∗ at_ d cc0_scratch0 (Qc I d) ∗ accL I d b (gl.flatMap headsOf)) ∗ emp)) := by
  have hg : ∀ g : Fin 2, ∀ h ∈ headsOf g, grp h = g := by decide
  have key := wp_each d (headStep b ((kM.access (rKv b g)).read (Elt F) (I d).k) ((vM.access (rKv b g)).read (Elt F) (I d).v))
    (fun l => iprop(⌜∀ h' ∈ l, grp h' = g⌝ ∗ at_ d cc0_scratch0 (Qc I d) ∗ accL I d b (l ++ gl.flatMap headsOf)))
    (fun _ => iprop(emp)) (fun _ => iprop(emp)) (fun h l => run_head I d b g (gl.flatMap headsOf) h l) (headsOf g)
  unfold groupStep
  simp only [Prog.lift, Prog.bind_op, Prog.bind_ret]
  iintro ⟨⟨Hk, Hv, Hq, Ha⟩, -⟩
  iapply (wp_load_rect 𝒱₀ (d : Thread nD τ) none Set.univ (m := kM) (r := rKv b g) (S := Finset.univ) (q := fullShare) (f := (I d).k) (Finset.subset_univ _)) $$ Hk; iintro Hk
  iapply (wp_load_rect 𝒱₀ (d : Thread nD τ) none Set.univ (m := vM) (r := rKv b g) (S := Finset.univ) (q := fullShare) (f := (I d).v) (Finset.subset_univ _)) $$ Hv; iintro Hv
  iapply (Wp_last key)
  isplitl [Hq Ha]
  · isplitl
    · isplitr; · ipureintro; exact hg g
      isplitl [Hq]; · iexact Hq
      iexact Ha
    iapply (emps (F := F) _); iempintro
  iintro %u ⟨⟨-, Hq, Ha⟩, -⟩
  isplitl
  · isplitl [Hk]; · iexact Hk
    isplitl [Hv]; · iexact Hv
    isplitl [Hq]; · iexact Hq
    iexact Ha
  iempintro

theorem run_partials (d : Dev nD) (b : Fin 2) (f : Vec F S2x256x576 .f32) :
    iprop(at_ d cc0_stg3_0 (I d).k ∗ at_ d cc0_stg4_0 (I d).v ∗ at_ d cc0_scratch0 (Qc I d) ∗ accP d b Finset.univ f)
      ⊢ Wp d (partials b) (fun _ => iprop(at_ d cc0_stg3_0 (I d).k ∗ at_ d cc0_stg4_0 (I d).v ∗ at_ d cc0_scratch0 (Qc I d)
          ∗ accP d b Finset.univ (A0 I d))) := by
  have key := wp_each d (groupStep b)
    (fun gl => iprop(at_ d cc0_stg3_0 (I d).k ∗ at_ d cc0_stg4_0 (I d).v ∗ at_ d cc0_scratch0 (Qc I d) ∗ accL I d b (gl.flatMap headsOf)))
    (fun _ => iprop(emp)) (fun _ => iprop(emp)) (fun g gl => run_group I d b g gl) [0, 1]
  unfold partials
  iintro ⟨Hk, Hv, Hq, Ha⟩
  iapply (Wp_last key)
  isplitl
  · isplitl
    · isplitl [Hk]; · iexact Hk
      isplitl [Hv]; · iexact Hv
      isplitl [Hq]; · iexact Hq
      unfold accL
      iexists f
      isplitr
      · ipureintro
        intro i _ hn
        have h8 : (i 2).val / 72 < 8 := by have := ltn i; omega
        have : ∀ h : Fin 8, h ∈ ([0, 1] : List (Fin 2)).flatMap headsOf := by decide
        exact absurd rfl (hn ⟨(i 2).val / 72, h8⟩ (this _))
      iexact Ha
    rw [bigSepL_cons', bigSepL_singleton]
    isplitr <;> iempintro
  iintro %u ⟨⟨Hk, Hv, Hq, Ha⟩, -⟩
  isplitl [Hk]; · iexact Hk
  isplitl [Hv]; · iexact Hv
  isplitl [Hq]; · iexact Hq
  unfold accL accP
  icases Ha with ⟨%g, %hg, Ha⟩
  iapply (Entails.of_eq (pointsTo_congr fun i hi => hg i hi fun h hh => absurd hh List.not_mem_nil))
  iexact Ha

end Cert.KernelIdeal.Ring

end
-- ==== Proof.Runs2.lean ====
/- The two reduce-scatters: what is stored, sent, waited for and added. -/
module

public import proofs.«01_k».proof.Proof.Runs

@[expose] public section

noncomputable section

namespace Cert.KernelIdeal.Ring

open Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F] [Named F]

local notation "𝕄" => MT nD τ sig Unit (Elt F) ℕ UU ℕ

variable (I : Dev nD → Inp F) (K : Dev nD × Ck → ℕ)

/-! ## A load and a store of a part of a buffer -/

theorem load_part (d : Dev nD) {s : Shape} {e : EltTy} (m : Memref sig .tc .vmem s e) (r : Rect s) (S : Finset (Idx ((m.access r).loc (d : Thread nD τ))))
    (q : PosShare TreeShare) (f : Buf (Elt F) ((m.access r).loc (d : Thread nD τ))) (hS : (m.access r).set ⊆ S)
    {hl : m.view.LoadsAt r.toLoadRect} {α : Type} {k : (r.shape.Idx → Elt F e) → P F α} {Q : α → sProp 𝕄} :
    iprop(((m.access r).loc (d : Thread nD τ) ↦[S]{q} f)
        ∗ (((m.access r).loc (d : Thread nD τ) ↦[S]{q} f) -∗ Wp d (k ((m.access r).read (Elt F) f)) Q))
      ⊢ Wp d (.op (.load m r.toLoadRect hl) k) Q := by
  iintro ⟨H, Hk⟩
  iapply (wp_load_rect 𝒱₀ (d : Thread nD τ) none Set.univ (m := m) (r := r) (S := S) (q := q) (f := f) hS) $$ H
  iexact Hk

/-- A store, the part known afterwards to hold `g`. -/
theorem store_part (d : Dev nD) {s : Shape} {e : EltTy} (m : Memref sig .tc .vmem s e) (r : Rect s) (S : Finset (Idx ((m.access r).loc (d : Thread nD τ))))
    (f g : Buf (Elt F) ((m.access r).loc (d : Thread nD τ))) {w : r.shape.Idx → Elt F e} (hS : (m.access r).set ⊆ S)
    (hg : ∀ i ∈ S, (m.access r).write (Elt F) f w Finset.univ i = g i)
    {hx : (m.access r).Stores Finset.univ} {hm} {α : Type} {k : PUnit → P F α} {Q : α → sProp 𝕄} :
    iprop(((m.access r).loc (d : Thread nD τ) ↦[S]{fullShare} f)
        ∗ (((m.access r).loc (d : Thread nD τ) ↦[S]{fullShare} g) -∗ Wp d (k ⟨⟩) Q))
      ⊢ Wp d (.op (.store m r w Finset.univ hx hm) k) Q := by
  have h : ((m.access r).loc (d : Thread nD τ) ↦[S]{fullShare} f) ⊢ iprop((((m.access r).loc (d : Thread nD τ) ↦[S]{fullShare}
      (m.access r).write (Elt F) f w Finset.univ) -∗ Wp d (k ⟨⟩) Q) -∗ Wp d (.op (.store m r w Finset.univ hx hm) k) Q) :=
    wp_store 𝒱₀ (d : Thread nD τ) none Set.univ (m := m) (r := r) (S := S) (f := f) (Mk := Finset.univ) (w := w) (hx := hx) (hm := hm) (k := k)
      (Q := Q) (by rw [View.setOn_univ]; exact hS)
  rw [pointsTo_congr hg] at h
  iintro ⟨H, Hk⟩
  iapply h $$ H
  iexact Hk

theorem acc_in {c : Fin 2} {T : Finset (Fin 32)} {r : Rect S2x256x576} (h : r.set = rows 576 c T) : (accM.access r).set ⊆ rows 576 c Finset.univ := by
  rw [View.set_slice_whole, h]; exact rows_mono c (Finset.subset_univ T)
theorem snd_in {c : Fin 2} {T : Finset (Fin 32)} {r : Rect S2x256x576} (h : r.set = rows 576 c T) : (sndM.access r).set ⊆ rows 576 c Finset.univ := by
  rw [View.set_slice_whole, h]; exact rows_mono c (Finset.subset_univ T)

theorem seven (Φ : Fin 7 → sProp 𝕄) : bigSepL all7 Φ = iprop(Φ 0 ∗ Φ 1 ∗ Φ 2 ∗ Φ 3 ∗ Φ 4 ∗ Φ 5 ∗ Φ 6) := by
  rw [bigSepL_cons', bigSepL_cons', bigSepL_cons', bigSepL_cons', bigSepL_cons', bigSepL_cons', bigSepL_singleton]
theorem three (Φ : Fin 3 → sProp 𝕄) : bigSepL all3 Φ = iprop(Φ 0 ∗ Φ 1 ∗ Φ 2) := by
  rw [bigSepL_cons', bigSepL_cons', bigSepL_singleton]

/-! ## The first reduce-scatter -/

theorem run_startRs1 (d : Dev nD) (c : Fin 2) (r : List Xf) (f : Vec F S2x256x576 .bf16) :
    iprop((ctx I K ∗ st (F := F) d (all7.map (.rs1 c) ++ r)) ∗ accP d c Finset.univ (A0 I d) ∗ sndP d c Finset.univ f
        ∗ bigSepL all7 (fun j => dstP (F := F) d (.rs1 c j)) ∗ bigSepL all7 (fun j => tokP (F := F) d (.rs1 c j)))
      ⊢ Wp d (startRs1 d c) (fun _ => iprop((ctx I K ∗ st (F := F) d r) ∗ accP d c Finset.univ (A0 I d) ∗ sndP d c (blkT d) (S1 I d)
          ∗ bigSepL all7 (fun j => sentP (F := F) d (.rs1 c j)))) := by
  have hsplit := Entails.of_eq (snd_lo d c (S1 I d))
  have hs := run_sends I K d (.rs1 c) r all7
  unfold startRs1 accP
  unfold sndP at hsplit ⊢
  simp only [Prog.lift, Prog.bind_op, Prog.bind_ret]
  iintro ⟨H, Ha, Hs, Hd, Ht⟩
  iapply (load_part d accM (rAll576 c) (rows 576 c Finset.univ) fullShare (A0 I d) (acc_in (set_all576 c)))
  isplitl [Ha]; · iexact Ha
  iintro Ha
  iapply (load_part d sndM (rAll576 c) (rows 576 c Finset.univ) fullShare f (snd_in (set_all576 c)))
  isplitl [Hs]; · iexact Hs
  iintro Hs
  iapply (store_part d sndM (rAll576 c) (rows 576 c Finset.univ) f (S1 I d) (snd_in (set_all576 c)) (store_snd1 d c f))
  isplitl [Hs]; · iexact Hs
  iintro Hs
  ihave ⟨Hs, Hl⟩ := hsplit $$ Hs
  iapply (Wp_last hs)
  isplitl [H Hl Hd Ht]
  · isplitl [H]; · iexact H
    isplitl [Hl]; · iexact Hl
    isplitl [Hd]; · iexact Hd
    iexact Ht
  iintro %u ⟨H, Hl⟩
  isplitl [H]; · iexact H
  isplitl [Ha]; · iexact Ha
  isplitl [Hs]; · iexact Hs
  iexact Hl

theorem load_r1 (d : Dev nD) (c : Fin 2) (j : Fin 7) (f : Vec F S2x8x32x576 .bf16) {α : Type} {k : Vec F S1x1x32x576 .bf16 → P F α} {Q : α → sProp 𝕄} :
    iprop(r1P d c (sl7 j) f ∗ (r1P d c (sl7 j) f -∗ Wp d (k ((r1M.access (rR1 c j)).read (Elt F) f)) Q)) ⊢ Wp d (loadR1 c j >>= k) Q := by
  unfold r1P
  exact load_part d r1M (rR1 c j) (slots 8 32 c (sl7 j)) fullShare f (by rw [View.set_slice_whole, set_r1])

theorem run_addRs1 (d : Dev nD) (c : Fin 2) :
    iprop(accP d c Finset.univ (A0 I d) ∗ bigSepL all7 (fun j => gotP I d (.rs1 c j)))
      ⊢ Wp d (addRs1 d c) (fun _ => iprop(accP d c Finset.univ (A1 I d) ∗ bigSepL all7 (fun j => r1P d c (sl7 j) (R1 I d)))) := by
  show iprop(_ ∗ bigSepL all7 (fun j => r1P d c (sl7 j) (R1 I d))) ⊢ _
  unfold addRs1 accP
  rw [seven]
  iintro ⟨Ha, H0, H1, H2, H3, H4, H5, H6⟩
  iapply (load_part d accM (rBlk d c) (rows 576 c Finset.univ) fullShare (A0 I d) (acc_in (set_blk d c)))
  isplitl [Ha]; · iexact Ha
  iintro Ha
  iapply (load_r1 d c 0 (R1 I d)); isplitl [H0]; · iexact H0
  iintro H0
  iapply (load_r1 d c 1 (R1 I d)); isplitl [H1]; · iexact H1
  iintro H1
  iapply (load_r1 d c 2 (R1 I d)); isplitl [H2]; · iexact H2
  iintro H2
  iapply (load_r1 d c 3 (R1 I d)); isplitl [H3]; · iexact H3
  iintro H3
  iapply (load_r1 d c 4 (R1 I d)); isplitl [H4]; · iexact H4
  iintro H4
  iapply (load_r1 d c 5 (R1 I d)); isplitl [H5]; · iexact H5
  iintro H5
  iapply (load_r1 d c 6 (R1 I d)); isplitl [H6]; · iexact H6
  iintro H6
  iapply (load_part d accM (rBlk d c) (rows 576 c Finset.univ) fullShare (A0 I d) (acc_in (set_blk d c)))
  isplitl [Ha]; · iexact Ha
  iintro Ha
  iapply (store_part d accM (rBlk d c) (rows 576 c Finset.univ) (A0 I d) (A1 I d) (acc_in (set_blk d c)) (store_acc1 d c))
  isplitl [Ha]; · iexact Ha
  iintro Ha
  iapply Wp_ret
  isplitl [Ha]; · iexact Ha
  isplitl [H0]; · iexact H0
  isplitl [H1]; · iexact H1
  isplitl [H2]; · iexact H2
  isplitl [H3]; · iexact H3
  isplitl [H4]; · iexact H4
  isplitl [H5]; · iexact H5
  iexact H6

/-! ## The second reduce-scatter -/

theorem run_startRs2 (d : Dev nD) (c : Fin 2) (r : List Xf) :
    iprop((ctx I K ∗ st (F := F) d (all3.map (.rs2 c) ++ r)) ∗ accP d c Finset.univ (A1 I d)
        ∗ (sndP d c (blkT d) (S1 I d) ∗ bigSepL all7 (fun j => srcP I d (.rs1 c j)))
        ∗ bigSepL all3 (fun j => dstP (F := F) d (.rs2 c j)) ∗ bigSepL all3 (fun j => tokP (F := F) d (.rs2 c j)))
      ⊢ Wp d (startRs2 d c) (fun _ => iprop((ctx I K ∗ st (F := F) d r) ∗ accP d c Finset.univ (A1 I d) ∗ sndP d c (shareTop d none) (S2 I d)
          ∗ bigSepL all3 (fun j => sentP (F := F) d (.rs2 c j)))) := by
  have hjoin : iprop(sndP d c (blkT d) (S1 I d) ∗ bigSepL all7 (fun j => srcP I d (.rs1 c j))) ⊢ sndP d c Finset.univ (S1 I d) :=
    Entails.of_eq (snd_lo d c (S1 I d)).symm
  have hsplit := Entails.of_eq (snd_top d c (S2 I d))
  have hs := run_sends I K d (.rs2 c) r all3
  unfold startRs2 accP
  unfold sndP at hsplit hjoin ⊢
  simp only [Prog.lift, Prog.bind_op, Prog.bind_ret]
  iintro ⟨H, Ha, Hs, Hd, Ht⟩
  ihave Hs := hjoin $$ Hs
  iapply (load_part d accM (rBlk d c) (rows 576 c Finset.univ) fullShare (A1 I d) (acc_in (set_blk d c)))
  isplitl [Ha]; · iexact Ha
  iintro Ha
  iapply (load_part d sndM (rTop32 c) (rows 576 c Finset.univ) fullShare (S1 I d) (snd_in (set_top32 c)))
  isplitl [Hs]; · iexact Hs
  iintro Hs
  iapply (store_part d sndM (rTop32 c) (rows 576 c Finset.univ) (S1 I d) (S2 I d) (snd_in (set_top32 c)) (store_snd2 d c))
  isplitl [Hs]; · iexact Hs
  iintro Hs
  ihave ⟨Hs, Hl⟩ := hsplit $$ Hs
  iapply (Wp_last hs)
  isplitl [H Hl Hd Ht]
  · isplitl [H]; · iexact H
    isplitl [Hl]; · iexact Hl
    isplitl [Hd]; · iexact Hd
    iexact Ht
  iintro %u ⟨H, Hl⟩
  isplitl [H]; · iexact H
  isplitl [Ha]; · iexact Ha
  isplitl [Hs]; · iexact Hs
  iexact Hl

theorem load_r2 (d : Dev nD) (c : Fin 2) (j : Fin 3) (f : Vec F S2x4x8x576 .bf16) {α : Type} {k : Vec F S1x1x8x576 .bf16 → P F α} {Q : α → sProp 𝕄} :
    iprop(r2P d c (sl3 j) f ∗ (r2P d c (sl3 j) f -∗ Wp d (k ((r2M.access (rR2 c j)).read (Elt F) f)) Q)) ⊢ Wp d (loadR2 c j >>= k) Q := by
  unfold r2P
  exact load_part d r2M (rR2 c j) (slots 4 8 c (sl3 j)) fullShare f (by rw [View.set_slice_whole, set_r2])

theorem run_addRs2 (d : Dev nD) (c : Fin 2) :
    iprop(accP d c Finset.univ (A1 I d) ∗ bigSepL all3 (fun j => gotP I d (.rs2 c j)))
      ⊢ Wp d (addRs2 d c) (fun _ => iprop(accP d c Finset.univ (A2 I d) ∗ bigSepL all3 (fun j => r2P d c (sl3 j) (R2 I d)))) := by
  show iprop(_ ∗ bigSepL all3 (fun j => r2P d c (sl3 j) (R2 I d))) ⊢ _
  unfold addRs2 accP
  rw [three]
  iintro ⟨Ha, H0, H1, H2⟩
  iapply (load_part d accM (rSeg d c) (rows 576 c Finset.univ) fullShare (A1 I d) (acc_in (set_seg d c)))
  isplitl [Ha]; · iexact Ha
  iintro Ha
  iapply (load_r2 d c 0 (R2 I d)); isplitl [H0]; · iexact H0
  iintro H0
  iapply (load_r2 d c 1 (R2 I d)); isplitl [H1]; · iexact H1
  iintro H1
  iapply (load_r2 d c 2 (R2 I d)); isplitl [H2]; · iexact H2
  iintro H2
  iapply (load_part d accM (rSeg d c) (rows 576 c Finset.univ) fullShare (A1 I d) (acc_in (set_seg d c)))
  isplitl [Ha]; · iexact Ha
  iintro Ha
  iapply (store_part d accM (rSeg d c) (rows 576 c Finset.univ) (A1 I d) (A2 I d) (acc_in (set_seg d c)) (store_acc2 d c))
  isplitl [Ha]; · iexact Ha
  iintro Ha
  iapply Wp_ret
  isplitl [Ha]; · iexact Ha
  isplitl [H0]; · iexact H0
  isplitl [H1]; · iexact H1
  iexact H2

end Cert.KernelIdeal.Ring

end
-- ==== Proof.Runs3.lean ====
/- From the sums to the result: the division, the two gathers, the projection. -/
module

public import proofs.«01_k».proof.Proof.Runs2

@[expose] public section

noncomputable section

namespace Cert.KernelIdeal.Ring

open Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F] [Named F]

local notation "𝕄" => MT nD τ sig Unit (Elt F) ℕ UU ℕ

variable (I : Dev nD → Inp F) (K : Dev nD × Ck → ℕ)

/-! ## The division -/

/-- A device's own rows of the attention output while the heads in `l` are still to be divided. -/
def nrL (d : Dev nD) (c : Fin 2) (l : List (Fin 8)) : sProp 𝕄 :=
  iprop(∃ f, ⌜∀ i ∈ rows 512 c (segT d), (∀ h ∈ l, (i 2).val / 64 ≠ h.val) → f i = G I i⌝ ∗ nrP d fullShare c (segT d) f)

theorem run_norm (d : Dev nD) (c : Fin 2) (h : Fin 8) (l : List (Fin 8)) :
    iprop((accP d c Finset.univ (A2 I d) ∗ nrL I d c (h :: l)) ∗ emp)
      ⊢ Wp d (normStep d c h) (fun _ => iprop((accP d c Finset.univ (A2 I d) ∗ nrL I d c l) ∗ emp)) := by
  have hin : ∀ {r : Rect S2x256x576}, r.set ⊆ rows 576 c (segT d) → (accM.access r).set ⊆ rows 576 c Finset.univ := fun hr => by
    rw [View.set_slice_whole]; exact hr.trans (rows_mono c (Finset.subset_univ _))
  have hin' : (nrM.access (rSegH d c h)).set ⊆ rows 512 c (segT d) := by rw [View.set_slice_whole]; exact sub_segH d c h
  unfold normStep nrL nrP accP
  simp only [Prog.lift, Prog.bind_op, Prog.bind_ret]
  iintro ⟨⟨Ha, %f, %hf, Hn⟩, -⟩
  iapply (load_part d accM (rSegO d c h) (rows 576 c Finset.univ) fullShare (A2 I d) (hin (sub_segO d c h)))
  isplitl [Ha]; · iexact Ha
  iintro Ha
  iapply (load_part d accM (rSegL d c h) (rows 576 c Finset.univ) fullShare (A2 I d) (hin (sub_segL d c h)))
  isplitl [Ha]; · iexact Ha
  iintro Ha
  iapply (load_part d nrM (rSegH d c h) (rows 512 c (segT d)) fullShare f hin')
  isplitl [Hn]; · iexact Hn
  iintro Hn
  iapply (store_part d nrM (rSegH d c h) (rows 512 c (segT d)) f _ hin' (fun i _ => rfl))
  isplitl [Hn]; · iexact Hn
  iintro Hn
  iapply Wp_ret
  isplitl
  · isplitl [Ha]; · iexact Ha
    iexists _
    isplitr
    rotate_left
    · iexact Hn
    ipureintro
    intro i hi hn
    refine (store_norm d c h f i hi).trans ?_
    split
    · rfl
    · next e =>
      refine hf i hi fun h' hh => ?_
      rcases List.mem_cons.1 hh with rfl | hh
      · exact e
      · exact hn h' hh
  iempintro

theorem run_normalise (d : Dev nD) (c : Fin 2) (f : Vec F S2x256x512 .bf16) :
    iprop(accP d c Finset.univ (A2 I d) ∗ nrP d fullShare c (segT d) f)
      ⊢ Wp d (normalise d c) (fun _ => iprop(accP d c Finset.univ (A2 I d) ∗ nrP d fullShare c (segT d) (G I))) := by
  have key := wp_each d (normStep d c) (fun l => iprop(accP d c Finset.univ (A2 I d) ∗ nrL I d c l))
    (fun _ => iprop(emp)) (fun _ => iprop(emp)) (fun h l => run_norm I d c h l) [0, 1, 2, 3, 4, 5, 6, 7]
  unfold normalise
  iintro ⟨Ha, Hn⟩
  iapply (Wp_last key)
  isplitl
  · isplitl
    · isplitl [Ha]; · iexact Ha
      unfold nrL
      iexists f
      isplitr
      · ipureintro
        intro i _ hn
        have h8 : (i 2).val / 64 < 8 := by have := ltn i; omega
        have : ∀ h : Fin 8, h ∈ ([0, 1, 2, 3, 4, 5, 6, 7] : List (Fin 8)) := by decide
        exact absurd rfl (hn ⟨(i 2).val / 64, h8⟩ (this _))
      iexact Hn
    iapply (emps (F := F) _); iempintro
  iintro %u ⟨⟨Ha, Hn⟩, -⟩
  isplitl [Ha]; · iexact Ha
  unfold nrL nrP
  icases Hn with ⟨%g, %hg, Hn⟩
  iapply (Entails.of_eq (pointsTo_congr fun i hi => hg i hi fun h hh => absurd hh List.not_mem_nil))
  iexact Hn

/-! ## The gathers -/

/-- A device's own 8 rows, sent to the high group. -/
theorem run_sendAg1 (d : Dev nD) (c : Fin 2) (r : List Xf) :
    iprop((ctx I K ∗ st (F := F) d (all3.map (.ag1 c) ++ r)) ∗ nrP d fullShare c (segT d) (G I)
        ∗ bigSepL all3 (fun j => dstP (F := F) d (.ag1 c j)) ∗ bigSepL all3 (fun j => tokP (F := F) d (.ag1 c j)))
      ⊢ Wp d (each (fun j => sendX d (.ag1 c j)) all3) (fun _ => iprop((ctx I K ∗ st (F := F) d r)
          ∗ nrP d (Transfers.shareDrop fullShare 3) c (segT d) (G I) ∗ bigSepL all3 (fun j => sentP (F := F) d (.ag1 c j)))) := by
  iintro ⟨H, Hn, Hd, Ht⟩
  ihave ⟨Hn, Hs⟩ := (nr_toks3 d c (segT d) (G I)).1 $$ Hn
  iapply (Wp_last (run_sends I K d (.ag1 c) r all3))
  isplitl [H Hs Hd Ht]
  · isplitl [H]; · iexact H
    isplitl [Hs]; · iexact Hs
    isplitl [Hd]; · iexact Hd
    iexact Ht
  iintro %u ⟨H, Hs⟩
  isplitl [H]; · iexact H
  isplitl [Hn]; · iexact Hn
  iexact Hs

theorem run_waitAg1 (d : Dev nD) (c : Fin 2) (r : List Xf) (h : ∀ y ∈ r, 4 < y.lev) :
    iprop((ctx I K ∗ st (F := F) d r) ∗ nrP d (Transfers.shareDrop fullShare 3) c (segT d) (G I)
        ∗ bigSepL all3 (fun j => sentP (F := F) d (.ag1 c j)) ∗ bigSepL all3 (fun j => waitP (F := F) d (.ag1 c j)))
      ⊢ Wp d (each (fun j => waitX d (.ag1 c j)) all3) (fun _ => iprop((ctx I K ∗ st (F := F) d r)
          ∗ nrP d fullShare c (blkT d) (G I) ∗ bigSepL all3 (fun j => doneP (F := F) d (.ag1 c j)))) := by
  have hjoin : iprop(nrP d (Transfers.shareDrop fullShare 3) c (segT d) (G I) ∗ bigSepL all3 (fun j => srcP I d (.ag1 c j)))
    ⊢ nrP d fullShare c (segT d) (G I) := (nr_toks3 d c (segT d) (G I)).2
  have hhi : iprop(nrP d fullShare c (segT d) (G I) ∗ bigSepL all3 (fun j => gotP I d (.ag1 c j))) ⊢ nrP d fullShare c (blkT d) (G I) :=
    Entails.of_eq (nr_hi d c (G I)).symm
  iintro ⟨H, Hn, Hs, Hw⟩
  iapply (Wp_last (run_waits I K d (.ag1 c) r all3 fun _ => h))
  isplitl [H Hs Hw]
  · isplitl [H]; · iexact H
    isplitl [Hs]; · iexact Hs
    iexact Hw
  iintro %u ⟨H, Hs, Hg, Hz⟩
  isplitl [H]; · iexact H
  isplitl [Hn Hs Hg]
  · iapply hhi
    isplitl [Hn Hs]
    · iapply hjoin
      isplitl [Hn]; · iexact Hn
      iexact Hs
    iexact Hg
  iexact Hz

/-- The 32 rows of a high group, sent to the low group. -/
theorem run_sendAg2 (d : Dev nD) (c : Fin 2) (r : List Xf) :
    iprop((ctx I K ∗ st (F := F) d (all7.map (.ag2 c) ++ r)) ∗ nrP d fullShare c (blkT d) (G I)
        ∗ bigSepL all7 (fun j => dstP (F := F) d (.ag2 c j)) ∗ bigSepL all7 (fun j => tokP (F := F) d (.ag2 c j)))
      ⊢ Wp d (each (fun j => sendX d (.ag2 c j)) all7) (fun _ => iprop((ctx I K ∗ st (F := F) d r)
          ∗ nrP d (Transfers.shareDrop fullShare 7) c (blkT d) (G I) ∗ bigSepL all7 (fun j => sentP (F := F) d (.ag2 c j)))) := by
  iintro ⟨H, Hn, Hd, Ht⟩
  ihave ⟨Hn, Hs⟩ := (nr_toks7 d c (blkT d) (G I)).1 $$ Hn
  iapply (Wp_last (run_sends I K d (.ag2 c) r all7))
  isplitl [H Hs Hd Ht]
  · isplitl [H]; · iexact H
    isplitl [Hs]; · iexact Hs
    isplitl [Hd]; · iexact Hd
    iexact Ht
  iintro %u ⟨H, Hs⟩
  isplitl [H]; · iexact H
  isplitl [Hn]; · iexact Hn
  iexact Hs

theorem run_waitAg2 (d : Dev nD) (c : Fin 2) :
    iprop((ctx I K ∗ st (F := F) d []) ∗ nrP d (Transfers.shareDrop fullShare 7) c (blkT d) (G I)
        ∗ bigSepL all7 (fun j => sentP (F := F) d (.ag2 c j)) ∗ bigSepL all7 (fun j => waitP (F := F) d (.ag2 c j)))
      ⊢ Wp d (each (fun j => waitX d (.ag2 c j)) all7) (fun _ => iprop((ctx I K ∗ st (F := F) d [])
          ∗ nrP d fullShare c Finset.univ (G I) ∗ bigSepL all7 (fun j => doneP (F := F) d (.ag2 c j)))) := by
  have hjoin : iprop(nrP d (Transfers.shareDrop fullShare 7) c (blkT d) (G I) ∗ bigSepL all7 (fun j => srcP I d (.ag2 c j)))
    ⊢ nrP d fullShare c (blkT d) (G I) := (nr_toks7 d c (blkT d) (G I)).2
  have hlo : iprop(nrP d fullShare c (blkT d) (G I) ∗ bigSepL all7 (fun j => gotP I d (.ag2 c j))) ⊢ nrP d fullShare c Finset.univ (G I) :=
    Entails.of_eq (nr_lo d c (G I)).symm
  iintro ⟨H, Hn, Hs, Hw⟩
  iapply (Wp_last (run_waits I K d (.ag2 c) [] all7 fun _ _ hy => absurd hy List.not_mem_nil))
  isplitl [H Hs Hw]
  · isplitl [H]; · iexact H
    isplitl [Hs]; · iexact Hs
    iexact Hw
  iintro %u ⟨H, Hs, Hg, Hz⟩
  isplitl [H]; · iexact H
  isplitl [Hn Hs Hg]
  · iapply hlo
    isplitl [Hn Hs]
    · iapply hjoin
      isplitl [Hn]; · iexact Hn
      iexact Hs
    iexact Hg
  iexact Hz

/-! ## The projection -/

theorem run_project (d : Dev nD) (c : Fin 2) (f : Vec F S2x256x768 .f32) :
    iprop(nrP d fullShare c Finset.univ (G I) ∗ outP d c f)
      ⊢ Wp d (project (I d).wo c) (fun _ => iprop(nrP d fullShare c Finset.univ (G I) ∗ outP d c (Out I d))) := by
  have hn : (nrM.access (rAll512 c)).set ⊆ rows 512 c Finset.univ := by rw [View.set_slice_whole, set_all512]
  have ho : (outM.access (rAll768 c)).set ⊆ rows 768 c Finset.univ := by rw [View.set_slice_whole, set_all768]
  unfold project nrP outP
  simp only [Prog.lift, Prog.bind_op, Prog.bind_ret]
  iintro ⟨Hn, Ho⟩
  iapply (load_part d nrM (rAll512 c) (rows 512 c Finset.univ) fullShare (G I) hn)
  isplitl [Hn]; · iexact Hn
  iintro Hn
  iapply (load_part d outM (rAll768 c) (rows 768 c Finset.univ) fullShare f ho)
  isplitl [Ho]; · iexact Ho
  iintro Ho
  iapply (store_part d outM (rAll768 c) (rows 768 c Finset.univ) f (Out I d) ho (store_out d c f))
  isplitl [Ho]; · iexact Ho
  iintro Ho
  iapply Wp_ret
  isplitl [Hn]; · iexact Hn
  iexact Ho

end Cert.KernelIdeal.Ring

end
-- ==== Proof.Stretches.lean ====
/- The body from its entry to its end, in four stretches. -/
module

public import proofs.«01_k».proof.Proof.Runs3

@[expose] public section

noncomputable section

namespace Cert.KernelIdeal.Ring

open Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F] [Named F]

local notation "𝕄" => MT nD τ sig Unit (Elt F) ℕ UU ℕ

variable (I : Dev nD → Inp F) (K : Dev nD × Ck → ℕ)

/-- The body after the number of the device is known. -/
def closing (d : Dev nD) (wo : Vec F S512x768 .bf16) : P F PUnit := do
  each (fun j => waitX d (.ag1 0 j)) all3
  each (fun j => sendX d (.ag2 0 j)) all7
  each (fun j => waitX d (.ag1 1 j)) all3
  each (fun j => sendX d (.ag2 1 j)) all7
  each (fun j => waitX d (.ag2 0 j)) all7
  project wo 0
  each (fun j => waitX d (.ag2 1 j)) all7
  project wo 1
def middle (d : Dev nD) (wo : Vec F S512x768 .bf16) : P F PUnit := do
  each (fun j => waitX d (.rs2 0 j)) all3
  addRs2 d 0
  normalise d 0
  each (fun j => sendX d (.ag1 0 j)) all3
  each (fun j => waitX d (.rs2 1 j)) all3
  addRs2 d 1
  normalise d 1
  each (fun j => sendX d (.ag1 1 j)) all3
  closing d wo
def opening (d : Dev nD) (wo : Vec F S512x768 .bf16) : P F PUnit := do
  startRs1 d 0
  partials 1
  startRs1 d 1
  each (fun j => waitX d (.rs1 0 j)) all7
  addRs1 d 0
  startRs2 d 0
  each (fun j => waitX d (.rs1 1 j)) all7
  addRs1 d 1
  startRs2 d 1
  middle d wo
def entry (d : Dev nD) : P F PUnit := do
  each (fun j => enter d (.inl j)) all7
  each (fun j => enter d (.inr j)) all3
  queries
  let wo : Vec F S512x768 .bf16 ← Prog.lift (.load woM (Rect.unit (s := S512x768) ![0, 0] S512x768.size inb_S512x768_S512x768_0_0).toLoadRect (View.loadsAt_vmem h_S512x768))
  partials 0
  semWaitWord barS 10#32
  opening d wo

theorem phases_eq : phases (F := F) = (Prog.lift .deviceId >>= fun d => entry d) := rfl

/-! ## The gathers and the projection -/

/-- What is left to be used of one batch's transfers in the gathers, and the batch's result buffer. -/
def closePre (d : Dev nD) (c : Fin 2) (f : Vec F S2x256x768 .f32) : sProp 𝕄 :=
  iprop(bigSepL all3 (fun j => waitP (F := F) d (.ag1 c j)) ∗ bigSepL all7 (fun j => dstP (F := F) d (.ag2 c j))
    ∗ bigSepL all7 (fun j => tokP (F := F) d (.ag2 c j)) ∗ bigSepL all7 (fun j => waitP (F := F) d (.ag2 c j)) ∗ outP d c f)
def midOut (d : Dev nD) (c : Fin 2) : sProp 𝕄 :=
  iprop(nrP d (Transfers.shareDrop fullShare 3) c (segT d) (G I) ∗ bigSepL all3 (fun j => sentP (F := F) d (.ag1 c j)))
def closePost (d : Dev nD) (c : Fin 2) : sProp 𝕄 :=
  iprop(bigSepL all3 (fun j => doneP (F := F) d (.ag1 c j)) ∗ bigSepL all7 (fun j => doneP (F := F) d (.ag2 c j))
    ∗ nrP d fullShare c Finset.univ (G I) ∗ outP d c (Out I d))

theorem run_closing (d : Dev nD) (f : Vec F S2x256x768 .f32) :
    iprop((ctx I K ∗ st (F := F) d Xf.from6) ∗ (midOut I d 0 ∗ closePre d 0 f) ∗ (midOut I d 1 ∗ closePre d 1 f))
      ⊢ Wp d (closing d (I d).wo) (fun _ => iprop((ctx I K ∗ st (F := F) d []) ∗ closePost I d 0 ∗ closePost I d 1)) := by
  have h7 : iprop(ctx I K ∗ st (F := F) d Xf.from7) ⊢ iprop(ctx I K ∗ st (F := F) d (all7.map (.ag2 1) ++ [])) :=
    Entails.of_eq (by rw [List.append_nil])
  unfold closing midOut closePre closePost
  iintro ⟨H, ⟨⟨Hn0, Hs0⟩, Hw0, Hd0, Ht0, Hv0, Ho0⟩, ⟨Hn1, Hs1⟩, Hw1, Hd1, Ht1, Hv1, Ho1⟩
  iapply (Wp_seq (run_waitAg1 I K d 0 Xf.from6 (by decide)))
  isplitl [H Hn0 Hs0 Hw0]
  · isplitl [H]; · iexact H
    isplitl [Hn0]; · iexact Hn0
    isplitl [Hs0]; · iexact Hs0
    iexact Hw0
  iintro %_ ⟨H, Hn0, Hz0⟩
  iapply (Wp_seq (run_sendAg2 I K d 0 Xf.from7))
  isplitl [H Hn0 Hd0 Ht0]
  · isplitl [H]; · iexact H
    isplitl [Hn0]; · iexact Hn0
    isplitl [Hd0]; · iexact Hd0
    iexact Ht0
  iintro %_ ⟨H, Hn0, Hs0⟩
  iapply (Wp_seq (run_waitAg1 I K d 1 Xf.from7 (by decide)))
  isplitl [H Hn1 Hs1 Hw1]
  · isplitl [H]; · iexact H
    isplitl [Hn1]; · iexact Hn1
    isplitl [Hs1]; · iexact Hs1
    iexact Hw1
  iintro %_ ⟨H, Hn1, Hz1⟩
  ihave H := h7 $$ H
  iapply (Wp_seq (run_sendAg2 I K d 1 []))
  isplitl [H Hn1 Hd1 Ht1]
  · isplitl [H]; · iexact H
    isplitl [Hn1]; · iexact Hn1
    isplitl [Hd1]; · iexact Hd1
    iexact Ht1
  iintro %_ ⟨H, Hn1, Hs1⟩
  iapply (Wp_seq (run_waitAg2 I K d 0))
  isplitl [H Hn0 Hs0 Hv0]
  · isplitl [H]; · iexact H
    isplitl [Hn0]; · iexact Hn0
    isplitl [Hs0]; · iexact Hs0
    iexact Hv0
  iintro %_ ⟨H, Hn0, Hy0⟩
  iapply (Wp_seq (run_project I d 0 f))
  isplitl [Hn0 Ho0]
  · isplitl [Hn0]; · iexact Hn0
    iexact Ho0
  iintro %_ ⟨Hn0, Ho0⟩
  iapply (Wp_seq (run_waitAg2 I K d 1))
  isplitl [H Hn1 Hs1 Hv1]
  · isplitl [H]; · iexact H
    isplitl [Hn1]; · iexact Hn1
    isplitl [Hs1]; · iexact Hs1
    iexact Hv1
  iintro %_ ⟨H, Hn1, Hy1⟩
  iapply (Wp_last (run_project I d 1 f))
  isplitl [Hn1 Ho1]
  · isplitl [Hn1]; · iexact Hn1
    iexact Ho1
  iintro %_ ⟨Hn1, Ho1⟩
  isplitl [H]
  · iexact H
  isplitl [Hz0 Hy0 Hn0 Ho0]
  · isplitl [Hz0]
    · iexact Hz0
    isplitl [Hy0]
    · iexact Hy0
    isplitl [Hn0]
    · iexact Hn0
    iexact Ho0
  isplitl [Hz1]
  · iexact Hz1
  isplitl [Hy1]
  · iexact Hy1
  isplitl [Hn1]
  · iexact Hn1
  iexact Ho1

/-! ## The second reduce-scatter's end and the division -/

/-- One batch when its second reduce-scatter has been started, and what comes of it. -/
def midPre (d : Dev nD) (c : Fin 2) (g : Vec F S2x256x512 .bf16) : sProp 𝕄 :=
  iprop(bigSepL all3 (fun j => waitP (F := F) d (.rs2 c j)) ∗ nrP d fullShare c (segT d) g
    ∗ bigSepL all3 (fun j => dstP (F := F) d (.ag1 c j)) ∗ bigSepL all3 (fun j => tokP (F := F) d (.ag1 c j)))
def openOut (d : Dev nD) (c : Fin 2) : sProp 𝕄 :=
  iprop(accP d c Finset.univ (A1 I d) ∗ bigSepL all3 (fun j => sentP (F := F) d (.rs2 c j)))
def midPost (d : Dev nD) (c : Fin 2) : sProp 𝕄 :=
  iprop(bigSepL all3 (fun j => srcP I d (.rs2 c j)) ∗ bigSepL all3 (fun j => doneP (F := F) d (.rs2 c j))
    ∗ accP d c Finset.univ (A2 I d) ∗ bigSepL all3 (fun j => r2P d c (sl3 j) (R2 I d)))

theorem run_middle (d : Dev nD) (f : Vec F S2x256x768 .f32) (g : Vec F S2x256x512 .bf16) :
    iprop((ctx I K ∗ st (F := F) d Xf.from4) ∗ (openOut I d 0 ∗ midPre d 0 g ∗ closePre d 0 f) ∗ (openOut I d 1 ∗ midPre d 1 g ∗ closePre d 1 f))
      ⊢ Wp d (middle d (I d).wo) (fun _ => iprop((ctx I K ∗ st (F := F) d []) ∗ (midPost I d 0 ∗ closePost I d 0) ∗ (midPost I d 1 ∗ closePost I d 1))) := by
  have hc := run_closing I K d f
  unfold midOut at hc
  unfold middle openOut midPre midPost
  iintro ⟨H, ⟨⟨Ha0, Hs0⟩, ⟨Hw0, Hn0, Hd0, Ht0⟩, Hc0⟩, ⟨Ha1, Hs1⟩, ⟨Hw1, Hn1, Hd1, Ht1⟩, Hc1⟩
  iapply (Wp_seq (run_waits I K d (.rs2 0) Xf.from4 all3 fun _ => (by decide : ∀ y ∈ Xf.from4, 3 < y.lev)))
  isplitl [H Hs0 Hw0]
  · isplitl [H]; · iexact H
    isplitl [Hs0]; · iexact Hs0
    iexact Hw0
  iintro %_ ⟨H, Hp0, Hr0, Hz0⟩
  iapply (Wp_seq (run_addRs2 I d 0))
  isplitl [Ha0 Hr0]
  · isplitl [Ha0]; · iexact Ha0
    iexact Hr0
  iintro %_ ⟨Ha0, Hr0⟩
  iapply (Wp_seq (run_normalise I d 0 g))
  isplitl [Ha0 Hn0]
  · isplitl [Ha0]; · iexact Ha0
    iexact Hn0
  iintro %_ ⟨Ha0, Hn0⟩
  iapply (Wp_seq (run_sendAg1 I K d 0 Xf.from5))
  isplitl [H Hn0 Hd0 Ht0]
  · isplitl [H]; · iexact H
    isplitl [Hn0]; · iexact Hn0
    isplitl [Hd0]; · iexact Hd0
    iexact Ht0
  iintro %_ ⟨H, Hn0, Hs0⟩
  iapply (Wp_seq (run_waits I K d (.rs2 1) Xf.from5 all3 fun _ => (by decide : ∀ y ∈ Xf.from5, 3 < y.lev)))
  isplitl [H Hs1 Hw1]
  · isplitl [H]; · iexact H
    isplitl [Hs1]; · iexact Hs1
    iexact Hw1
  iintro %_ ⟨H, Hp1, Hr1, Hz1⟩
  iapply (Wp_seq (run_addRs2 I d 1))
  isplitl [Ha1 Hr1]
  · isplitl [Ha1]; · iexact Ha1
    iexact Hr1
  iintro %_ ⟨Ha1, Hr1⟩
  iapply (Wp_seq (run_normalise I d 1 g))
  isplitl [Ha1 Hn1]
  · isplitl [Ha1]; · iexact Ha1
    iexact Hn1
  iintro %_ ⟨Ha1, Hn1⟩
  iapply (Wp_seq (run_sendAg1 I K d 1 Xf.from6))
  isplitl [H Hn1 Hd1 Ht1]
  · isplitl [H]; · iexact H
    isplitl [Hn1]; · iexact Hn1
    isplitl [Hd1]; · iexact Hd1
    iexact Ht1
  iintro %_ ⟨H, Hn1, Hs1⟩
  iapply (Wp_last hc)
  isplitl [H Hn0 Hs0 Hc0 Hn1 Hs1 Hc1]
  · isplitl [H]; · iexact H
    isplitl [Hn0 Hs0 Hc0]
    · isplitl [Hn0 Hs0]
      · isplitl [Hn0] <;> iassumption
      iexact Hc0
    isplitl [Hn1 Hs1]
    · isplitl [Hn1] <;> iassumption
    iexact Hc1
  iintro %_ ⟨H, Hc0, Hc1⟩
  isplitl [H]
  · iexact H
  isplitl [Hp0 Hz0 Ha0 Hr0 Hc0]
  · isplitl [Hp0 Hz0 Ha0 Hr0]
    · isplitl [Hp0]
      · iexact Hp0
      isplitl [Hz0]
      · iexact Hz0
      isplitl [Ha0]
      · iexact Ha0
      iexact Hr0
    iexact Hc0
  isplitl [Hp1 Hz1 Ha1 Hr1]
  · isplitl [Hp1]
    · iexact Hp1
    isplitl [Hz1]
    · iexact Hz1
    isplitl [Ha1]
    · iexact Ha1
    iexact Hr1
  iexact Hc1

/-! ## The first reduce-scatter -/

/-- One batch's transfers of the two reduce-scatters, and what comes of them. -/
def openPre (d : Dev nD) (c : Fin 2) (s : Vec F S2x256x576 .bf16) : sProp 𝕄 :=
  iprop(sndP d c Finset.univ s ∗ (bigSepL all7 (fun j => dstP (F := F) d (.rs1 c j)) ∗ bigSepL all7 (fun j => tokP (F := F) d (.rs1 c j))
      ∗ bigSepL all7 (fun j => waitP (F := F) d (.rs1 c j)))
    ∗ bigSepL all3 (fun j => dstP (F := F) d (.rs2 c j)) ∗ bigSepL all3 (fun j => tokP (F := F) d (.rs2 c j)))
def openPost (d : Dev nD) (c : Fin 2) : sProp 𝕄 :=
  iprop(bigSepL all7 (fun j => doneP (F := F) d (.rs1 c j)) ∗ bigSepL all7 (fun j => r1P d c (sl7 j) (R1 I d)) ∗ sndP d c (shareTop d none) (S2 I d))
/-- The queries, keys and values. -/
def qkv (d : Dev nD) : sProp 𝕄 := iprop(at_ d cc0_stg3_0 (I d).k ∗ at_ d cc0_stg4_0 (I d).v ∗ at_ d cc0_scratch0 (Qc I d))

theorem run_opening (d : Dev nD) (f : Vec F S2x256x768 .f32) (g : Vec F S2x256x512 .bf16) (s : Vec F S2x256x576 .bf16) (a : Vec F S2x256x576 .f32) :
    iprop((ctx I K ∗ st (F := F) d Xf.order) ∗ qkv I d ∗ accP d 0 Finset.univ (A0 I d) ∗ accP d 1 Finset.univ a
        ∗ (openPre d 0 s ∗ midPre d 0 g ∗ closePre d 0 f) ∗ (openPre d 1 s ∗ midPre d 1 g ∗ closePre d 1 f))
      ⊢ Wp d (opening d (I d).wo) (fun _ => iprop((ctx I K ∗ st (F := F) d []) ∗ qkv I d ∗ (openPost I d 0 ∗ midPost I d 0 ∗ closePost I d 0)
          ∗ (openPost I d 1 ∗ midPost I d 1 ∗ closePost I d 1))) := by
  have hc := run_middle I K d f g
  unfold openOut at hc
  unfold opening qkv openPre openPost
  iintro ⟨H, ⟨Hk, Hv, Hq⟩, Ha0, Ha1, ⟨⟨Hb0, ⟨Hd0, Ht0, Hw0⟩, He0, Hu0⟩, Hm0⟩, ⟨Hb1, ⟨Hd1, Ht1, Hw1⟩, He1, Hu1⟩, Hm1⟩
  iapply (Wp_seq (run_startRs1 I K d 0 Xf.from1 s))
  isplitl [H Ha0 Hb0 Hd0 Ht0]
  · isplitl [H]; · iexact H
    isplitl [Ha0]; · iexact Ha0
    isplitl [Hb0]; · iexact Hb0
    isplitl [Hd0]; · iexact Hd0
    iexact Ht0
  iintro %_ ⟨H, Ha0, Hb0, Hs0⟩
  iapply (Wp_seq (run_partials I d 1 a))
  isplitl [Hk Hv Hq Ha1]
  · isplitl [Hk]; · iexact Hk
    isplitl [Hv]; · iexact Hv
    isplitl [Hq]; · iexact Hq
    iexact Ha1
  iintro %_ ⟨Hk, Hv, Hq, Ha1⟩
  iapply (Wp_seq (run_startRs1 I K d 1 Xf.from2 s))
  isplitl [H Ha1 Hb1 Hd1 Ht1]
  · isplitl [H]; · iexact H
    isplitl [Ha1]; · iexact Ha1
    isplitl [Hb1]; · iexact Hb1
    isplitl [Hd1]; · iexact Hd1
    iexact Ht1
  iintro %_ ⟨H, Ha1, Hb1, Hs1⟩
  iapply (Wp_seq (run_waits I K d (.rs1 0) Xf.from2 all7 fun _ => (by decide : ∀ y ∈ Xf.from2, 2 < y.lev)))
  isplitl [H Hs0 Hw0]
  · isplitl [H]; · iexact H
    isplitl [Hs0]; · iexact Hs0
    iexact Hw0
  iintro %_ ⟨H, Hp0, Hr0, Hz0⟩
  iapply (Wp_seq (run_addRs1 I d 0))
  isplitl [Ha0 Hr0]
  · isplitl [Ha0]; · iexact Ha0
    iexact Hr0
  iintro %_ ⟨Ha0, Hr0⟩
  iapply (Wp_seq (run_startRs2 I K d 0 Xf.from3))
  isplitl [H Ha0 Hb0 Hp0 He0 Hu0]
  · isplitl [H]; · iexact H
    isplitl [Ha0]; · iexact Ha0
    isplitl [Hb0 Hp0]
    · isplitl [Hb0] <;> iassumption
    isplitl [He0]; · iexact He0
    iexact Hu0
  iintro %_ ⟨H, Ha0, Hb0, Hs0⟩
  iapply (Wp_seq (run_waits I K d (.rs1 1) Xf.from3 all7 fun _ => (by decide : ∀ y ∈ Xf.from3, 2 < y.lev)))
  isplitl [H Hs1 Hw1]
  · isplitl [H]; · iexact H
    isplitl [Hs1]; · iexact Hs1
    iexact Hw1
  iintro %_ ⟨H, Hp1, Hr1, Hz1⟩
  iapply (Wp_seq (run_addRs1 I d 1))
  isplitl [Ha1 Hr1]
  · isplitl [Ha1]; · iexact Ha1
    iexact Hr1
  iintro %_ ⟨Ha1, Hr1⟩
  iapply (Wp_seq (run_startRs2 I K d 1 Xf.from4))
  isplitl [H Ha1 Hb1 Hp1 He1 Hu1]
  · isplitl [H]; · iexact H
    isplitl [Ha1]; · iexact Ha1
    isplitl [Hb1 Hp1]
    · isplitl [Hb1] <;> iassumption
    isplitl [He1]; · iexact He1
    iexact Hu1
  iintro %_ ⟨H, Ha1, Hb1, Hs1⟩
  iapply (Wp_last hc)
  isplitl [H Ha0 Hs0 Hm0 Ha1 Hs1 Hm1]
  · isplitl [H]; · iexact H
    isplitl [Ha0 Hs0 Hm0]
    · isplitl [Ha0 Hs0]
      · isplitl [Ha0] <;> iassumption
      iexact Hm0
    isplitl [Ha1 Hs1]
    · isplitl [Ha1] <;> iassumption
    iexact Hm1
  iintro %_ ⟨H, Hm0, Hm1⟩
  isplitl [H]
  · iexact H
  isplitl [Hk Hv Hq]
  · isplitl [Hk]
    · iexact Hk
    isplitl [Hv]
    · iexact Hv
    iexact Hq
  isplitl [Hz0 Hr0 Hb0 Hm0]
  · isplitl [Hz0 Hr0 Hb0]
    · isplitl [Hz0]
      · iexact Hz0
      isplitl [Hr0]
      · iexact Hr0
      iexact Hb0
    iexact Hm0
  isplitl [Hz1 Hr1 Hb1]
  · isplitl [Hz1]
    · iexact Hz1
    isplitl [Hr1]
    · iexact Hr1
    iexact Hb1
  iexact Hm1

end Cert.KernelIdeal.Ring

end
-- ==== Proof.Body.lean ====
/- The whole body: what a device has when it enters, and what it has when it leaves. -/
module

public import proofs.«01_k».proof.Proof.Stretches

@[expose] public section

noncomputable section

namespace Cert.KernelIdeal.Ring

open Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F] [Named F]

local notation "𝕄" => MT nD τ sig Unit (Elt F) ℕ UU ℕ

variable (I : Dev nD → Inp F) (K : Dev nD × Ck → ℕ)

/-- One thing per transfer, by stage and batch. -/
theorem by_stage (Φ : Xf → sProp 𝕄) : bigSepL Xf.order Φ = iprop(bigSepL all7 (fun j => Φ (.rs1 0 j)) ∗ bigSepL all7 (fun j => Φ (.rs1 1 j))
    ∗ bigSepL all3 (fun j => Φ (.rs2 0 j)) ∗ bigSepL all3 (fun j => Φ (.rs2 1 j)) ∗ bigSepL all3 (fun j => Φ (.ag1 0 j))
    ∗ bigSepL all3 (fun j => Φ (.ag1 1 j)) ∗ bigSepL all7 (fun j => Φ (.ag2 0 j)) ∗ bigSepL all7 (fun j => Φ (.ag2 1 j))) := by
  unfold Xf.order Xf.from1 Xf.from2 Xf.from3 Xf.from4 Xf.from5 Xf.from6 Xf.from7
  simp only [bigSepL_append, bigSepL_map]

/-- What a device's part in the protocol is made of when it enters. -/
def ghost (d : Dev nD) : sProp 𝕄 :=
  iprop((bigSepL all7 (fun j => dutyTok ER (kcell (prt d (.inl j)) .bar) 0 (.inl j)) ∗ bigSepL all3 (fun j => dutyTok ER (kcell (prt d (.inr j)) .bar) 0 (.inr j)))
    ∗ (cred (tallyAt (kcell d .bar) () 10) ∗ atPos ER (kcell d .bar) 0 ∅ 0) ∗ bigSepL Xf.order (tokP (F := F) d) ∗ bigSepL Xf.order (waitP (F := F) d))
/-- The buffers a device reads only. -/
def given (d : Dev nD) : sProp 𝕄 :=
  iprop(at_ d cc0_stg0_0 (I d).x ∗ at_ d cc0_stg1_0 (I d).wq ∗ at_ d cc0_stg2_0 (I d).wo ∗ at_ d cc0_stg3_0 (I d).k ∗ at_ d cc0_stg4_0 (I d).v)
/-- Its own buffers, at any contents. -/
def own (d : Dev nD) : sProp 𝕄 :=
  iprop((∃ f, at_ (F := F) d cc0_scratch0 f) ∗ (∃ f, at_ (F := F) d cc0_scratch1 f) ∗ (∃ f, at_ (F := F) d cc0_scratch2 f)
    ∗ (∃ f, at_ (F := F) d cc0_scratch3 f) ∗ (∃ f, at_ (F := F) d cc0_scratch4 f) ∗ (∃ f, at_ (F := F) d cc0_scratch5 f))
/-- Its cells closed. -/
def closed (d : Dev nD) : sProp 𝕄 := iprop(semVal (kcell d .bar) 0 ∗ bigSepL Xf.order (doneP (F := F) d))

/-- The buffers put together again. -/
theorem own_back (d : Dev nD) (r1 : Vec F S2x8x32x576 .bf16) (r2 : Vec F S2x4x8x576 .bf16) :
    iprop(at_ d cc0_scratch0 (Qc I d) ∗ (r1P d 0 0 r1 ∗ r1P d 1 0 r1) ∗ (r2P d 0 0 r2 ∗ r2P d 1 0 r2)
        ∗ (openPost I d 0 ∗ midPost I d 0 ∗ closePost I d 0) ∗ (openPost I d 1 ∗ midPost I d 1 ∗ closePost I d 1))
      ⊢ iprop(bigSepL Xf.order (doneP (F := F) d) ∗ at_ d cc0_stg5_0 (Out I d) ∗ own (F := F) d) := by
  have hs : ∀ c, iprop(sndP d c (shareTop d none) (S2 I d) ∗ bigSepL all3 (fun j => srcP I d (.rs2 c j))) ⊢ sndP d c Finset.univ (S2 I d) :=
    fun c => Entails.of_eq (snd_top d c (S2 I d)).symm
  rw [by_stage]
  unfold openPost midPost closePost own
  iintro ⟨Hq, ⟨HR0, HR1⟩, ⟨HT0, HT1⟩, ⟨⟨Hz0, Hr0, Hb0⟩, ⟨Hp0, Hy0, Ha0, Ht0⟩, Hx0, Hw0, Hn0, Ho0⟩, ⟨Hz1, Hr1, Hb1⟩, ⟨Hp1, Hy1, Ha1, Ht1⟩, Hx1, Hw1, Hn1, Ho1⟩
  isplitl [Hz0 Hz1 Hy0 Hy1 Hx0 Hx1 Hw0 Hw1]
  · isplitl [Hz0]; · iexact Hz0
    isplitl [Hz1]; · iexact Hz1
    isplitl [Hy0]; · iexact Hy0
    isplitl [Hy1]; · iexact Hy1
    isplitl [Hx0]; · iexact Hx0
    isplitl [Hx1]; · iexact Hx1
    isplitl [Hw0]; · iexact Hw0
    iexact Hw1
  isplitl [Ho0 Ho1]
  · iapply (Entails.of_eq (out_whole d (Out I d)).symm)
    isplitl [Ho0] <;> iassumption
  isplitl [Hq]; · iexists _; iexact Hq
  isplitl [Ha0 Ha1]
  · iexists (A2 I d)
    iapply (Entails.of_eq (acc_whole d (A2 I d)).symm)
    isplitl [Ha0] <;> iassumption
  isplitl [Hb0 Hp0 Hb1 Hp1]
  · iexists (S2 I d)
    iapply (Entails.of_eq (snd_whole d (S2 I d)).symm)
    isplitl [Hb0 Hp0]
    · iapply (hs 0); isplitl [Hb0]; · iexact Hb0
      iexact Hp0
    · iapply (hs 1); isplitl [Hb1]; · iexact Hb1
      iexact Hp1
  isplitl [HR0 HR1 Hr0 Hr1]
  · iapply (r1_join d r1 (R1 I d))
    isplitl [HR0 Hr0]
    · isplitl [HR0] <;> iassumption
    isplitl [HR1] <;> iassumption
  isplitl [HT0 HT1 Ht0 Ht1]
  · iapply (r2_join d r2 (R2 I d))
    isplitl [HT0 Ht0]
    · isplitl [HT0] <;> iassumption
    isplitl [HT1] <;> iassumption
  iexists (G I)
  iapply (Entails.of_eq (nr_whole d (G I)).symm)
  isplitl [Hn0] <;> iassumption

/-- The places handed over, and what a device keeps of the buffers it hands them over from. -/
theorem hand_over (d : Dev nD) (r1 : Vec F S2x8x32x576 .bf16) (r2 : Vec F S2x4x8x576 .bf16) (g : Vec F S2x256x512 .bf16) :
    iprop(at_ d cc0_scratch3 r1 ∗ at_ d cc0_scratch4 r2 ∗ at_ d cc0_scratch5 g)
      ⊢ iprop(bigSepL all7 (fun j => barP (F := F) (prt d (.inl j)) (.inl j)) ∗ bigSepL all3 (fun j => barP (F := F) (prt d (.inr j)) (.inr j))
        ∗ (r1P d 0 0 r1 ∗ r1P d 1 0 r1) ∗ (r2P d 0 0 r2 ∗ r2P d 1 0 r2) ∗ nrP d fullShare 0 (segT d) g ∗ nrP d fullShare 1 (segT d) g) := by
  unfold at_
  rw [r1_whole, r2_whole, nr_whole, nr_lo, nr_lo, nr_hi, nr_hi]
  iintro ⟨⟨⟨Ha0, Hl0⟩, Ha1, Hl1⟩, ⟨⟨Hb0, Hm0⟩, Hb1, Hm1⟩, ⟨⟨Hn0, Hh0⟩, Hg0⟩, ⟨Hn1, Hh1⟩, Hg1⟩
  isplitl [Hl0 Hl1 Hg0 Hg1]
  · iapply (pay_lo d r1 g)
    isplitl [Hl0 Hl1]
    · isplitl [Hl0] <;> iassumption
    isplitl [Hg0] <;> iassumption
  isplitl [Hm0 Hm1 Hh0 Hh1]
  · iapply (pay_hi d r2 g)
    isplitl [Hm0 Hm1]
    · isplitl [Hm0] <;> iassumption
    isplitl [Hh0] <;> iassumption
  isplitl [Ha0 Ha1]
  · isplitl [Ha0] <;> iassumption
  isplitl [Hb0 Hb1]
  · isplitl [Hb0] <;> iassumption
  isplitl [Hn0] <;> iassumption

theorem run_entry (d : Dev nD) (f : Vec F S2x256x768 .f32) :
    iprop((ctx I K ∗ stB (F := F) d allPr) ∗ ghost (F := F) d ∗ given I d ∗ own (F := F) d ∗ at_ d cc0_stg5_0 f)
      ⊢ Wp d (entry d) (fun _ => iprop(st (F := F) d [] ∗ closed (F := F) d ∗ given I d ∗ own (F := F) d ∗ at_ d cc0_stg5_0 (Out I d))) := by
  have hwo : (woM.access (Rect.unit (s := S512x768) ![0, 0] S512x768.size inb_S512x768_S512x768_0_0)).read (Elt F) (I d).wo = (I d).wo :=
    Memref.read_access_unit_zero (Elt F) cc0_stg2_0 hz2 _ (I d).wo
  have h3 : iprop(ctx I K ∗ stB (F := F) d (all3.map .inr)) ⊢ iprop(ctx I K ∗ stB (F := F) d (all3.map .inr ++ [])) :=
    Entails.of_eq (by rw [List.append_nil])
  have hst : stB (F := F) d [] ⊢ st (F := F) d Xf.order := .rfl
  have ho := Entails.of_eq (out_whole d f)
  have hin : ∀ a : Vec F S2x256x576 .f32, at_ d cc0_scratch1 a ⊢ iprop(accP d 0 Finset.univ a ∗ accP d 1 Finset.univ a) := fun a => Entails.of_eq (acc_whole d a)
  have his : ∀ a : Vec F S2x256x576 .bf16, at_ d cc0_scratch2 a ⊢ iprop(sndP d 0 Finset.univ a ∗ sndP d 1 Finset.univ a) := fun a => Entails.of_eq (snd_whole d a)
  unfold entry ghost given
  rw [by_stage, by_stage]
  iintro ⟨H, ⟨⟨Hel, Heh⟩, ⟨Hcb, Hab⟩, ⟨Ht0, Ht1, Hu0, Hu1, Hv0, Hv1, Hw0, Hw1⟩, Hi0, Hi1, Hj0, Hj1, Hk0, Hk1, Hl0, Hl1⟩, ⟨Hx, Hwq, Hwo, Hk, Hv⟩, Hown, Ho⟩
  unfold own
  icases Hown with ⟨⟨%q, Hq⟩, ⟨%a, Ha⟩, ⟨%s, Hs⟩, ⟨%r1, Hr1⟩, ⟨%r2, Hr2⟩, ⟨%g, Hg⟩⟩
  ihave ⟨Ho0, Ho1⟩ := ho $$ Ho
  ihave ⟨Ha0, Ha1⟩ := (hin a) $$ Ha
  ihave ⟨Hs0, Hs1⟩ := (his s) $$ Hs
  ihave ⟨Hbl, Hbh, HR, HT, Hn0, Hn1⟩ := (hand_over d r1 r2 g) $$ [Hr1 Hr2 Hg]
  · isplitl [Hr1]; · iexact Hr1
    isplitl [Hr2] <;> iassumption
  iapply (Wp_seq (run_signals I K d .inl (all3.map .inr) all7))
  isplitl [H Hel Hbl]
  · isplitl [H]; · iexact H
    isplitl [Hel]; · iexact Hel
    iexact Hbl
  iintro %_ H
  ihave H := h3 $$ H
  iapply (Wp_seq (run_signals I K d .inr [] all3))
  isplitl [H Heh Hbh]
  · isplitl [H]; · iexact H
    isplitl [Heh]; · iexact Heh
    iexact Hbh
  iintro %_ ⟨#Hctx, H⟩
  ihave H := hst $$ H
  iapply (Wp_seq (run_queries I d q))
  isplitl [Hwq Hx Hq]
  · isplitl [Hwq]; · iexact Hwq
    isplitl [Hx]; · iexact Hx
    iexact Hq
  iintro %_ ⟨Hwq, Hx, Hq⟩
  iapply (load_part d woM (Rect.unit (s := S512x768) ![0, 0] S512x768.size inb_S512x768_S512x768_0_0) Finset.univ fullShare (I d).wo (Finset.subset_univ _))
  isplitl [Hwo]; · iexact Hwo
  iintro Hwo
  rw [hwo]
  iapply (Wp_seq (run_partials I d 0 a))
  isplitl [Hk Hv Hq Ha0]
  · isplitl [Hk]; · iexact Hk
    isplitl [Hv]; · iexact Hv
    isplitl [Hq]; · iexact Hq
    iexact Ha0
  iintro %_ ⟨Hk, Hv, Hq, Ha0⟩
  iapply (Wp_seq (wp_barrier I K d))
  isplitl [H Hcb Hab]
  · isplitr; · iexact Hctx
    isplitl [H]; · iexact H
    isplitl [Hcb] <;> iassumption
  iintro %_ ⟨H, Hbar, Hz⟩
  ihave ⟨⟨Hd0, Hd1, Hd6, Hd7⟩, Hd2, Hd3, Hd4, Hd5⟩ := (bar_split d) $$ Hbar
  iapply (Wp_last (run_opening I K d f g s a))
  isplitl [H Hk Hv Hq Ha0 Ha1 Hs0 Hs1 Hn0 Hn1 Ho0 Ho1 Ht0 Ht1 Hu0 Hu1 Hv0 Hv1 Hw0 Hw1 Hi0 Hi1 Hj0 Hj1 Hk0 Hk1 Hl0 Hl1 Hd0 Hd1 Hd2 Hd3 Hd4 Hd5 Hd6 Hd7]
  · unfold qkv openPre midPre closePre
    isplitl [H]
    · isplitr; · iexact Hctx
      iexact H
    isplitl [Hk Hv Hq]
    · isplitl [Hk]; · iexact Hk
      isplitl [Hv]; · iexact Hv
      iexact Hq
    isplitl [Ha0]; · iexact Ha0
    isplitl [Ha1]; · iexact Ha1
    isplitl [Hs0 Hd0 Ht0 Hi0 Hd2 Hu0 Hj0 Hn0 Hd4 Hv0 Hk0 Hd6 Hw0 Hl0 Ho0]
    · isplitl [Hs0 Hd0 Ht0 Hi0 Hd2 Hu0]
      · isplitl [Hs0]
        · iexact Hs0
        isplitl [Hd0 Ht0 Hi0]
        · isplitl [Hd0]
          · iexact Hd0
          isplitl [Ht0]
          · iexact Ht0
          iexact Hi0
        isplitl [Hd2]
        · iexact Hd2
        iexact Hu0
      isplitl [Hj0 Hn0 Hd4 Hv0]
      · isplitl [Hj0]
        · iexact Hj0
        isplitl [Hn0]
        · iexact Hn0
        isplitl [Hd4]
        · iexact Hd4
        iexact Hv0
      isplitl [Hk0]
      · iexact Hk0
      isplitl [Hd6]
      · iexact Hd6
      isplitl [Hw0]
      · iexact Hw0
      isplitl [Hl0]
      · iexact Hl0
      iexact Ho0
    isplitl [Hs1 Hd1 Ht1 Hi1 Hd3 Hu1]
    · isplitl [Hs1]
      · iexact Hs1
      isplitl [Hd1 Ht1 Hi1]
      · isplitl [Hd1]
        · iexact Hd1
        isplitl [Ht1]
        · iexact Ht1
        iexact Hi1
      isplitl [Hd3]
      · iexact Hd3
      iexact Hu1
    isplitl [Hj1 Hn1 Hd5 Hv1]
    · isplitl [Hj1]
      · iexact Hj1
      isplitl [Hn1]
      · iexact Hn1
      isplitl [Hd5]
      · iexact Hd5
      iexact Hv1
    isplitl [Hk1]
    · iexact Hk1
    isplitl [Hd7]
    · iexact Hd7
    isplitl [Hw1]
    · iexact Hw1
    isplitl [Hl1]
    · iexact Hl1
    iexact Ho1
  iintro %_ ⟨⟨-, H⟩, Hqkv, H0, H1⟩
  unfold qkv closed
  icases Hqkv with ⟨Hk, Hv, Hq⟩
  icases HR with ⟨HR0, HR1⟩
  icases HT with ⟨HT0, HT1⟩
  ihave ⟨Hdone, Ho, Hown⟩ := (own_back I d r1 r2) $$ [Hq HR0 HR1 HT0 HT1 H0 H1]
  · isplitl [Hq]; · iexact Hq
    isplitl [HR0 HR1]
    · isplitl [HR0] <;> iassumption
    isplitl [HT0 HT1]
    · isplitl [HT0] <;> iassumption
    isplitl [H0] <;> iassumption
  isplitl [H]
  · iexact H
  isplitl [Hz Hdone]
  · isplitl [Hz]
    · iexact Hz
    iexact Hdone
  isplitl [Hx Hwq Hwo Hk Hv]
  · isplitl [Hx]
    · iexact Hx
    isplitl [Hwq]
    · iexact Hwq
    isplitl [Hwo]
    · iexact Hwo
    isplitl [Hk]
    · iexact Hk
    iexact Hv
  isplitl [Hown]
  · unfold own; iexact Hown
  iexact Ho

/-- The body, from its first operation. -/
theorem run_body (d : Dev nD) (f : Vec F S2x256x768 .f32) :
    iprop((ctx I K ∗ stB (F := F) d allPr) ∗ ghost (F := F) d ∗ given I d ∗ own (F := F) d ∗ at_ d cc0_stg5_0 f)
      ⊢ Wp d phases (fun _ => iprop(st (F := F) d [] ∗ closed (F := F) d ∗ given I d ∗ own (F := F) d ∗ at_ d cc0_stg5_0 (Out I d))) := by
  refine (run_entry I K d f).trans ?_
  rw [phases_eq]
  simp only [Prog.lift, Prog.bind_op, Prog.bind_ret]
  show _ ⊢ wp _ _ _ (Prog.op TpuEff.deviceId _) _
  rw [wp_deviceId]

end Cert.KernelIdeal.Ring

end
-- ==== Proof.Ghosts.lean ====
/- What the devices share out before they start: the cells and their duty tokens are made, each token goes to the device
   that pays with it, and the credits each device is owed are counted. -/
module

public import proofs.«01_k».proof.Proof.Body

@[expose] public section

noncomputable section

namespace Cert.KernelIdeal.Ring

open Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F] [Named F]

local notation "𝕄" => MT nD τ sig Unit (Elt F) ℕ UU ℕ

/-! ## The semaphores -/

/-- The kernel's own semaphores: every transfer's two. -/
abbrev osem : Xf ⊕ Xf → SemLoc sig := fun k => csem (.inr k)

/-- All cells of a device, listed. -/
abbrev ckAll : List Ck := [Ck.bar] ++ Xf.order.map Ck.snd ++ Xf.order.map Ck.rcv
theorem mem_ckAll : ∀ k : Ck, k ∈ ckAll := fun k => by
  rcases k with _ | x | x
  · exact List.mem_append_left _ (List.mem_append_left _ (List.mem_singleton.2 rfl))
  · exact List.mem_append_left _ (List.mem_append_right _ (List.mem_map_of_mem (Xf.mem_order x)))
  · exact List.mem_append_right _ (List.mem_map_of_mem (Xf.mem_order x))

/-- No cell of the protocol is a staging buffer's semaphore. -/
theorem csem_ne_stage (k : Ck) (w : Fin 6) (s : Fin (cfg0.spec w).nbuf) : csem k ≠ .dma ((cfg0.spec w).sem s) := by
  have h : ∀ k ∈ ckAll, ∀ w : Fin 6, ∀ s : Fin (cfg0.spec w).nbuf, csem k ≠ .dma ((cfg0.spec w).sem s) := by decide +kernel
  exact h k (mem_ckAll k) w s
theorem osem_scoped (k : Xf ⊕ Xf) : (osem k).isScoped .tc = true := by
  have h : ∀ k ∈ Xf.order.map Ck.snd ++ Xf.order.map Ck.rcv, (csem k).isScoped .tc = true := by decide +kernel
  refine h (.inr k) ?_
  rcases k with x | x
  · exact List.mem_append_left _ (List.mem_map_of_mem (Xf.mem_order x))
  · exact List.mem_append_right _ (List.mem_map_of_mem (Xf.mem_order x))
theorem ownSemFacts : Pipeline.OwnSemFacts cfg0.spec osem :=
  ⟨osem_scoped, fun k k' h => Sum.inr.inj (csem_inj h), fun k w s => csem_ne_stage _ w s⟩
theorem ofSem_stage (w : Fin 6) (s : Fin (cfg0.spec w).nbuf) : ofSem (.dma ((cfg0.spec w).sem s)) = none := by
  unfold ofSem
  rw [dif_neg]
  rintro ⟨k, hk⟩
  exact csem_ne_stage k w s hk

/-! ## Cells and tokens -/

theorem either {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

def ringCells : Finset (GSem nD τ sig) := Finset.univ.map ⟨fun p : Dev nD × Ck => kcell p.1 p.2, fun p q h => Prod.ext (kcell_inj h).1 (kcell_inj h).2⟩

/-- A device's tokens as made: its barrier's, one for each partner; one for each send and each receive cell. -/
def tokOf (p : Dev nD × (Pr ⊕ (Xf ⊕ Xf))) : GSem nD τ sig × ℕ × Pr :=
  match p.2 with
  | .inl i => (kcell p.1 .bar, 0, i)
  | .inr k => (kcell p.1 (.inr k), 0, one)
theorem tokOf_inj : Function.Injective tokOf := by
  rintro ⟨d, i | k⟩ ⟨d', i' | k'⟩ h
  · have hg := kcell_inj (congrArg Prod.fst h)
    have hi : i = i' := congrArg (fun p : GSem nD τ sig × ℕ × Pr => p.2.2) h
    exact Prod.ext hg.1 (congrArg Sum.inl hi)
  · exact absurd (kcell_inj (congrArg Prod.fst h)).2 (fun h => by cases h)
  · exact absurd (kcell_inj (congrArg Prod.fst h)).2 (fun h => by cases h)
  · have hg := kcell_inj (congrArg Prod.fst h)
    exact Prod.ext hg.1 (congrArg Sum.inr (Sum.inr.inj hg.2))
def ringToks : Finset (GSem nD τ sig × ℕ × Pr) := Finset.univ.map ⟨tokOf, tokOf_inj⟩

def u₀ : UU := (initOf (Pipeline.cells cfgs cellOf_inj) (Pipeline.launchToks cfgs cellOf_inj), initOf ringCells ringToks)

variable (I : Dev nD → Inp F)

/-- The tokens of a device's own cells. -/
def toks (d : Dev nD) : sProp 𝕄 :=
  iprop(bigSep Finset.univ (fun i : Pr => dutyTok ER (kcell d .bar) 0 i)
    ∗ bigSep Finset.univ (fun x : Xf => dutyTok ER (kcell d (.snd x)) 0 one) ∗ bigSep Finset.univ (fun x : Xf => dutyTok ER (kcell d (.rcv x)) 0 one))
/-- The tokens a device pays with. -/
def payToks (d : Dev nD) : sProp 𝕄 :=
  iprop(bigSep Finset.univ (fun i : Pr => dutyTok ER (kcell (prt d i) .bar) 0 i)
    ∗ bigSep Finset.univ (fun x : Xf => dutyTok ER (kcell d (.snd x)) 0 one) ∗ bigSep Finset.univ (fun x : Xf => dutyTok ER (kcell (peer d x) (.rcv x)) 0 one))

/-- What is made for device `d`. -/
def made (d : Dev nD) : sProp 𝕄 :=
  iprop((bigSep Finset.univ fun k : Ck => roundState ER (sched I) (kcell d k) 0)
    ∗ (bigSep Finset.univ fun k : Ck => iprop(atPos ER (kcell d k) 0 ∅ 0 ∗ reached ER (kcell d k) 0)) ∗ toks (F := F) d)

/-- All cells' invariants, and that their one round is open. -/
def cells (K : Dev nD × Ck → ℕ) : sProp 𝕄 :=
  bigSep (Finset.univ : Finset (Dev nD × Ck)) (fun p => iprop(cellInv ER (sched I) (K p) (kcell p.1 p.2) ∗ reached ER (kcell p.1 p.2) 0))
instance cells_persistent (K : Dev nD × Ck → ℕ) : BI.Persistent (cells I K) := by unfold cells; infer_instance

/-- What device `d` gets of it all. -/
def dealt (d : Dev nD) : sProp 𝕄 :=
  iprop(∃ K, cells I K ∗ (bigSep Finset.univ fun k : Ck => atPos ER (kcell d k) 0 ∅ 0) ∗ payToks (F := F) d)

theorem fund_ring : BI.own (ER (initOf ringCells ringToks)) ⊢ (|==> bigSep Finset.univ (made I) : sProp 𝕄) := by
  have hX (Φ : GSem nD τ sig → sProp 𝕄) : bigSep ringCells Φ = bigSep Finset.univ fun d : Dev nD => bigSep Finset.univ fun k : Ck => Φ (kcell d k) := by
    unfold ringCells; rw [bigSep_map, bigSep_univ_prod]; rfl
  have hT : bigSep ringToks (fun x => (dutyTok ER x.1 x.2.1 x.2.2 : sProp 𝕄)) = bigSep Finset.univ fun d : Dev nD => toks (F := F) d := by
    unfold ringToks; rw [bigSep_map, bigSep_univ_prod]
    refine bigSep_congr fun d _ => ?_
    unfold toks
    rw [either, either fun k : Xf ⊕ Xf => _]; rfl
  iintro HX
  imod (Rounds.fund ER (sched I) ringCells ringToks) $$ HX with ⟨Hst, Hr, Hat, Htok⟩
  imodintro
  ihave Hst' := (Entails.of_eq (hX fun g => roundState ER (sched I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold made; simp only [bigSep_sep']
  isplitl [Hst']; · iexact Hst'
  isplitl [Hat' Hr']
  · isplitl [Hat'] <;> iassumption
  iexact Htok'

/-- The barrier's semaphore is the one semaphore outside the kernel's scope. -/
theorem unscopedSems0_eq (d : Dev nD) : (unscopedSems0 d : sProp 𝕄) = semVal (kcell d .bar) 0 := by
  unfold unscopedSems0; rw [bigSep_eq_bigSepL_of_eq [SemLoc.reg barS] (by decide +kernel) (by decide)]; rfl

theorem sems0_eq (d : Dev nD) :
    iprop(Pipeline.ownSems0 (Ix := Unit) (Name := ℕ) (U := UU) (Lvl := ℕ) (Val := Elt F) (τ := τ) osem d ∗ unscopedSems0 d)
      ⊢ (bigSep Finset.univ fun k : Ck => semVal (kcell d k) 0 : sProp 𝕄) := by
  have hu : bigSep (Finset.univ : Finset Unit) (fun _ => (semVal (kcell d .bar) 0 : sProp 𝕄)) = semVal (kcell d .bar) 0 := bigSep_singleton
  rw [unscopedSems0_eq, either]
  unfold Pipeline.ownSems0
  iintro ⟨Ho, Hb⟩
  isplitl [Hb]
  · iapply (Entails.of_eq hu.symm); iexact Hb
  iexact Ho

theorem core_alloc (d : Dev nD) :
    iprop(Pipeline.ownSems0 (Ix := Unit) (Name := ℕ) (U := UU) (Lvl := ℕ) (Val := Elt F) (τ := τ) osem d ∗ unscopedSems0 d ∗ made I d)
      ⊢ |={Set.univ}=> iprop((bigSep Finset.univ fun k : Ck => iprop(∃ κ : ℕ, cellInv ER (sched I) κ (kcell d k)))
          ∗ (bigSep Finset.univ fun k : Ck => iprop(atPos ER (kcell d k) 0 ∅ 0 ∗ reached ER (kcell d k) 0)) ∗ toks (F := F) d) := by
  unfold made
  iintro ⟨Hos, Hus, Hst, Hat, Htok⟩
  ihave Hv := (sems0_eq (F := F) d) $$ [Hos Hus]
  · isplitl [Hos] <;> iassumption
  imod (show iprop((bigSep Finset.univ fun k : Ck => semVal (kcell d k) 0) ∗ bigSep Finset.univ fun k : Ck => roundState ER (sched I) (kcell d k) 0)
      ⊢ (|={Set.univ}=> bigSep Finset.univ fun k : Ck => iprop(∃ κ : ℕ, cellInv ER (sched I) κ (kcell d k)) : sProp 𝕄) from by
        rw [← bigSep_sep']
        exact (bigSep_mono fun k _ => (Rounds.body_intro ER (sched I) (kcell d k)).trans inv_alloc).trans (bigSep_fupd _ _)) $$ [Hv Hst] with Hinv
  · isplitl [Hv] <;> iassumption
  imodintro
  isplitl [Hinv]; · iexact Hinv
  isplitl [Hat]; · iexact Hat
  iexact Htok

/-- Tokens moved between partners: what is indexed by a device is indexed by its partner. -/
theorem move {ι : Type} [Fintype ι] (P : Dev nD → ι → Dev nD) (hP : ∀ d i, P (P d i) i = d) (Φ : Dev nD → ι → sProp 𝕄) :
    (bigSep Finset.univ fun d : Dev nD => bigSep Finset.univ fun i : ι => Φ d i) = bigSep Finset.univ fun d : Dev nD => bigSep Finset.univ fun i : ι => Φ (P d i) i := by
  have e : Function.Involutive fun p : Dev nD × ι => (P p.1 p.2, p.2) := fun p => Prod.ext (hP p.1 p.2) rfl
  rw [← bigSep_univ_prod (fun p : Dev nD × ι => Φ p.1 p.2), bigSep_univ_equiv e.toPerm, bigSep_univ_prod]
  rfl

theorem toks_around : (bigSep Finset.univ fun d : Dev nD => toks (F := F) d) ⊢ bigSep Finset.univ fun d : Dev nD => payToks (F := F) d := by
  unfold toks payToks
  rw [bigSep_sep', bigSep_sep', bigSep_sep', bigSep_sep',
    move prt prt_prt (fun d i => (dutyTok ER (kcell d .bar) 0 i : sProp 𝕄)),
    move peer peer_peer (fun d x => (dutyTok ER (kcell d (.rcv x)) 0 one : sProp 𝕄))]

theorem with_persistent {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun d : Dev nD => iprop((bigSep Finset.univ fun k : Ck => iprop(∃ κ : ℕ, cellInv ER (sched I) κ (kcell d k)))
          ∗ (bigSep Finset.univ fun k : Ck => iprop(atPos ER (kcell d k) 0 ∅ 0 ∗ reached ER (kcell d k) 0)) ∗ toks (F := F) d) : sProp 𝕄)
      ⊢ bigSep Finset.univ (dealt I) := by
  rw [bigSep_sep', bigSep_sep', ← bigSep_univ_prod (fun p : Dev nD × Ck => iprop(∃ κ : ℕ, cellInv ER (sched I) κ (kcell p.1 p.2))),
    bigSep_congr (s := Finset.univ) (fun (d : Dev nD) _ => bigSep_sep' Finset.univ (fun k : Ck => (atPos ER (kcell d k) 0 ∅ 0 : sProp 𝕄)) (fun k => reached ER (kcell d k) 0)),
    bigSep_sep', ← bigSep_univ_prod (fun p : Dev nD × Ck => (reached ER (kcell p.1 p.2) 0 : sProp 𝕄))]
  iintro ⟨HI, ⟨Hat, #HR⟩, Htok⟩
  ihave HK := (BI.bigSep_exists_pi Finset.univ (fun (p : Dev nD × Ck) (κ : ℕ) => (cellInv ER (sched I) κ (kcell p.1 p.2) : sProp 𝕄))) $$ HI
  icases HK with ⟨%K, #HI⟩
  ihave Htk := (toks_around (F := F)) $$ Htok
  have hd : ∀ d ∈ (Finset.univ : Finset (Dev nD)), iprop(cells I K ∗ ((bigSep Finset.univ fun k : Ck => atPos ER (kcell d k) 0 ∅ 0) ∗ payToks (F := F) d)) ⊢ dealt I d := fun d _ => by
    unfold dealt
    iintro ⟨H1, H2⟩
    iexists K
    isplitl [H1] <;> iassumption
  iapply (with_persistent hd)
  isplitr
  · unfold cells
    rw [bigSep_sep']
    isplitl; · iexact HI
    iexact HR
  · rw [bigSep_sep']
    isplitl [Hat] <;> iassumption

/-- Every device's cells are opened at once and everything is handed out. -/
theorem glob : (bigSep Finset.univ fun d => iprop(Pipeline.ownSems0 (Ix := Unit) (Name := ℕ) (U := UU) (Lvl := ℕ) (Val := Elt F) (τ := τ) osem d ∗ unscopedSems0 d ∗ made I d) : sProp 𝕄)
    ⊢ |={Set.univ}=> bigSep Finset.univ (dealt I) :=
  ((bigSep_mono fun d _ => core_alloc I d).trans (bigSep_fupd _ _)).trans (BI.fupd_mono (regroup I))

/-! ## Credits -/

theorem sum_partner (P : Dev nD → Dev nD) (hP : ∀ d, P (P d) = d) (c : Dev nD) (k : Ck) (n : ℕ) :
    ∑ d : Dev nD, (tallyAt (kcell (P d) k) () n : CellTallies nD τ sig Unit) (kcell c k) () = n := by
  rw [Finset.sum_eq_single (P c)]
  · rw [hP, tallyAt_apply, if_pos ⟨rfl, rfl⟩]
  · intro d _ hd
    rw [tallyAt_apply, if_neg]
    rintro ⟨h, -⟩
    exact hd (by rw [(kcell_inj h).1, hP])
  · exact fun h => absurd (Finset.mem_univ _) h

theorem oweX_bar (d c : Dev nD) : ∀ l, oweX d l (kcell c .bar) () = 0
  | [] => rfl
  | x :: l => by
    unfold oweX
    rw [Pi.add_apply, Finsupp.add_apply, oweX_bar d c l, tallyAt_apply, if_neg]
    rintro ⟨h, -⟩
    cases (kcell_inj h).2
theorem owed_bar (c : Dev nD) : ∀ l, ∑ d : Dev nD, oweB d l (kcell c .bar) () = l.length
  | [] => Finset.sum_eq_zero fun d _ => oweX_bar d c _
  | i :: l => by
    unfold oweB
    simp only [Pi.add_apply, Finsupp.add_apply]
    rw [Finset.sum_add_distrib, owed_bar c l, sum_partner (fun d => prt d i) (fun d => prt_prt d i), List.length_cons]

theorem owed_x (c : Dev nD) (x : Xf) : ∀ l, ∑ d : Dev nD, oweX d l (kcell c (.rcv x)) () = l.count x * x.N
  | [] => by rw [List.count_nil, Nat.zero_mul]; exact Finset.sum_eq_zero fun d _ => rfl
  | y :: l => by
    unfold oweX
    simp only [Pi.add_apply, Finsupp.add_apply]
    rw [Finset.sum_add_distrib, owed_x c x l, List.count_cons]
    by_cases h : y = x
    · subst h
      rw [sum_partner (fun d => peer d y) (fun d => peer_peer d y), beq_self_eq_true, if_pos rfl, Nat.add_mul, Nat.one_mul]
    · rw [if_neg (by simpa using h), Nat.add_zero, Finset.sum_eq_zero, Nat.add_zero]
      intro d _
      rw [tallyAt_apply, if_neg]
      rintro ⟨e, -⟩
      exact h (Sum.inr.inj (Sum.inr.inj (kcell_inj e).2)).symm
theorem owed_rcv (c : Dev nD) (x : Xf) : ∀ l, ∑ d : Dev nD, oweB d l (kcell c (.rcv x)) () = x.N
  | [] => by
    unfold oweB
    rw [owed_x, List.count_eq_one_of_mem Xf.order_nodup (Xf.mem_order x), Nat.one_mul]
  | i :: l => by
    unfold oweB
    simp only [Pi.add_apply, Finsupp.add_apply]
    rw [Finset.sum_add_distrib, owed_rcv c x l, Finset.sum_eq_zero, Nat.add_zero]
    intro d _
    rw [tallyAt_apply, if_neg]
    rintro ⟨e, -⟩
    cases (kcell_inj e).2

theorem launch_at (c : Dev nD) (k : Ck) (n : ℕ) (h : ∑ d : Dev nD, O₀ d (kcell c k) () = n) :
    tallyOn (kcell c k) (launchCredit (Pipeline.owing O₀) 0 (kcell c k)) = (tallyAt (kcell c k) () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄)
    ⊢ iprop(cred (tallyAt (kcell c .bar) () 10) ∗ bigSep Finset.univ (fun x : Xf => cred (tallyAt (kcell c (.rcv x)) () x.N))) := by
  have hu (Φ : Unit → sProp 𝕄) : bigSep (Finset.univ : Finset Unit) Φ = Φ () := bigSep_singleton
  unfold Pipeline.launchCred
  have key (Φ : SemLoc sig → sProp 𝕄) : bigSep Finset.univ Φ ⊢ iprop(Φ (csem .bar) ∗ bigSep Finset.univ (fun x : Xf => Φ (csem (.rcv x)))) := by
    have e : bigSep ((Finset.univ : Finset Ck).image csem) Φ
        = iprop(Φ (csem .bar) ∗ bigSep Finset.univ (fun x : Xf => Φ (csem (.snd x))) ∗ bigSep Finset.univ (fun x : Xf => Φ (csem (.rcv x)))) := by
      rw [bigSep_image_of_injOn (fun a _ b _ h => csem_inj h), either, either, hu]
    have h : bigSep Finset.univ Φ ⊢ bigSep ((Finset.univ : Finset Ck).image csem) Φ := bigSep_subset (Finset.subset_univ _)
    rw [e] at h
    iintro H
    ihave ⟨Hb, -, Hr⟩ := h $$ H
    isplitl [Hb] <;> iassumption
  iintro H
  ihave ⟨Hb, Hr⟩ := (key _) $$ H
  isplitl [Hb]
  · iapply (Entails.of_eq (congrArg (fun t => (cred t : sProp 𝕄)) (launch_at c .bar 10 (owed_bar c allPr)))); iexact Hb
  · iapply (Entails.of_eq (bigSep_congr fun (x : Xf) _ => congrArg (fun t => (cred t : sProp 𝕄)) (launch_at c (.rcv x) x.N (owed_rcv c x allPr)))); iexact Hr

/-- What a device starts from, put in its body's order. -/
theorem ghost_intro (c : Dev nD) :
    iprop((Pipeline.launchCred O₀ c : sProp 𝕄) ∗ (bigSep Finset.univ fun k : Ck => atPos ER (kcell c k) 0 ∅ 0) ∗ payToks (F := F) c) ⊢ ghost (F := F) c := by
  have hu (Φ : Unit → sProp 𝕄) : bigSep (Finset.univ : Finset Unit) Φ = Φ () := bigSep_singleton
  have hx (Φ : Xf → sProp 𝕄) : bigSep Finset.univ Φ = bigSepL Xf.order Φ := bigSep_univ_eq_bigSepL Xf.order Xf.univ_eq Xf.order_nodup Φ
  unfold payToks ghost
  rw [either, either, hu, prs]
  iintro ⟨Hc, ⟨Hab, Has, Har⟩, ⟨Hlo, Hhi⟩, Hts, Htr⟩
  ihave ⟨Hcb, Hcr⟩ := (creds (F := F) c) $$ Hc
  isplitl [Hlo Hhi]
  · isplitl [Hlo] <;> iassumption
  isplitl [Hab Hcb]
  · isplitl [Hcb] <;> iassumption
  isplitl [Hts Htr]
  · rw [← hx]
    unfold tokP
    rw [bigSep_sep']
    isplitl [Hts] <;> iassumption
  · rw [← hx]
    unfold waitP
    rw [bigSep_sep', bigSep_sep']
    isplitl [Has]; · iexact Has
    isplitl [Hcr] <;> iassumption

end Cert.KernelIdeal.Ring

end
-- ==== Proof.BodyEq.lean ====
/- The printed body is the phases of `Phases.lean`. -/
module

public import proofs.«01_k».proof.Proof.Phases
public import Idealize.ShloMosaic.Lib.Pipeline.Regions

@[expose] public section

noncomputable section

namespace Cert.KernelIdeal.Ring

open Idealize.ShloMosaic Idealize.SL.Sem Cert.KernelIdeal.Gen

variable {F : FTy → Type} [FloatOps F] [Named F]

set_option maxRecDepth 65536 in
/-- The printed body, at the buffers and semaphores it is called with, is the phases in order: both unfold to the same
    operations. -/
theorem body_eq_phases :
    cc0_body (F := F) xM (Memref.isWhole_whole _) wqM (Memref.isWhole_whole _) woM (Memref.isWhole_whole _) kM (Memref.isWhole_whole _)
      vM (Memref.isWhole_whole _) outM (Memref.isWhole_whole _) qM (Memref.isWhole_whole _) accM (Memref.isWhole_whole _)
      sndM (Memref.isWhole_whole _) r1M (Memref.isWhole_whole _) r2M (Memref.isWhole_whole _) nrM (Memref.isWhole_whole _)
      cc0_scratch6 cc0_scratch7 cc0_scratch8 cc0_scratch9 cc0_scratch10 cc0_scratch11 cc0_scratch12 cc0_scratch13
    = phases := by
  rewrite [cc0_body_eq_skeleton]
  chain_rfl

end Cert.KernelIdeal.Ring

end
-- ==== Proof.Run.lean ====
/- The launch: every device runs the body from the launch's state, and what the run leaves. -/
module

public import proofs.«01_k».proof.Proof.Ghosts
public import proofs.«01_k».proof.Proof.BodyEq
public import Idealize.ShloMosaic.Lib.Pipeline.CollectiveSegs

@[expose] public section

noncomputable section

namespace Cert.KernelIdeal.Ring

open Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open Idealize.ShloMosaic.Pipeline (Dat Cfg Window BodyObligation cellOf)
open scoped Idealize.SL.BI

variable {F : FTy → Type} [FloatOps F] [Named F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What the devices are given: their argument arrays. -/
def inp (d : Dev nD) : Inp F where
  x := m ((d : Thread nD τ).loc main_arg0)
  wq := m ((d : Thread nD τ).loc main_arg1)
  wo := m ((d : Thread nD τ).loc main_arg4)
  k := m ((d : Thread nD τ).loc main_arg2)
  v := m ((d : Thread nD τ).loc main_arg3)

/-- Before the body: what the device is dealt, its credits, its buffers. -/
def before₀ (d : Dev nD) : sProp 𝕄 := iprop((∃ K, ctx (inp m) K ∗ ghost (F := F) d) ∗ own (F := F) d)
/-- After it: its buffers, its cells closed. -/
def after₁ (d : Dev nD) : sProp 𝕄 := iprop(own (F := F) d ∗ closed (F := F) d)

def dats (_ : Fin 1) (d : Dev nD) : Dat τ (Elt F) Unit ℕ UU ℕ cfg0 d where
  A w := (s₀ m ρ).mem ((cfg0.win w).arr.view.loc (d : Thread nD τ))
  after w _ := match w with
    | ⟨0, _⟩ => (inp m d).x
    | ⟨1, _⟩ => (inp m d).wq
    | ⟨2, _⟩ => (inp m d).wo
    | ⟨3, _⟩ => (inp m d).k
    | ⟨4, _⟩ => (inp m d).v
    | ⟨5, _⟩ => Out (inp m) d
  Φ t := match t with
    | ⟨0, _⟩ => before₀ m d
    | ⟨_ + 1, _⟩ => after₁ d
  q _ := fullShare
  owed t := match t with
    | ⟨0, _⟩ => O₀ d
    | ⟨_ + 1, _⟩ => 0

theorem owns_whole (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) (((d : Dev nD) : Thread nD τ).loc b), ⌜f = X⌝ ∗ (((d : Thread nD τ).loc b) ↦{fullShare} f)) := by
  unfold owns; simp only [Memref.view_whole, View.read_whole, View.set_whole]

/-- A staging buffer holding `X`. -/
abbrev stg (d : Dev nD) (b : Ref sig .tc) (X : b.ty.Contents (Elt F)) : sProp 𝕄 :=
  iprop(∃ f : Buf (Elt F) (((d : Dev nD) : Thread nD τ).loc b), ⌜f = X⌝ ∗ (((d : Thread nD τ).loc b) ↦{fullShare} f))

def bodyPre (d : Dev nD) : sProp 𝕄 :=
  iprop(before₀ m d ∗ (dats m ρ 0 d).owesAt () t0_0.castSucc
    ∗ (∃ e, stg d cc0_stg0_0 ((dats m ρ 0 d).before (0 : Fin 6) t0_0 e))
    ∗ (∃ e, stg d cc0_stg1_0 ((dats m ρ 0 d).before (1 : Fin 6) t0_0 e))
    ∗ (∃ e, stg d cc0_stg2_0 ((dats m ρ 0 d).before (2 : Fin 6) t0_0 e))
    ∗ (∃ e, stg d cc0_stg3_0 ((dats m ρ 0 d).before (3 : Fin 6) t0_0 e))
    ∗ (∃ e, stg d cc0_stg4_0 ((dats m ρ 0 d).before (4 : Fin 6) t0_0 e))
    ∗ (∃ e, stg d cc0_stg5_0 ((dats m ρ 0 d).before (5 : Fin 6) t0_0 e)))
def bodyPost (d : Dev nD) : sProp 𝕄 :=
  iprop(after₁ (F := F) d ∗ (dats m ρ 0 d).owesAt () t0_0.succ
    ∗ stg d cc0_stg0_0 (inp m d).x ∗ stg d cc0_stg1_0 (inp m d).wq ∗ stg d cc0_stg2_0 (inp m d).wo
    ∗ stg d cc0_stg3_0 (inp m d).k ∗ stg d cc0_stg4_0 (inp m d).v ∗ stg d cc0_stg5_0 (Out (inp m) d))

/-! ## The windows are whole arrays -/

section Whole
variable (t : Fin grid0.N)
theorem blk0 (f : Vec F S2x256x768 .bf16) : (win0_0.blk t).view.read (Elt F) f = f := by
  funext y; exact congrArg f (funext fun a => Fin.ext (by show 0 * _ + 1 * (y a).val = _; omega))
theorem blk1 (f : Vec F S768x512 .bf16) : (win0_1.blk t).view.read (Elt F) f = f := by
  funext y; exact congrArg f (funext fun a => Fin.ext (by show 0 * _ + 1 * (y a).val = _; omega))
theorem blk2 (f : Vec F S512x768 .bf16) : (win0_2.blk t).view.read (Elt F) f = f := by
  funext y; exact congrArg f (funext fun a => Fin.ext (by show 0 * _ + 1 * (y a).val = _; omega))
theorem blk3 (f : Vec F S2x512x2x64 .bf16) : (win0_3.blk t).view.read (Elt F) f = f := by
  funext y; exact congrArg f (funext fun a => Fin.ext (by show 0 * _ + 1 * (y a).val = _; omega))
theorem blk4 (f : Vec F S2x512x2x64 .bf16) : (win0_4.blk t).view.read (Elt F) f = f := by
  funext y; exact congrArg f (funext fun a => Fin.ext (by show 0 * _ + 1 * (y a).val = _; omega))
theorem blk5 (f : Vec F S2x256x768 .f32) : (win0_5.blk t).view.read (Elt F) f = f := by
  funext y; exact congrArg f (funext fun a => Fin.ext (by show 0 * _ + 1 * (y a).val = _; omega))
theorem mem_blk5 (y : S2x256x768.Idx) : y ∈ (win0_5.blk t).view.set := by
  show y ∈ ((View.whole main_v1).slice (win0_5.rect t)).set
  rw [View.set_slice_whole, Rect.mem_set_unit]
  intro a
  show 0 * S2x256x768.size a ≤ (y a).val ∧ (y a).val < 0 * S2x256x768.size a + S2x256x768.size a
  have := (y a).isLt
  omega
end Whole

/-! ## The body at the launch -/

theorem fetched (w : Fin 6) (hw : (cfg0.win w).isOut = false) : (cfg0.win w).fetch t0_0 = true := by
  unfold Window.fetch
  rw [hw]; rfl

theorem body_run (d : Dev nD) : bodyPre m ρ d ⊢ Wp d phases (fun _ => bodyPost m ρ d) := by
  have hO : (dats m ρ 0 d).owed t0_0.castSucc = O₀ d := rfl
  have hO' : (dats m ρ 0 d).owed t0_0.succ = 0 := rfl
  unfold bodyPre before₀ Dat.owesAt Pipeline.owesWithin
  rw [hO]
  iintro ⟨⟨⟨%K, #Hc, Hg⟩, Hown⟩, ⟨%W, %hW, HO⟩, ⟨%e0, %g0, %h0, H0⟩, ⟨%e1, %g1, %h1, H1⟩, ⟨%e2, %g2, %h2, H2⟩, ⟨%e3, %g3, %h3, H3⟩, ⟨%e4, %g4, %h4, H4⟩, ⟨%e5, %g5, %h5, H5⟩⟩
  have h0' : g0 = (inp m d).x := by rw [h0]; unfold Dat.before; rw [if_pos (fetched 0 rfl)]; exact blk0 (F := F) t0_0 (inp m d).x
  have h1' : g1 = (inp m d).wq := by rw [h1]; unfold Dat.before; rw [if_pos (fetched 1 rfl)]; exact blk1 (F := F) t0_0 (inp m d).wq
  have h2' : g2 = (inp m d).wo := by rw [h2]; unfold Dat.before; rw [if_pos (fetched 2 rfl)]; exact blk2 (F := F) t0_0 (inp m d).wo
  have h3' : g3 = (inp m d).k := by rw [h3]; unfold Dat.before; rw [if_pos (fetched 3 rfl)]; exact blk3 (F := F) t0_0 (inp m d).k
  have h4' : g4 = (inp m d).v := by rw [h4]; unfold Dat.before; rw [if_pos (fetched 4 rfl)]; exact blk4 (F := F) t0_0 (inp m d).v
  subst h0' h1' h2' h3' h4'
  iapply (Wp_last (run_body (inp m) K d g5))
  isplitl [HO Hg Hown H0 H1 H2 H3 H4 H5]
  · isplitl [HO]
    · isplitr; · iexact Hc
      unfold stB; iexists W; iexact HO
    isplitl [Hg]; · iexact Hg
    isplitl [H0 H1 H2 H3 H4]
    · unfold given
      isplitl [H0]; · iexact H0
      isplitl [H1]; · iexact H1
      isplitl [H2]; · iexact H2
      isplitl [H3]; · iexact H3
      iexact H4
    isplitl [Hown]; · iexact Hown
    iexact H5
  iintro %u ⟨HO, Hcl, Hgv, Hown, Hout⟩
  unfold st given bodyPost after₁ Dat.owesAt Pipeline.owesWithin
  rw [hO']
  icases HO with ⟨%W', HO⟩
  icases Hgv with ⟨H0, H1, H2, H3, H4⟩
  isplitl [Hown Hcl]
  · isplitl [Hown] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact Hout

set_option maxRecDepth 200000 in
theorem body_obligation (d : Dev nD) : BodyObligation (dats (F := F) m ρ 0 d) (defs₀ (F := F)) 𝒱₀ () Set.univ := fun t => by
  rw [fin_N0 t]
  rw [show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0,
    show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0]
  simp only [owns_whole]
  show bodyPre m ρ d ⊢ Wp d (cc0_body xM (Memref.isWhole_whole _) wqM (Memref.isWhole_whole _) woM (Memref.isWhole_whole _) kM (Memref.isWhole_whole _)
      vM (Memref.isWhole_whole _) outM (Memref.isWhole_whole _) qM (Memref.isWhole_whole _) accM (Memref.isWhole_whole _)
      sndM (Memref.isWhole_whole _) r1M (Memref.isWhole_whole _) r2M (Memref.isWhole_whole _) nrM (Memref.isWhole_whole _)
      cc0_scratch6 cc0_scratch7 cc0_scratch8 cc0_scratch9 cc0_scratch10 cc0_scratch11 cc0_scratch12 cc0_scratch13) (fun _ => bodyPost m ρ d)
  rw [body_eq_phases]
  exact body_run m ρ d

/-! ## The launch -/

theorem share_eq (d : Dev nD) (w : Fin cfg0.W) : (dats m ρ 0 d).share w = fullShare := by unfold Dat.share; split <;> rfl

def start (d : Dev nD) : sProp 𝕄 := iprop(∃ K, ctx (inp m) K ∗ ghost (F := F) d)

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ dealt (inp m) d)
      ⊢ |={Set.univ}=> iprop(start m d ∗ emp) := by
  unfold dealt start ctx cells
  iintro ⟨-, Hlev, Hcr, -, %K, HI, Hat, Hpay⟩
  imodintro
  isplitl
  · iexists K
    isplitl [HI Hlev]
    · isplitl [HI] <;> iassumption
    iapply (ghost_intro (F := F) d)
    isplitl [Hcr]; · iexact Hcr
    isplitl [Hat] <;> iassumption
  · iempintro

theorem phi_first (d : Dev nD) :
    iprop(start m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = before₀ m d from rfl, scopedRest0_eq]
  unfold before₀ start own
  iintro ⟨Hs, -, Hr⟩
  isplitl [Hs] <;> iassumption

theorem phi_last (d : Dev nD) :
    (dats m ρ 0 d).Φ (Fin.last cfg0.N) ⊢ iprop(unscopedSems0 d ∗ Pipeline.ownSems0 osem d ∗ Pipeline.scopedRest cfg0.spec d) := by
  have hx (Φ : Xf → sProp 𝕄) : bigSep Finset.univ Φ = bigSepL Xf.order Φ := bigSep_univ_eq_bigSepL Xf.order Xf.univ_eq Xf.order_nodup Φ
  rw [show (dats m ρ 0 d).Φ (Fin.last cfg0.N) = after₁ d from rfl, scopedRest0_eq, unscopedSems0_eq]
  unfold after₁ own closed Pipeline.ownSems0 doneP
  rw [either, ← hx, bigSep_sep']
  iintro ⟨Hr, Hb, Hs, Hv⟩
  isplitl [Hb]; · iexact Hb
  isplitl [Hs Hv]
  · isplitl [Hs] <;> iassumption
  iexact Hr

theorem waits (d : Dev nD) : (levAts L lv : sProp 𝕄) ⊢ Pipeline.cellsWaits cfgs (dats m ρ) () 0 d :=
  Pipeline.cellsWaits_intro cfgs (dats m ρ) () 0 d fun w s t =>
    mayWait_stage d _ (ofSem_stage w s) _ (by
      rcases t with ⟨_ | _, ht⟩
      · exact Or.inl rfl
      · exact Or.inr rfl)

/-! ## The run -/

/-- What the run leaves in the windows' arrays. -/
def left (d : Dev nD) (w : Fin cfg0.W) : Buf (Elt F) ((cfg0.win w).arr.view.loc (d : Thread nD τ)) := (dats m ρ 0 d).arrAt w cfg0.N

set_option maxRecDepth 200000 in
/-- From any memory with no semaphore counted up, for any float values: every fair execution ends, each device's result
    holds what the body computed, and no semaphore is left counted up. -/
theorem run_main : θ_run defs (onTc (τ := τ) (main (F := F))) (s₀ m ρ)
    (fun r => (∀ d : Dev nD, ∀ w : Fin cfg0.W, r.2.mem ((cfg0.win w).arr.view.loc (d : Thread nD τ)) = left m ρ d w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := made (inp m)) (G' := dealt (inp m)) (u₀ := u₀)
    (hu₀ := by
      unfold u₀
      iintro Hu
      ihave H := (ownU_pair _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := start m) (Y := fun d => unscopedSems0 d) (Z := fun _ => iprop(emp))
    (hX := start_intro m ρ) (hin := phi_first m ρ) (hout := phi_last m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

/-- An argument's array is left as it was. -/
theorem left_in (d : Dev nD) (w : Fin cfg0.W) (hw : (cfg0.win w).isOut = false) : left m ρ d w = m ((cfg0.win w).arr.view.loc (d : Thread nD τ)) :=
  (dats (F := F) m ρ 0 d).arrAt_in w hw _
/-- The result's array holds what the body computed. -/
theorem left_out (d : Dev nD) : left m ρ d (5 : Fin 6) = Out (inp m) d :=
  (dats (F := F) m ρ 0 d).arrAt_eq_of_cover (5 : Fin 6) (Out (inp m) d) (fun t _ => (blk5 t _).symm) (fun y => ⟨t0_0, rfl, mem_blk5 t0_0 y⟩)

/-- The run in the program's own terms. -/
theorem run_kernel : θ_run defs (onTc (τ := τ) (main (F := F))) (s₀ m ρ)
    (fun r => ∀ d : Dev nD, r.2.mem ((d : Thread nD τ).loc main_v1) = Out (inp m) d
        ∧ r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_arg2) = m ((d : Thread nD τ).loc main_arg2)
        ∧ r.2.mem ((d : Thread nD τ).loc main_arg3) = m ((d : Thread nD τ).loc main_arg3)
        ∧ r.2.mem ((d : Thread nD τ).loc main_arg4) = m ((d : Thread nD τ).loc main_arg4)
        ∧ r.2.sem = fun _ => 0) :=
  (θ_run defs _ _).mono (fun r h d =>
    ⟨(h.1 d (5 : Fin 6)).trans (left_out m ρ d), (h.1 d (0 : Fin 6)).trans (left_in m ρ d 0 rfl), (h.1 d (1 : Fin 6)).trans (left_in m ρ d 1 rfl),
      (h.1 d (3 : Fin 6)).trans (left_in m ρ d 3 rfl), (h.1 d (4 : Fin 6)).trans (left_in m ρ d 4 rfl), (h.1 d (2 : Fin 6)).trans (left_in m ρ d 2 rfl), h.2⟩) (run_main m ρ)

end Cert.KernelIdeal.Ring

end
-- ==== Proof.Frames.lean ====
/- The two kernels' frames, both from the one run, and the named constant. -/
module

public import proofs.«01_k».proof.Proof.Run
public import proofs.«01_k».proof.Defs
public import proofs.«01_k».proof.Proof.Gen.Kernel

@[expose] public section

noncomputable section

namespace Cert.KernelIdeal.Ring
open Idealize.ShloMosaic Idealize.ShloMosaic.TcCoe  Idealize.SL.Sem Cert.KernelIdeal.Gen

/-- At machine floats a named constant is the word it is printed with. -/
@[implicit_reducible] def bitsNamed : Named Bits where
  named _ _ {φ} bits := Scalar.ofBits φ bits

attribute [local instance] bitsNamed

set_option maxRecDepth 200000 in
/-- At machine floats the two programs' kernels are one. -/
theorem defs₀_eq : Kernel.defs₀ (F := Bits) = KernelIdeal.defs₀ (F := Bits) := by
  unfold Kernel.defs₀ KernelIdeal.defs₀
  refine congrArg _ ?_
  funext l a
  rcases l with ⟨_ | n, h⟩
  · rfl
  · exact absurd h (by omega)
set_option maxRecDepth 200000 in
theorem defs_eq : Kernel.defs (F := Bits) = KernelIdeal.defs (F := Bits) := by
  unfold Kernel.defs KernelIdeal.defs
  rw [defs₀_eq]
  rfl

set_option maxRecDepth 200000 in
theorem frame_kernel : Cert.quiescent_Kernel := fun m ρ _ => by
  rw [defs_eq]
  exact (θ_run (KernelIdeal.defs (F := Bits)) _ _).mono (fun _ h => ⟨fun c => ⟨(h c).2.1, (h c).2.2.1, (h c).2.2.2.1, (h c).2.2.2.2.1, (h c).2.2.2.2.2.1⟩, (h 0).2.2.2.2.2.2⟩) (run_kernel (F := Bits) m ρ)

theorem frame_ideal : Cert.quiescent_KernelIdeal := fun m ρ _ =>
  (θ_run KernelIdeal.defs _ _).mono (fun _ h => ⟨fun c => ⟨(h c).2.1, (h c).2.2.1, (h c).2.2.2.1, (h c).2.2.2.2.1, (h c).2.2.2.2.2.1⟩, (h 0).2.2.2.2.2.2⟩) (run_kernel (F := Ideal) m ρ)

theorem preserves : Cert.preserves_Kernel_KernelIdeal := IdealRules.named_const.statement _ _ _ _ _ rfl

end Cert.KernelIdeal.Ring

end
-- ==== Proof.Payloads.lean ====
/- What each of the body's pure steps computes over the extended reals, at an index. -/
module

public import proofs.«01_k».proof.Proof.Gen.KernelIdeal.Skeleton
public import Idealize.ShloMosaic.Lib.Pointwise

@[expose] public section

noncomputable section

namespace Cert.KernelIdeal.Ring

open Idealize.ShloMosaic Cert.KernelIdeal.Gen

/-- The constant that the queries are scaled by, 1 / (8 log 2). -/
def scale : EReal := (((8 * Real.log 2)⁻¹ : ℝ) : EReal)

theorem named_scale : (Named.named κ "scale" (φ := .bf16) 0x3E39#16 : Ideal .bf16) = scale := rfl

/-- The queries: a product with the scaled weights. -/
theorem pay2_at (wq : Vec Ideal S768x512 .bf16) (x : Vec Ideal S2x256x768 .bf16) (b : Fin 2) (i : Fin 256) (n : Fin 512) :
    k0_pay2 wq x (ix3 b i n) = ∑ a : Fin 768, x (ix3 b i a) * (wq (ix2 a n) * scale) := by
  pointwise [k0_pay2, named_scale]

/-- The added columns: one in the first, zero in the others. -/
theorem pay3_at (j : Fin 512) (e : Fin 8) : k0_pay3 (F := Ideal) (ix2 j e) = if e.val = 0 then 1 else 0 := by
  pointwise [k0_pay3]
  show (((BitVec.setWidth 32 (IntOp.cmpi CmpIPredicate.eq (BitVec.ofNat 32 e.val) 0#32)).toInt : ℝ) : EReal) = _
  have h : ∀ e : Fin 8, (BitVec.setWidth 32 (IntOp.cmpi CmpIPredicate.eq (BitVec.ofNat 32 e.val) 0#32)).toInt = if e.val = 0 then 1 else 0 := by decide
  rw [h e]
  split <;> simp

/-- One head over one device's keys. -/
theorem pay7_at (w : Vec Ideal S512x8 .bf16) (k v : Vec Ideal S1x512x1x64 .bf16) (q : Vec Ideal S1x256x64 .bf16) (i : Fin 256) (e : Fin 72) :
    k0_pay7 w k v q (ix3 0 i e) = ∑ j : Fin 512, Ideal.exp2 (∑ n : Fin 64, q (ix3 0 i n) * k (ix4 0 j 0 n))
      * (if h : e.val < 64 then v (ix4 0 j 0 ⟨e.val, h⟩) else w (ix2 j ⟨e.val - 64, by omega⟩)) := by
  pointwise [k0_pay7, k0_pay5, k0_pay6]
  rfl

theorem pay20_at (a : Vec Ideal S1x256x576 .f32) (i : Fin 256) (n : Fin 576) : k0_pay20 a (ix3 0 i n) = a (ix3 0 i n) := by
  pointwise [k0_pay20]

theorem pay43_at (a : Vec Ideal S1x32x576 .f32) (i : Fin 32) (n : Fin 576) : k0_pay43 a (ix3 0 i n) = a (ix3 0 i n) := by
  pointwise [k0_pay43]

theorem pay38_at (a : Vec Ideal S1x32x576 .f32) (r : Fin 7 → Vec Ideal S1x1x32x576 .bf16) (i : Fin 32) (n : Fin 576) :
    k0_pay38 (k0_pay36 a (r 0)) (k0_pay37 (r 1)) (r 2) (r 3) (r 4) (r 5) (r 6) (ix3 0 i n)
      = a (ix3 0 i n) + ∑ s : Fin 7, r s (ix4 0 0 i n) := by
  pointwise [k0_pay38, k0_pay36, k0_pay37]
  rw [Fin.sum_univ_seven]
  simp only [add_assoc]

theorem pay44_at (a : Vec Ideal S1x8x576 .f32) (r : Fin 3 → Vec Ideal S1x1x8x576 .bf16) (i : Fin 8) (n : Fin 576) :
    k0_pay44 a (r 0) (r 1) (r 2) (ix3 0 i n) = a (ix3 0 i n) + ∑ s : Fin 3, r s (ix4 0 0 i n) := by
  pointwise [k0_pay44]
  rw [Fin.sum_univ_three]
  simp only [add_assoc]

theorem pay47_at (o : Vec Ideal S1x8x64 .f32) (l : Vec Ideal S1x8x1 .f32) (i : Fin 8) (e : Fin 64) :
    k0_pay47 o l (ix3 0 i e) = Ideal.div (o (ix3 0 i e)) (l (ix3 0 i 0)) := by
  pointwise [k0_pay47]

theorem pay1_at (wo : Vec Ideal S512x768 .bf16) (g : Vec Ideal S1x256x512 .bf16) (i : Fin 256) (o : Fin 768) :
    k0_pay1 (k0_pay4 wo) g (ix3 0 i o) = ∑ n : Fin 512, g (ix3 0 i n) * wo (ix2 n o) := by
  pointwise [k0_pay1, k0_pay4]

end Cert.KernelIdeal.Ring

end
-- ==== Proof.Reads.lean ====
/- What the kernel's buffers hold over the extended reals, at an index: down to one quotient of sums over all devices. -/
module

public import proofs.«01_k».proof.Proof.Contents
public import proofs.«01_k».proof.Proof.Payloads

@[expose] public section

noncomputable section

namespace Cert.KernelIdeal.Ring

open Idealize.ShloMosaic Cert.KernelIdeal.Gen

/-- Where a unit rectangle places an index, rank 3 and 4. -/
theorem at3 {n0 n1 n2 p q r : Nat} (off : Fin 3 → Nat) (inb : ∀ a, off a + (![p, q, r] : Fin 3 → Nat) a ≤ (⟨3, ![n0, n1, n2]⟩ : Shape).size a)
    (x : Fin p) (y : Fin q) (z : Fin r) (a : Fin n0) (b : Fin n1) (c : Fin n2) (h0 : off 0 + x.val = a.val) (h1 : off 1 + y.val = b.val)
    (h2 : off 2 + z.val = c.val) : (Rect.unit (s := ⟨3, ![n0, n1, n2]⟩) off ![p, q, r] inb).emb (ix3 x y z) = ix3 a b c := by
  rw [ix3_eq_valueIdx, ix3_eq_valueIdx]
  exact emb3 off inb x y z _ h0 h1 h2

theorem at4 {n0 n1 n2 n3 p q r t : Nat} (off : Fin 4 → Nat) (inb : ∀ a, off a + (![p, q, r, t] : Fin 4 → Nat) a ≤ (⟨4, ![n0, n1, n2, n3]⟩ : Shape).size a)
    (x : Fin p) (y : Fin q) (z : Fin r) (w : Fin t) (a : Fin n0) (b : Fin n1) (c : Fin n2) (e : Fin n3) (h0 : off 0 + x.val = a.val)
    (h1 : off 1 + y.val = b.val) (h2 : off 2 + z.val = c.val) (h3 : off 3 + w.val = e.val) :
    (Rect.unit (s := ⟨4, ![n0, n1, n2, n3]⟩) off ![p, q, r, t] inb).emb (ix4 x y z w) = ix4 a b c e := by
  rw [ix4_eq_valueIdx, ix4_eq_valueIdx]
  exact emb4 off inb x y z w _ h0 h1 h2 h3

/-! ## What a load reads -/

theorem read_k (k : Vec Ideal S2x512x2x64 .bf16) (b g : Fin 2) (j : Fin 512) (e : Fin 64) :
    (kM.access (rKv b g)).read (Elt Ideal) k (ix4 0 j 0 e) = k (ix4 b j g e) :=
  congrArg k (at4 _ _ _ _ _ _ _ _ _ _ rfl (Nat.zero_add _) rfl (Nat.zero_add _))

theorem read_v (v : Vec Ideal S2x512x2x64 .bf16) (b g : Fin 2) (j : Fin 512) (e : Fin 64) :
    (vM.access (rKv b g)).read (Elt Ideal) v (ix4 0 j 0 e) = v (ix4 b j g e) :=
  congrArg v (at4 _ _ _ _ _ _ _ _ _ _ rfl (Nat.zero_add _) rfl (Nat.zero_add _))

theorem read_q (q : Vec Ideal S2x256x512 .bf16) (b : Fin 2) (h : Fin 8) (i : Fin 256) (e : Fin 64) :
    (qM.access (rQh b h)).read (Elt Ideal) q (ix3 0 i e) = q (ix3 b i ⟨h.val * 64 + e.val, by omega⟩) :=
  congrArg q (at3 _ _ _ _ _ _ _ _ rfl (Nat.zero_add _) (by show 64 * h.val + e.val = h.val * 64 + e.val; omega))

theorem read_all576 (a : Vec Ideal S2x256x576 .f32) (b : Fin 2) (i : Fin 256) (n : Fin 576) :
    (accM.access (rAll576 b)).read (Elt Ideal) a (ix3 0 i n) = a (ix3 b i n) :=
  congrArg a (at3 _ _ _ _ _ _ _ _ rfl (Nat.zero_add _) (Nat.zero_add _))

theorem read_all512 (a : Vec Ideal S2x256x512 .bf16) (b : Fin 2) (i : Fin 256) (n : Fin 512) :
    (nrM.access (rAll512 b)).read (Elt Ideal) a (ix3 0 i n) = a (ix3 b i n) :=
  congrArg a (at3 _ _ _ _ _ _ _ _ rfl (Nat.zero_add _) (Nat.zero_add _))

theorem read_blk (a : Vec Ideal S2x256x576 .f32) (d : Dev nD) (b : Fin 2) (i : Fin 32) (n : Fin 576) (r : Fin 256) (hr : blkN d + i.val = r.val) :
    (accM.access (rBlk d b)).read (Elt Ideal) a (ix3 0 i n) = a (ix3 b r n) :=
  congrArg a (at3 _ _ _ _ _ _ _ _ rfl hr (Nat.zero_add _))

theorem read_seg (a : Vec Ideal S2x256x576 .f32) (d : Dev nD) (b : Fin 2) (i : Fin 8) (n : Fin 576) (r : Fin 256) (hr : segN d + i.val = r.val) :
    (accM.access (rSeg d b)).read (Elt Ideal) a (ix3 0 i n) = a (ix3 b r n) :=
  congrArg a (at3 _ _ _ _ _ _ _ _ rfl hr (Nat.zero_add _))

theorem read_segO (a : Vec Ideal S2x256x576 .f32) (d : Dev nD) (b : Fin 2) (h : Fin 8) (i : Fin 8) (e : Fin 64) (r : Fin 256)
    (hr : segN d + i.val = r.val) :
    (accM.access (rSegO d b h)).read (Elt Ideal) a (ix3 0 i e) = a (ix3 b r ⟨72 * h.val + e.val, by omega⟩) :=
  congrArg a (at3 _ _ _ _ _ _ _ _ rfl hr rfl)

theorem read_segL (a : Vec Ideal S2x256x576 .f32) (d : Dev nD) (b : Fin 2) (h : Fin 8) (i : Fin 8) (r : Fin 256)
    (hr : segN d + i.val = r.val) :
    (accM.access (rSegL d b h)).read (Elt Ideal) a (ix3 0 i 0) = a (ix3 b r ⟨72 * h.val + 64, by omega⟩) :=
  congrArg a (at3 _ _ _ _ _ _ _ _ rfl hr rfl)

theorem read_r1 (a : Vec Ideal S2x8x32x576 .bf16) (b : Fin 2) (j : Fin 7) (i : Fin 32) (n : Fin 576) :
    (r1M.access (rR1 b j)).read (Elt Ideal) a (ix4 0 0 i n) = a (ix4 b j.succ i n) :=
  congrArg a (at4 _ _ _ _ _ _ _ _ _ _ rfl (by show 1 + j.val + 0 = j.val + 1; omega) (Nat.zero_add _) (Nat.zero_add _))

theorem read_r2 (a : Vec Ideal S2x4x8x576 .bf16) (b : Fin 2) (j : Fin 3) (i : Fin 8) (n : Fin 576) :
    (r2M.access (rR2 b j)).read (Elt Ideal) a (ix4 0 0 i n) = a (ix4 b j.succ i n) :=
  congrArg a (at4 _ _ _ _ _ _ _ _ _ _ rfl (by show 1 + j.val + 0 = j.val + 1; omega) (Nat.zero_add _) (Nat.zero_add _))

/-! ## The sums over the devices -/

variable (I : Dev nD → Inp Ideal)

/-- One head of the accumulator over a device's own keys. -/
theorem A0_at (d : Dev nD) (b : Fin 2) (i : Fin 256) (h : Fin 8) (e : Fin 72) (n : Fin 576) (hn : n.val = 72 * h.val + e.val) :
    A0 I d (ix3 b i n) = ∑ j : Fin 512, Ideal.exp2 (∑ t : Fin 64, Qc I d (ix3 b i ⟨h.val * 64 + t.val, by omega⟩) * (I d).k (ix4 b j (grp h) t))
      * (if he : e.val < 64 then (I d).v (ix4 b j (grp h) ⟨e.val, he⟩) else if e.val - 64 = 0 then 1 else 0) := by
  have e1 : (⟨n.val / 72, by omega⟩ : Fin 8) = h := Fin.ext (by show n.val / 72 = h.val; omega)
  have e2 : (⟨n.val % 72, by omega⟩ : Fin 72) = e := Fin.ext (by show n.val % 72 = e.val; omega)
  have h0 : A0 I d (ix3 b i n) = headC I d b ⟨n.val / 72, by omega⟩ (ix3 0 i ⟨n.val % 72, by omega⟩) := by
    rw [ix3_eq_valueIdx, ix3_eq_valueIdx]; rfl
  rw [h0, e1, e2, headC, pay7_at]
  simp only [read_k, read_v, read_q, pay3_at]

theorem S1_at (d : Dev nD) (b : Fin 2) (i : Fin 256) (n : Fin 576) : S1 I d (ix3 b i n) = A0 I d (ix3 b i n) := by
  have h0 : S1 I d (ix3 b i n) = k0_pay20 ((accM.access (rAll576 b)).read (Elt Ideal) (A0 I d)) (ix3 0 i n) := by
    rw [ix3_eq_valueIdx, ix3_eq_valueIdx]; rfl
  rw [h0, pay20_at, read_all576]

theorem R1_at (d : Dev nD) (b : Fin 2) (s : Fin 8) (i : Fin 32) (n : Fin 576) (r : Fin 256) (hr : blkN d + i.val = r.val) :
    R1 I d (ix4 b s i n) = A0 I (fromLo d s) (ix3 b r n) := by
  have e : (⟨blkN d + i.val, by omega⟩ : Fin 256) = r := Fin.ext hr
  rw [← S1_at, ← e, ix4_eq_valueIdx, ix3_eq_valueIdx]; rfl

theorem sum1_at (d : Dev nD) (c : Fin 2) (i : Fin 32) (n : Fin 576) (r : Fin 256) (hr : blkN d + i.val = r.val) :
    sum1 I d c (ix3 0 i n) = ∑ s : Fin 8, A0 I (fromLo d s) (ix3 c r n) := by
  refine (pay38_at _ (fun j => (r1M.access (rR1 c j)).read (Elt Ideal) (R1 I d)) i n).trans ?_
  rw [Fin.sum_univ_succ (fun s : Fin 8 => A0 I (fromLo d s) (ix3 c r n)), read_blk _ d c i n r hr]
  refine congrArg₂ (· + ·) rfl (Finset.sum_congr rfl fun j _ => ?_)
  rw [read_r1, R1_at I d c j.succ i n r hr]

theorem A1_at (d : Dev nD) (c : Fin 2) (n : Fin 576) (r : Fin 256) (hr : blkN d ≤ r.val ∧ r.val < blkN d + 32) :
    A1 I d (ix3 c r n) = ∑ s : Fin 8, A0 I (fromLo d s) (ix3 c r n) := by
  rw [← sum1_at I d c ⟨r.val - blkN d, by omega⟩ n r (by show blkN d + (r.val - blkN d) = r.val; omega), ix3_eq_valueIdx, ix3_eq_valueIdx]
  exact dif_pos hr

theorem S2_at (d : Dev nD) (c : Fin 2) (i : Fin 256) (n : Fin 576) (hi : i.val < 32) (r : Fin 256) (hr : blkN d + i.val = r.val) :
    S2 I d (ix3 c i n) = ∑ s : Fin 8, A0 I (fromLo d s) (ix3 c r n) := by
  have h0 : S2 I d (ix3 c i n) = k0_pay43 ((accM.access (rBlk d c)).read (Elt Ideal) (A1 I d)) (ix3 0 (⟨i.val, hi⟩ : Fin 32) n) := by
    rw [ix3_eq_valueIdx, ix3_eq_valueIdx]; exact dif_pos hi
  rw [h0, pay43_at, read_blk _ d c ⟨i.val, hi⟩ n r hr, A1_at I d c n r (by omega)]

theorem blkN_fromHi : ∀ (d : Dev nD) (s : Fin 4), blkN (fromHi d s) = blkN d := by decide +kernel
theorem segN_split : ∀ d : Dev nD, segN d = blkN d + hiN d ∧ hiN d + 8 ≤ 32 := by decide +kernel

theorem R2_at (d : Dev nD) (c : Fin 2) (s : Fin 4) (i : Fin 8) (n : Fin 576) (r : Fin 256) (hr : segN d + i.val = r.val) :
    R2 I d (ix4 c s i n) = ∑ s' : Fin 8, A0 I (fromLo (fromHi d s) s') (ix3 c r n) := by
  obtain ⟨h1, h2⟩ := segN_split d
  rw [← S2_at I (fromHi d s) c ⟨hiN d + i.val, by omega⟩ n (by show hiN d + i.val < 32; omega) r
    (by rw [blkN_fromHi]; show blkN d + (hiN d + i.val) = r.val; omega), ix4_eq_valueIdx, ix3_eq_valueIdx]
  rfl

/-- Going to a low and then a high partner reaches each device once. -/
theorem reach : ∀ d : Dev nD, Function.Bijective fun p : Fin 4 × Fin 8 => fromLo (fromHi d p.1) p.2 := by
  have h : ∀ d : Dev nD, Function.Injective fun p : Fin 4 × Fin 8 => fromLo (fromHi d p.1) p.2 := by decide +kernel
  exact fun d => (Fintype.bijective_iff_injective_and_card _).2 ⟨h d, by decide⟩

theorem sum2_at (d : Dev nD) (c : Fin 2) (i : Fin 8) (n : Fin 576) (r : Fin 256) (hr : segN d + i.val = r.val) :
    sum2 I d c (ix3 0 i n) = ∑ d' : Dev nD, A0 I d' (ix3 c r n) := by
  obtain ⟨h1, h2⟩ := segN_split d
  refine (pay44_at _ (fun j => (r2M.access (rR2 c j)).read (Elt Ideal) (R2 I d)) i n).trans ?_
  have hs : ∑ d' : Dev nD, A0 I d' (ix3 c r n) = ∑ s : Fin 4, ∑ s' : Fin 8, A0 I (fromLo (fromHi d s) s') (ix3 c r n) := by
    rw [← Fintype.sum_prod_type' (f := fun (s : Fin 4) (s' : Fin 8) => A0 I (fromLo (fromHi d s) s') (ix3 c r n))]
    exact ((reach d).sum_comp fun d' => A0 I d' (ix3 c r n)).symm
  rw [hs, Fin.sum_univ_succ (fun s : Fin 4 => ∑ s' : Fin 8, A0 I (fromLo (fromHi d s) s') (ix3 c r n)), read_seg _ d c i n r hr, A1_at I d c n r (by omega)]
  refine congrArg₂ (· + ·) rfl (Finset.sum_congr rfl fun j _ => ?_)
  rw [read_r2, R2_at I d c j.succ i n r hr]

theorem A2_at (d : Dev nD) (c : Fin 2) (n : Fin 576) (r : Fin 256) (hr : segN d ≤ r.val ∧ r.val < segN d + 8) :
    A2 I d (ix3 c r n) = ∑ d' : Dev nD, A0 I d' (ix3 c r n) := by
  rw [← sum2_at I d c ⟨r.val - segN d, by omega⟩ n r (by show segN d + (r.val - segN d) = r.val; omega), ix3_eq_valueIdx, ix3_eq_valueIdx]
  exact dif_pos hr

theorem owner_seg (r : Fin 256) : segN (owner r) + r.val % 8 = r.val := by
  have h : ∀ r : Fin 256, segN (owner r) + r.val % 8 = r.val := by decide +kernel
  exact h r

/-- The attention output: a quotient of sums over all devices. -/
theorem G_at (b : Fin 2) (i : Fin 256) (h : Fin 8) (e : Fin 64) (n : Fin 512) (hn : n.val = h.val * 64 + e.val) :
    G I (ix3 b i n) = Ideal.div (∑ d : Dev nD, A0 I d (ix3 b i ⟨72 * h.val + e.val, by omega⟩)) (∑ d : Dev nD, A0 I d (ix3 b i ⟨72 * h.val + 64, by omega⟩)) := by
  have e1 : (⟨n.val / 64, by omega⟩ : Fin 8) = h := Fin.ext (by show n.val / 64 = h.val; omega)
  have e2 : (⟨n.val % 64, by omega⟩ : Fin 64) = e := Fin.ext (by show n.val % 64 = e.val; omega)
  have h0 : G I (ix3 b i n) = normC I (owner i) b ⟨n.val / 64, by omega⟩ (ix3 0 (⟨i.val % 8, by omega⟩ : Fin 8) ⟨n.val % 64, by omega⟩) := by
    rw [ix3_eq_valueIdx, ix3_eq_valueIdx]; rfl
  have ho := owner_seg i
  rw [h0, e1, e2, normC, pay47_at, read_segO _ _ _ _ _ _ i ho, read_segL _ _ _ _ _ i ho, A2_at I _ _ _ _ (by omega), A2_at I _ _ _ _ (by omega)]

theorem Out_at (d : Dev nD) (b : Fin 2) (i : Fin 256) (o : Fin 768) :
    Out I d (ix3 b i o) = ∑ n : Fin 512, G I (ix3 b i n) * (I d).wo (ix2 n o) := by
  have h0 : Out I d (ix3 b i o) = k0_pay1 (k0_pay4 (I d).wo) ((nrM.access (rAll512 b)).read (Elt Ideal) (G I)) (ix3 0 i o) := by
    rw [ix3_eq_valueIdx, ix3_eq_valueIdx]; rfl
  rw [h0, pay1_at]
  simp only [read_all512]

end Cert.KernelIdeal.Ring

end
-- ==== Proof.Reference.lean ====
/- The reference's stages over the extended reals, and what each holds at an index. -/
module

public import proofs.«01_k».proof.Proof.Gen.ReferenceIdeal.Run
public import Idealize.ShloMosaic.Lib.Pointwise

@[expose] public section

noncomputable section

namespace Cert.ReferenceIdeal.Whole

open Idealize.ShloMosaic Idealize.ShloMosaic.TcCoe Idealize.SL.Sem Cert.ReferenceIdeal.Gen

variable (x : FVec Ideal S2x256x768 .bf16) (wq : FVec Ideal S768x512 .bf16) (k v : FVec Ideal S2x16384x2x64 .bf16) (wo : FVec Ideal S512x768 .bf16)

/-- The queries, by heads. -/
def queries : FVec Ideal S2x256x8x64 .bf16 :=
  shapeCast S2x256x8x64 (truncf .bf16 (Host.dotGeneral dot_S2x256x768_S768x512_S2x256x512_2_0_01_1_n_n none x wq : FVec Ideal S2x256x512 .f32) bitsLt_bf16_f32) shapeCasts_S2x256x512_S2x256x8x64

/-- Keys or values, each head of theirs repeated for four heads of queries. -/
def repeated : FVec Ideal S2x16384x8x64 .bf16 :=
  shapeCast S2x16384x8x64 (broadcastInDim S2x16384x2x4x64 ![0, 1, 2, 4] bcast_S2x16384x2x64_S2x16384x2x4x64_0_1_2_4 k) shapeCasts_S2x16384x2x4x64_S2x16384x8x64

/-- The scores. -/
def scores : FVec Ideal S2x8x256x16384 .f32 :=
  mulf (extf .f32 (truncf .bf16 (Host.dotGeneral dot_S2x256x8x64_S2x16384x8x64_S2x8x256x16384_3_3_1_1_02_02 none (queries x wq) (repeated k) : FVec Ideal S2x8x256x16384 .f32) bitsLt_bf16_f32) bitsLt_bf16_f32)
    (broadcastInDim S2x8x256x16384 ![] bcast_S_S2x8x256x16384 (constant S_ .f32 0x3E000000#32))

/-- The greatest score of each row. -/
def greatest : FVec Ideal S2x8x256 .f32 :=
  Host.reduce FloatOps.maximumf (scores x wq k) (constant S_ .f32 0xFF800000#32) reducesTo_S2x8x256x16384_S2x8x256_d3 h_S_

/-- The weights. -/
def weights : FVec Ideal S2x8x256x16384 .f32 :=
  Host.exp (subf (scores x wq k) (broadcastInDim S2x8x256x16384 ![0, 1, 2, 3] bcast_S2x8x256x1_S2x8x256x16384_0_1_2_3
    (broadcastInDim S2x8x256x1 ![0, 1, 2] bcast_S2x8x256_S2x8x256x1_0_1_2 (greatest x wq k))))

/-- The attention, normalised. -/
def attention : FVec Ideal S2x256x512 .f32 :=
  shapeCast S2x256x512 (Host.divf
    (transpose S2x256x8x64 [0, 3, 1, 2] (Host.dotGeneral dot_S2x16384x8x64_S2x8x256x16384_S2x8x64x256_1_3_3_2_02_01 none (extf .f32 (repeated v) bitsLt_bf16_f32 : FVec Ideal S2x16384x8x64 .f32) (weights x wq k) : FVec Ideal S2x8x64x256 .f32) transposes_S2x8x64x256_S2x256x8x64_0_3_1_2)
    (broadcastInDim S2x256x8x64 ![0, 1, 2, 3] bcast_S2x256x8x1_S2x256x8x64_0_1_2_3 (transpose S2x256x8x1 [0, 2, 1, 3]
      (broadcastInDim S2x8x256x1 ![0, 1, 2] bcast_S2x8x256_S2x8x256x1_0_1_2 (Host.reduceAdd (weights x wq k) (constant S_ .f32 0x00000000#32) reducesTo_S2x8x256x16384_S2x8x256_d3 h_S_)) transposes_S2x8x256x1_S2x256x8x1_0_2_1_3)))
    shapeCasts_S2x256x8x64_S2x256x512

/-- The result. -/
def result : FVec Ideal S2x256x768 .f32 :=
  Host.dotGeneral dot_S2x256x512_S512x768_S2x256x768_2_0_01_1_n_n none (attention x wq k v) (extf .f32 wo bitsLt_bf16_f32 : FVec Ideal S512x768 .f32)

/-- The reference ends holding `result` of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

/-! ## At an index -/

theorem eighth : Ideal.ofBits .f32 0x3E000000#32 = ((1 / 8 : ℝ) : EReal) := by
  simp [Ideal.ofBits, Ideal.ieee, -EReal.coe_mul]; norm_num

theorem lowest : Ideal.ofBits .f32 0xFF800000#32 = ⊥ := by
  simp [Ideal.ofBits, Ideal.ieee]

theorem queries_at (b : Fin 2) (i : Fin 256) (h : Fin 8) (e : Fin 64) :
    queries x wq (ix4 b i h e) = ∑ a : Fin 768, x (ix3 b i a) * wq (ix2 a ⟨h.val * 64 + e.val, by omega⟩) := by
  pointwise [queries]

theorem repeated_at (b : Fin 2) (j : Fin 16384) (h : Fin 8) (e : Fin 64) :
    repeated k (ix4 b j h e) = k (ix4 b j ⟨h.val / 4, by omega⟩ e) := by
  pointwise [repeated]

theorem scores_at (b : Fin 2) (h : Fin 8) (i : Fin 256) (j : Fin 16384) :
    scores x wq k (ix4 b h i j) = (∑ e : Fin 64, queries x wq (ix4 b i h e) * repeated k (ix4 b j h e)) * ((1 / 8 : ℝ) : EReal) := by
  pointwise [scores]
  rw [eighth]

theorem greatest_at (b : Fin 2) (h : Fin 8) (i : Fin 256) :
    greatest x wq k (ix3 b h i) = Finset.univ.fold max ⊥ fun j : Fin 16384 => scores x wq k (ix4 b h i j) := by
  pointwise [greatest]
  rw [lowest]

theorem weights_at (b : Fin 2) (h : Fin 8) (i : Fin 256) (j : Fin 16384) :
    weights x wq k (ix4 b h i j) = Ideal.exp (scores x wq k (ix4 b h i j) - greatest x wq k (ix3 b h i)) := by
  pointwise [weights]

theorem attention_at (b : Fin 2) (i : Fin 256) (n : Fin 512) :
    attention x wq k v (ix3 b i n) = Ideal.div
      (∑ j : Fin 16384, repeated v (ix4 b j ⟨n.val / 64, by omega⟩ ⟨n.val % 64, by omega⟩) * weights x wq k (ix4 b ⟨n.val / 64, by omega⟩ i j))
      (∑ j : Fin 16384, weights x wq k (ix4 b ⟨n.val / 64, by omega⟩ i j)) := by
  pointwise [attention]

theorem result_at (b : Fin 2) (i : Fin 256) (o : Fin 768) :
    result x wq k v wo (ix3 b i o) = ∑ n : Fin 512, attention x wq k v (ix3 b i n) * wo (ix2 n o) := by
  pointwise [result]

end Cert.ReferenceIdeal.Whole

end
-- ==== Proof.Softmax.lean ====
/- Facts about the extended reals that the two programs' agreement rests on: a weighted mean does not change when every
   weight is multiplied by the same positive real, the greatest of finitely many reals is a real, and a sum over blocks
   is the sum over the whole. -/
module

public import Idealize.ShloMosaic.PureOps.Ideal

@[expose] public section

noncomputable section

namespace Cert.Softmax

open Idealize.ShloMosaic

variable {J : Type} [Fintype J]

theorem coe_total (f : J → ℝ) : ((∑ j, f j : ℝ) : EReal) = ∑ j, (f j : EReal) :=
  map_sum (⟨⟨fun r : ℝ => (r : EReal), EReal.coe_zero⟩, EReal.coe_add⟩ : ℝ →+ EReal) f Finset.univ

/-- A positive real distributes over any sum of extended reals. -/
theorem scale_total (a : ℝ) (ha : 0 ≤ a) (s : Finset J) (f : J → EReal) : (a : EReal) * ∑ j ∈ s, f j = ∑ j ∈ s, (a : EReal) * f j := by
  classical
  induction s using Finset.induction_on with
  | empty => simp
  | insert j s hj ih =>
    rw [Finset.sum_insert hj, Finset.sum_insert hj, ← ih]
    exact EReal.left_distrib_of_nonneg_of_ne_top (EReal.coe_nonneg.2 ha) (EReal.coe_ne_top a) _ _

/-- Subtracting the same real from every exponent does not change a weighted mean. -/
theorem mean_shift [Nonempty J] (t : J → ℝ) (v : J → EReal) (M : ℝ) :
    Ideal.div (∑ j, (Real.exp (t j) : EReal) * v j) (∑ j, (Real.exp (t j) : EReal) * 1)
      = Ideal.div (∑ j, v j * (Real.exp (t j - M) : EReal)) (∑ j, (Real.exp (t j - M) : EReal)) := by
  have ha : 0 < Real.exp (-M) := Real.exp_pos _
  have hL : 0 < ∑ j, Real.exp (t j) := Finset.sum_pos (fun j _ => Real.exp_pos _) Finset.univ_nonempty
  have he : ∀ j, Real.exp (t j - M) = Real.exp (-M) * Real.exp (t j) := fun j => by rw [← Real.exp_add]; congr 1; ring
  have h1 : ∑ j, v j * (Real.exp (t j - M) : EReal) = (Real.exp (-M) : EReal) * ∑ j, (Real.exp (t j) : EReal) * v j := by
    rw [scale_total _ ha.le]
    refine Finset.sum_congr rfl fun j _ => ?_
    rw [he, EReal.coe_mul, mul_comm (v j), mul_assoc]
  have h2 : ∑ j, (Real.exp (t j - M) : EReal) = ((Real.exp (-M) * ∑ j, Real.exp (t j) : ℝ) : EReal) := by
    rw [← coe_total, Finset.mul_sum]
    exact congrArg _ (Finset.sum_congr rfl fun j _ => he j)
  have h3 : ∑ j, (Real.exp (t j) : EReal) * 1 = ((∑ j, Real.exp (t j) : ℝ) : EReal) := by
    rw [coe_total]; exact Finset.sum_congr rfl fun j _ => mul_one _
  rw [h1, h2, h3]
  unfold Ideal.div
  rw [if_neg (by exact_mod_cast hL.ne'), if_neg (by exact_mod_cast (mul_pos ha hL).ne'), ← EReal.coe_inv, ← EReal.coe_inv, mul_inv, EReal.coe_mul]
  rw [mul_comm (Real.exp (-M) : EReal), mul_assoc, ← mul_assoc (Real.exp (-M) : EReal), ← EReal.coe_mul, mul_inv_cancel₀ ha.ne', EReal.coe_one, one_mul]

/-- The greatest of finitely many reals, folded from the least extended real, is a real. -/
theorem greatest_real [Nonempty J] (t : J → ℝ) : ∃ M : ℝ, Finset.univ.fold max (⊥ : EReal) (fun j => (t j : EReal)) = (M : EReal) := by
  obtain ⟨j, -, h⟩ := Finset.exists_mem_eq_sup (Finset.univ : Finset J) Finset.univ_nonempty fun j => (t j : EReal)
  exact ⟨t j, h⟩

theorem exp2_real (r : ℝ) : Ideal.exp2 (r : EReal) = (Real.exp (r * Real.log 2) : EReal) := by
  show ((Real.rpow 2 r : ℝ) : EReal) = _
  refine congrArg _ ?_
  show (2 : ℝ) ^ r = _
  rw [Real.rpow_def_of_pos two_pos, mul_comm]

/-- A sum over 32 blocks of 512 is the sum over all 16384. -/
theorem total_blocks {M : Type} [AddCommMonoid M] (f : Fin 16384 → M) :
    ∑ d : Fin 32, ∑ j : Fin 512, f ⟨d.val * 512 + j.val, by omega⟩ = ∑ j : Fin 16384, f j := by
  rw [← Fintype.sum_prod_type' (f := fun (d : Fin 32) (j : Fin 512) => f ⟨d.val * 512 + j.val, by omega⟩)]
  refine Fintype.sum_equiv (finProdFinEquiv : Fin 32 × Fin 512 ≃ Fin (32 * 512)) _ (fun j : Fin (32 * 512) => f j) fun p => congrArg f (Fin.ext ?_)
  show p.1.val * 512 + p.2.val = p.2.val + 512 * p.1.val
  omega

/-- What lies below positive infinity in absolute value is a real. -/
theorem real_of_abs_lt (x : EReal) (h : max x (-x) < ⊤) : ∃ r : ℝ, x = (r : EReal) := by
  have h1 : x ≠ ⊤ := fun e => by rw [e] at h; exact absurd (le_max_left _ _) (not_le.2 h)
  have h2 : x ≠ ⊥ := fun e => by rw [e] at h; exact absurd (le_max_right _ _) (not_le.2 h)
  exact ⟨x.toReal, (EReal.coe_toReal h1 h2).symm⟩

end Cert.Softmax

end
-- ==== Proof.Agree.lean ====
/- The kernel's result is the reference's, where the scores are computed from reals.

   Both are means of the values weighted by exponentials of the same real scores. The kernel takes the exponentials as
   they are and sums them device by device; the reference first subtracts the greatest score of the row. -/
module

public import proofs.«01_k».proof.Proof.Reads
public import proofs.«01_k».proof.Proof.Reference
public import proofs.«01_k».proof.Proof.Softmax

@[expose] public section

noncomputable section

namespace Cert.Agree

open Idealize.ShloMosaic Cert.KernelIdeal.Ring Cert.ReferenceIdeal.Whole Cert.Softmax

/-- The whole arrays, those the scores are computed from given as reals. -/
structure Given where
  x : (⟨3, ![2, 256, 768]⟩ : Shape).Idx → ℝ
  wq : (⟨2, ![768, 512]⟩ : Shape).Idx → ℝ
  k : (⟨4, ![2, 16384, 2, 64]⟩ : Shape).Idx → ℝ
  v : (⟨4, ![2, 16384, 2, 64]⟩ : Shape).Idx → EReal
  wo : (⟨2, ![512, 768]⟩ : Shape).Idx → EReal

variable (g : Given)

/-- The three real arrays as the reference takes them. -/
def Given.xE : FVec Ideal Cert.ReferenceIdeal.S2x256x768 .bf16 := fun i => (g.x i : EReal)
def Given.wqE : FVec Ideal Cert.ReferenceIdeal.S768x512 .bf16 := fun i => (g.wq i : EReal)
def Given.kE : FVec Ideal Cert.ReferenceIdeal.S2x16384x2x64 .bf16 := fun i => (g.k i : EReal)

/-- Where key `j` of device `d` lies in the whole sequence. -/
def place (d : Fin 32) (j : Fin 512) : Fin 16384 := ⟨d.val * 512 + j.val, by omega⟩

/-- The devices hold the whole arrays, the keys and values in blocks. -/
structure Held (I : Dev Cert.KernelIdeal.nD → Inp Ideal) : Prop where
  x : ∀ d b i a, (I d).x (ix3 b i a) = (g.x (ix3 b i a) : EReal)
  wq : ∀ d a n, (I d).wq (ix2 a n) = (g.wq (ix2 a n) : EReal)
  k : ∀ (d : Dev Cert.KernelIdeal.nD) b j h e, (I d).k (ix4 b j h e) = (g.k (ix4 b (place d j) h e) : EReal)
  v : ∀ (d : Dev Cert.KernelIdeal.nD) b j h e, (I d).v (ix4 b j h e) = g.v (ix4 b (place d j) h e)
  wo : ∀ d n o, (I d).wo (ix2 n o) = g.wo (ix2 n o)

/-- A query and a score, as reals. -/
def query (b : Fin 2) (i : Fin 256) (n : Fin 512) : ℝ := ∑ a : Fin 768, g.x (ix3 b i a) * g.wq (ix2 a n)
def score (b : Fin 2) (h : Fin 8) (i : Fin 256) (j : Fin 16384) : ℝ :=
  (∑ e : Fin 64, query g b i ⟨h.val * 64 + e.val, by omega⟩ * g.k (ix4 b j (grp h) e)) * (1 / 8)

/-! ## The reference -/

theorem ref_queries (b : Fin 2) (i : Fin 256) (h : Fin 8) (e : Fin 64) :
    queries g.xE g.wqE (ix4 b i h e) = (query g b i ⟨h.val * 64 + e.val, by omega⟩ : EReal) := by
  rw [queries_at, query, coe_total]
  exact Finset.sum_congr rfl fun a _ => (EReal.coe_mul _ _).symm

theorem ref_scores (b : Fin 2) (h : Fin 8) (i : Fin 256) (j : Fin 16384) :
    scores g.xE g.wqE g.kE (ix4 b h i j) = (score g b h i j : EReal) := by
  rw [scores_at, score, EReal.coe_mul, coe_total]
  refine congrArg₂ (· * ·) (Finset.sum_congr rfl fun e _ => ?_) rfl
  rw [ref_queries, repeated_at, EReal.coe_mul]
  rfl

/-- The weights, by the greatest score of the row. -/
theorem ref_weights (b : Fin 2) (h : Fin 8) (i : Fin 256) :
    ∃ M : ℝ, ∀ j : Fin 16384, weights g.xE g.wqE g.kE (ix4 b h i j) = (Real.exp (score g b h i j - M) : EReal) := by
  obtain ⟨M, hM⟩ := greatest_real fun j : Fin 16384 => score g b h i j
  refine ⟨M, fun j => ?_⟩
  rw [weights_at, greatest_at, ref_scores]
  simp only [ref_scores]
  rw [hM, ← EReal.coe_sub]
  rfl

/-! ## The kernel -/

variable {g} {I : Dev Cert.KernelIdeal.nD → Inp Ideal} (H : Held g I)
include H

theorem ker_queries (d : Dev Cert.KernelIdeal.nD) (b : Fin 2) (i : Fin 256) (n : Fin 512) :
    Qc I d (ix3 b i n) = (query g b i n * (8 * Real.log 2)⁻¹ : ℝ) := by
  rw [Qc, pay2_at, query, Finset.sum_mul, coe_total]
  refine Finset.sum_congr rfl fun a _ => ?_
  rw [H.x, H.wq, scale, ← EReal.coe_mul, ← EReal.coe_mul, mul_assoc]

theorem ker_weight (d : Dev Cert.KernelIdeal.nD) (b : Fin 2) (h : Fin 8) (i : Fin 256) (j : Fin 512) :
    Ideal.exp2 (∑ t : Fin 64, Qc I d (ix3 b i ⟨h.val * 64 + t.val, by omega⟩) * (I d).k (ix4 b j (grp h) t))
      = (Real.exp (score g b h i (place d j)) : EReal) := by
  have e : ∑ t : Fin 64, Qc I d (ix3 b i ⟨h.val * 64 + t.val, by omega⟩) * (I d).k (ix4 b j (grp h) t)
      = ((∑ t : Fin 64, query g b i ⟨h.val * 64 + t.val, by omega⟩ * (8 * Real.log 2)⁻¹ * g.k (ix4 b (place d j) (grp h) t) : ℝ) : EReal) := by
    rw [coe_total]
    refine Finset.sum_congr rfl fun t _ => ?_
    rw [ker_queries H, H.k, ← EReal.coe_mul]
  rw [e, exp2_real, score]
  refine congrArg (fun r : ℝ => (Real.exp r : EReal)) ?_
  have hl : Real.log 2 ≠ 0 := (Real.log_pos one_lt_two).ne'
  rw [Finset.sum_mul, Finset.sum_mul]
  refine Finset.sum_congr rfl fun t _ => ?_
  field_simp

/-- The accumulators of all devices, summed: over all the keys. -/
theorem ker_total (b : Fin 2) (i : Fin 256) (h : Fin 8) (e : Fin 72) (n : Fin 576) (hn : n.val = 72 * h.val + e.val) :
    ∑ d : Dev Cert.KernelIdeal.nD, A0 I d (ix3 b i n) = ∑ j : Fin 16384, (Real.exp (score g b h i j) : EReal)
      * (if he : e.val < 64 then g.v (ix4 b j (grp h) ⟨e.val, he⟩) else if e.val - 64 = 0 then 1 else 0) := by
  rw [← total_blocks]
  refine Finset.sum_congr rfl fun d _ => ?_
  rw [A0_at I d b i h e n hn]
  refine Finset.sum_congr rfl fun j _ => ?_
  rw [ker_weight H]
  simp only [H.v]
  rfl

theorem agree_attention (b : Fin 2) (i : Fin 256) (n : Fin 512) : G I (ix3 b i n) = attention g.xE g.wqE g.kE g.v (ix3 b i n) := by
  have hn : n.val = n.val / 64 * 64 + n.val % 64 := by omega
  obtain ⟨M, hM⟩ := ref_weights g b ⟨n.val / 64, by omega⟩ i
  rw [attention_at, G_at I b i ⟨n.val / 64, by omega⟩ ⟨n.val % 64, by omega⟩ n hn,
    ker_total H b i ⟨n.val / 64, by omega⟩ ⟨n.val % 64, by omega⟩ _ rfl, ker_total H b i ⟨n.val / 64, by omega⟩ ⟨64, by omega⟩ _ rfl]
  simp only [hM, repeated_at]
  have h64 : n.val % 64 < 64 := by omega
  simp only [h64, dif_pos]
  exact mean_shift (fun j => score g b ⟨n.val / 64, by omega⟩ i j) (fun j => g.v (ix4 b j ⟨n.val / 64 / 4, by omega⟩ ⟨n.val % 64, h64⟩)) M

/-- The two results are one. -/
theorem agree (d : Dev Cert.KernelIdeal.nD) : Out I d = result g.xE g.wqE g.kE g.v g.wo := by
  funext y
  obtain ⟨b, i, o, rfl⟩ : ∃ b i o, y = ix3 b i o := ⟨y 0, y 1, y 2, eq_ix3 y⟩
  rw [Out_at, result_at]
  refine Finset.sum_congr rfl fun n _ => ?_
  rw [agree_attention H, H.wo]

end Cert.Agree

end
-- ==== Proof.Finite.lean ====
/- What the precondition says: every element the scores are computed from is a real. -/
module

public import proofs.«01_k».proof.Pre_scores_finite_KernelIdeal
public import proofs.«01_k».proof.Proof.Softmax
public import Idealize.ShloMosaic.Lib.ReduceAll

@[expose] public section

noncomputable section

namespace Cert.Finite

open Idealize.ShloMosaic Cert.Pre_scores_finite_KernelIdeal Cert.Pre_scores_finite_KernelIdeal.Facts

instance : Subsingleton S_.Idx := ⟨fun a b => funext fun i => i.elim0⟩

theorem infinity : Ideal.ofBits .bf16 0x7F80#16 = ⊤ := by
  simp [Ideal.ofBits, Ideal.ieee]

/-- An array whose every element is below infinity in absolute value holds only reals. -/
theorem reals {s : Shape} {axes : List (Fin s.rank)} (a : FVec Ideal s .bf16) (hb : S_.BroadcastsInDim s (![] : Fin 0 → Fin s.rank)) (hr : s.ReducesTo axes S_)
    (hu : 0 < S_.numel) (j : S_.Idx)
    (h : Host.reduce IntOp.andi (cmpf .olt (Host.absf a) (broadcastInDim s ![] hb (constant S_ .bf16 0x7F80#16 : FVec Ideal S_ .bf16)))
      (constantI S_ 1 1#1) hr hu j = 1#1) (i : s.Idx) : ∃ r : ℝ, a i = (r : EReal) := by
  have h1 := Host.reduce_andi_all _ _ hr hu j h i
  have h2 : BitVec.ofBool (decide (max (a i) (-(a i)) < Ideal.ofBits .bf16 0x7F80#16)) = 1#1 := h1
  rw [infinity] at h2
  refine Softmax.real_of_abs_lt (a i) ?_
  by_contra hn
  rw [decide_eq_false hn] at h2
  exact absurd h2 (by decide)

/-- The precondition, element by element. -/
theorem of_pre [Facts] (x : FVec Ideal S2x256x768 .bf16) (wq : FVec Ideal S768x512 .bf16) (k v : FVec Ideal S2x512x2x64 .bf16) (wo : FVec Ideal S512x768 .bf16)
    (h : fn x wq k v wo = fun _ => 1#1) :
    (∀ i, ∃ r : ℝ, x i = (r : EReal)) ∧ (∀ i, ∃ r : ℝ, wq i = (r : EReal)) ∧ (∀ i, ∃ r : ℝ, k i = (r : EReal)) := by
  let o : S_.Idx := fun a => a.elim0
  have h0 := congrFun h o
  obtain ⟨h01, h2⟩ := IntOp.andi_eq_one.1 h0
  obtain ⟨hx, hw⟩ := IntOp.andi_eq_one.1 h01
  exact ⟨reals x bcast_S_S2x256x768 reducesTo_S2x256x768_S_d0_1_2 h_S_ o hx, reals wq bcast_S_S768x512 reducesTo_S768x512_S_d0_1 h_S_ o hw,
    reals k bcast_S_S2x512x2x64 reducesTo_S2x512x2x64_S_d0_1_2_3 h_S_ o h2⟩

end Cert.Finite

end
-- ==== Proof.Algebraic.lean ====
/- The kernel's result on every device is the reference's, from memories that hold the same arrays. -/
module

public import proofs.«01_k».proof.Defs
public import proofs.«01_k».proof.Proof.Run
public import proofs.«01_k».proof.Proof.Agree
public import proofs.«01_k».proof.Proof.Finite
public import proofs.«01_k».proof.Proof.Gen.Pre_scores_finite_KernelIdeal

@[expose] public section

noncomputable section

namespace Cert.Agree

open Idealize.ShloMosaic Idealize.SL.Sem Cert.KernelIdeal.Ring

/-- Where a device's element of the keys or values lies in the whole. -/
theorem block_at (d : Fin 32) (v : (⟨4, ![2, 16384, 2, 64]⟩ : Shape).Idx → EReal) (b : Fin 2) (j : Fin 512) (h : Fin 2) (e : Fin 64) :
    Layout.block ⟨4, ![2, 512, 2, 64]⟩ ⟨4, ![2, 16384, 2, 64]⟩ 1 32 d v (by decide) (ix4 b j h e) = v (ix4 b (place d j) h e) := by
  rw [Layout.block_apply]
  refine congrArg v (funext fun a => Fin.ext ?_)
  rw [Layout.Tiles.idx_val]
  match a with
  | 0 => rfl
  | 1 => rfl
  | 2 => rfl
  | 3 => rfl

/-- If every block holds only reals, so does the whole. -/
theorem whole_real (v : (⟨4, ![2, 16384, 2, 64]⟩ : Shape).Idx → EReal)
    (hv : ∀ (d : Fin 32) i, ∃ r : ℝ, Layout.block ⟨4, ![2, 512, 2, 64]⟩ ⟨4, ![2, 16384, 2, 64]⟩ 1 32 d v (by decide) i = (r : EReal))
    (i : (⟨4, ![2, 16384, 2, 64]⟩ : Shape).Idx) : ∃ r : ℝ, v i = (r : EReal) := by
  obtain ⟨b, j, h, e, rfl⟩ : ∃ b j h e, i = ix4 b j h e := ⟨i 0, i 1, i 2, i 3, eq_ix4 i⟩
  obtain ⟨r, hr⟩ := hv ⟨j.val / 512, by omega⟩ (ix4 b ⟨j.val % 512, by omega⟩ h e)
  rw [block_at] at hr
  have hj : place ⟨j.val / 512, by omega⟩ ⟨j.val % 512, by omega⟩ = j := Fin.ext (by show j.val / 512 * 512 + j.val % 512 = j.val; omega)
  exact ⟨r, by rw [← hr, hj]⟩

theorem algebraic : Cert.algebraic_KernelIdeal_ReferenceIdeal_pre_scores_finite_KernelIdeal := by
  intro m g m' g' pre same
  have fin := fun c => Cert.Finite.of_pre _ _ _ _ _ (pre c)
  have hx : ∀ i, ∃ r : ℝ, m' (((0 : Dev Cert.ReferenceIdeal.nD).tc : Thread Cert.ReferenceIdeal.nD Cert.ReferenceIdeal.τ).loc Cert.ReferenceIdeal.main_arg0) i = (r : EReal) :=
    fun i => by rw [← (same 0).1]; exact (fin 0).1 i
  have hw : ∀ i, ∃ r : ℝ, m' (((0 : Dev Cert.ReferenceIdeal.nD).tc : Thread Cert.ReferenceIdeal.nD Cert.ReferenceIdeal.τ).loc Cert.ReferenceIdeal.main_arg1) i = (r : EReal) :=
    fun i => by rw [← (same 0).2.1]; exact (fin 0).2.1 i
  have hk : ∀ i, ∃ r : ℝ, m' (((0 : Dev Cert.ReferenceIdeal.nD).tc : Thread Cert.ReferenceIdeal.nD Cert.ReferenceIdeal.τ).loc Cert.ReferenceIdeal.main_arg2) i = (r : EReal) :=
    whole_real _ fun d i => by rw [← (same d).2.2.1]; exact (fin d).2.2 i
  choose xr hxr using hx
  choose wr hwr using hw
  choose kr hkr using hk
  let G : Given := ⟨xr, wr, kr, m' (((0 : Dev Cert.ReferenceIdeal.nD).tc : Thread Cert.ReferenceIdeal.nD Cert.ReferenceIdeal.τ).loc Cert.ReferenceIdeal.main_arg3),
    m' (((0 : Dev Cert.ReferenceIdeal.nD).tc : Thread Cert.ReferenceIdeal.nD Cert.ReferenceIdeal.τ).loc Cert.ReferenceIdeal.main_arg4)⟩
  have held : Held G (inp m) := by
    refine ⟨fun d b i a => ?_, fun d a n => ?_, fun d b j h e => ?_, fun d b j h e => ?_, fun d n o => ?_⟩
    · exact (congrFun (same d).1 _).trans (hxr _)
    · exact (congrFun (same d).2.1 _).trans (hwr _)
    · exact (congrFun (same d).2.2.1 _).trans ((block_at d _ b j h e).trans (hkr _))
    · exact (congrFun (same d).2.2.2.1 _).trans (block_at d _ b j h e)
    · exact congrFun (same d).2.2.2.2 _
  have res : Cert.ReferenceIdeal.Whole.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      = Cert.ReferenceIdeal.Whole.result G.xE G.wqE G.kE G.v G.wo := by
    rw [show m' (((0 : Dev Cert.ReferenceIdeal.nD).tc : Thread Cert.ReferenceIdeal.nD Cert.ReferenceIdeal.τ).loc Cert.ReferenceIdeal.main_arg0) = G.xE from funext hxr,
      show m' (((0 : Dev Cert.ReferenceIdeal.nD).tc : Thread Cert.ReferenceIdeal.nD Cert.ReferenceIdeal.τ).loc Cert.ReferenceIdeal.main_arg1) = G.wqE from funext hwr,
      show m' (((0 : Dev Cert.ReferenceIdeal.nD).tc : Thread Cert.ReferenceIdeal.nD Cert.ReferenceIdeal.τ).loc Cert.ReferenceIdeal.main_arg2) = G.kE from funext hkr]
  refine ⟨Cert.ReferenceIdeal.Whole.result G.xE G.wqE G.kE G.v G.wo, ?_, ?_⟩
  · refine (θ_run Cert.KernelIdeal.defs _ _).mono (fun r h c => ?_) (run_kernel m g)
    obtain ⟨ho, h0, h1, h2, h3, h4, -⟩ := h c
    exact ⟨ho.trans (agree held c), h0, h1, h2, h3, h4⟩
  · refine (θ_run Cert.ReferenceIdeal.defs _ _).mono (fun r h => ?_) (Cert.ReferenceIdeal.Whole.run m' g')
    exact ⟨(h 0).1.trans res, (h 0).2⟩

end Cert.Agree

end
-- ==== Proof.lean ====
/- The claims, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The reference's frame: its run is read back operation by operation, and it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  Cert.KernelIdeal.Ring.frame_kernel, Cert.KernelIdeal.Ring.frame_ideal, fun m g _ => Cert.KernelIdeal.Ring.frame_ideal m g trivial,
  frame_reference, fun m g _ => frame_reference m g trivial, Cert.KernelIdeal.Ring.preserves, Cert.Agree.algebraic⟩

end Cert.Proof

end
